-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def Pre_Inproj (m : (ℓ : Loc Cert.Inproj.nD Cert.Inproj.τ Cert.Inproj.sig) → Buf (Elt Bits) ℓ) : Prop :=
  True

def Pre_InprojIdeal (m : (ℓ : Loc Cert.InprojIdeal.nD Cert.InprojIdeal.τ Cert.InprojIdeal.sig) → Buf (Elt Ideal) ℓ) : Prop :=
  True

def Pre_InprojRefIdeal (m : (ℓ : Loc Cert.InprojRefIdeal.nD Cert.InprojRefIdeal.τ Cert.InprojRefIdeal.sig) → Buf (Elt Ideal) ℓ) : Prop :=
  True

def Pre_Glu (m : (ℓ : Loc Cert.Glu.nD Cert.Glu.τ Cert.Glu.sig) → Buf (Elt Bits) ℓ) : Prop :=
  True

def Pre_GluIdeal (m : (ℓ : Loc Cert.GluIdeal.nD Cert.GluIdeal.τ Cert.GluIdeal.sig) → Buf (Elt Ideal) ℓ) : Prop :=
  True

def Pre_GluIdeal_glu_finite [hPre_glu_finite : Cert.Pre_glu_finite.Facts] (m : (ℓ : Loc Cert.GluIdeal.nD Cert.GluIdeal.τ Cert.GluIdeal.sig) → Buf (Elt Ideal) ℓ) : Prop :=
  ∀ c : Dev Cert.GluIdeal.nD,
    (Cert.Pre_glu_finite.fn (F := Ideal) (m ((c.tc : Thread Cert.GluIdeal.nD Cert.GluIdeal.τ).loc Cert.GluIdeal.main_arg0)) (m ((c.tc : Thread Cert.GluIdeal.nD Cert.GluIdeal.τ).loc Cert.GluIdeal.main_arg1)) (m ((c.tc : Thread Cert.GluIdeal.nD Cert.GluIdeal.τ).loc Cert.GluIdeal.main_arg2)) (m ((c.tc : Thread Cert.GluIdeal.nD Cert.GluIdeal.τ).loc Cert.GluIdeal.main_arg3))) = (fun _ => 1#1)

def Pre_GluRefIdeal (m : (ℓ : Loc Cert.GluRefIdeal.nD Cert.GluRefIdeal.τ Cert.GluRefIdeal.sig) → Buf (Elt Ideal) ℓ) : Prop :=
  True

def Pre_GluRefIdeal_glu_finite [hPre_glu_finite : Cert.Pre_glu_finite.Facts] (m : (ℓ : Loc Cert.GluRefIdeal.nD Cert.GluRefIdeal.τ Cert.GluRefIdeal.sig) → Buf (Elt Ideal) ℓ) : Prop :=
  ∀ c : Dev Cert.GluRefIdeal.nD,
    (Cert.Pre_glu_finite.fn (F := Ideal) (m ((c.tc : Thread Cert.GluRefIdeal.nD Cert.GluRefIdeal.τ).loc Cert.GluRefIdeal.main_arg0)) (m ((c.tc : Thread Cert.GluRefIdeal.nD Cert.GluRefIdeal.τ).loc Cert.GluRefIdeal.main_arg1)) (m ((c.tc : Thread Cert.GluRefIdeal.nD Cert.GluRefIdeal.τ).loc Cert.GluRefIdeal.main_arg2)) (m ((c.tc : Thread Cert.GluRefIdeal.nD Cert.GluRefIdeal.τ).loc Cert.GluRefIdeal.main_arg3))) = (fun _ => 1#1)

def Pre_Outproj (m : (ℓ : Loc Cert.Outproj.nD Cert.Outproj.τ Cert.Outproj.sig) → Buf (Elt Bits) ℓ) : Prop :=
  True

def Pre_OutprojIdeal (m : (ℓ : Loc Cert.OutprojIdeal.nD Cert.OutprojIdeal.τ Cert.OutprojIdeal.sig) → Buf (Elt Ideal) ℓ) : Prop :=
  True

def Pre_OutprojRefIdeal (m : (ℓ : Loc Cert.OutprojRefIdeal.nD Cert.OutprojRefIdeal.τ Cert.OutprojRefIdeal.sig) → Buf (Elt Ideal) ℓ) : Prop :=
  True

def Pre_Adaln (m : (ℓ : Loc Cert.Adaln.nD Cert.Adaln.τ Cert.Adaln.sig) → Buf (Elt Bits) ℓ) : Prop :=
  True

def Pre_AdalnIdeal (m : (ℓ : Loc Cert.AdalnIdeal.nD Cert.AdalnIdeal.τ Cert.AdalnIdeal.sig) → Buf (Elt Ideal) ℓ) : Prop :=
  True

def Pre_AdalnIdeal_adaln_finite [hPre_adaln_finite : Cert.Pre_adaln_finite.Facts] (m : (ℓ : Loc Cert.AdalnIdeal.nD Cert.AdalnIdeal.τ Cert.AdalnIdeal.sig) → Buf (Elt Ideal) ℓ) : Prop :=
  ∀ c : Dev Cert.AdalnIdeal.nD,
    (Cert.Pre_adaln_finite.fn (F := Ideal) (m ((c.tc : Thread Cert.AdalnIdeal.nD Cert.AdalnIdeal.τ).loc Cert.AdalnIdeal.main_arg0)) (m ((c.tc : Thread Cert.AdalnIdeal.nD Cert.AdalnIdeal.τ).loc Cert.AdalnIdeal.main_arg1)) (m ((c.tc : Thread Cert.AdalnIdeal.nD Cert.AdalnIdeal.τ).loc Cert.AdalnIdeal.main_arg2))) = (fun _ => 1#1)

def Pre_AdalnRefIdeal (m : (ℓ : Loc Cert.AdalnRefIdeal.nD Cert.AdalnRefIdeal.τ Cert.AdalnRefIdeal.sig) → Buf (Elt Ideal) ℓ) : Prop :=
  True

def Pre_AdalnRefIdeal_adaln_finite [hPre_adaln_finite : Cert.Pre_adaln_finite.Facts] (m : (ℓ : Loc Cert.AdalnRefIdeal.nD Cert.AdalnRefIdeal.τ Cert.AdalnRefIdeal.sig) → Buf (Elt Ideal) ℓ) : Prop :=
  ∀ c : Dev Cert.AdalnRefIdeal.nD,
    (Cert.Pre_adaln_finite.fn (F := Ideal) (m ((c.tc : Thread Cert.AdalnRefIdeal.nD Cert.AdalnRefIdeal.τ).loc Cert.AdalnRefIdeal.main_arg0)) (m ((c.tc : Thread Cert.AdalnRefIdeal.nD Cert.AdalnRefIdeal.τ).loc Cert.AdalnRefIdeal.main_arg1)) (m ((c.tc : Thread Cert.AdalnRefIdeal.nD Cert.AdalnRefIdeal.τ).loc Cert.AdalnRefIdeal.main_arg2))) = (fun _ => 1#1)

def Pre_Modulate (m : (ℓ : Loc Cert.Modulate.nD Cert.Modulate.τ Cert.Modulate.sig) → Buf (Elt Bits) ℓ) : Prop :=
  True

def Pre_ModulateIdeal (m : (ℓ : Loc Cert.ModulateIdeal.nD Cert.ModulateIdeal.τ Cert.ModulateIdeal.sig) → Buf (Elt Ideal) ℓ) : Prop :=
  True

def Pre_ModulateRefIdeal (m : (ℓ : Loc Cert.ModulateRefIdeal.nD Cert.ModulateRefIdeal.τ Cert.ModulateRefIdeal.sig) → Buf (Elt Ideal) ℓ) : Prop :=
  True

def Pre_Wcast (m : (ℓ : Loc Cert.Wcast.nD Cert.Wcast.τ Cert.Wcast.sig) → Buf (Elt Bits) ℓ) : Prop :=
  True

def Pre_WcastIdeal (m : (ℓ : Loc Cert.WcastIdeal.nD Cert.WcastIdeal.τ Cert.WcastIdeal.sig) → Buf (Elt Ideal) ℓ) : Prop :=
  True

def Pre_WcastRefIdeal (m : (ℓ : Loc Cert.WcastRefIdeal.nD Cert.WcastRefIdeal.τ Cert.WcastRefIdeal.sig) → Buf (Elt Ideal) ℓ) : Prop :=
  True

def Pre_S5prep (m : (ℓ : Loc Cert.S5prep.nD Cert.S5prep.τ Cert.S5prep.sig) → Buf (Elt Bits) ℓ) : Prop :=
  True

def Pre_S5prepIdeal (m : (ℓ : Loc Cert.S5prepIdeal.nD Cert.S5prepIdeal.τ Cert.S5prepIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Inproj [hInproj : Cert.Inproj.Facts] : Prop :=
  ∀ (m : (ℓ : Loc Cert.Inproj.nD Cert.Inproj.τ Cert.Inproj.sig) → Buf (Elt Bits) ℓ) (g : Dev Cert.Inproj.nD → PrngReg), Pre_Inproj m →
    θ_run (Cert.Inproj.defs (F := Bits)) (onTc (τ := Cert.Inproj.τ) (Cert.Inproj.main (F := Bits))) ⟨m, fun _ => 0, g⟩ (fun r => (∀ c : Dev Cert.Inproj.nD,
      r.2.mem ((c.tc : Thread Cert.Inproj.nD Cert.Inproj.τ).loc Cert.Inproj.main_arg0) = m ((c.tc : Thread Cert.Inproj.nD Cert.Inproj.τ).loc Cert.Inproj.main_arg0)
      ∧ r.2.mem ((c.tc : Thread Cert.Inproj.nD Cert.Inproj.τ).loc Cert.Inproj.main_arg1) = m ((c.tc : Thread Cert.Inproj.nD Cert.Inproj.τ).loc Cert.Inproj.main_arg1)
      ∧ r.2.mem ((c.tc : Thread Cert.Inproj.nD Cert.Inproj.τ).loc Cert.Inproj.main_arg2) = m ((c.tc : Thread Cert.Inproj.nD Cert.Inproj.τ).loc Cert.Inproj.main_arg2))
      ∧ r.2.sem = fun _ => 0)

def quiescent_InprojIdeal [hInprojIdeal : Cert.InprojIdeal.Facts] : Prop :=
  ∀ (m : (ℓ : Loc Cert.InprojIdeal.nD Cert.InprojIdeal.τ Cert.InprojIdeal.sig) → Buf (Elt Ideal) ℓ) (g : Dev Cert.InprojIdeal.nD → PrngReg), Pre_InprojIdeal m →
    θ_run (Cert.InprojIdeal.defs (F := Ideal)) (onTc (τ := Cert.InprojIdeal.τ) (Cert.InprojIdeal.main (F := Ideal))) ⟨m, fun _ => 0, g⟩ (fun r => (∀ c : Dev Cert.InprojIdeal.nD,
      r.2.mem ((c.tc : Thread Cert.InprojIdeal.nD Cert.InprojIdeal.τ).loc Cert.InprojIdeal.main_arg0) = m ((c.tc : Thread Cert.InprojIdeal.nD Cert.InprojIdeal.τ).loc Cert.InprojIdeal.main_arg0)
      ∧ r.2.mem ((c.tc : Thread Cert.InprojIdeal.nD Cert.InprojIdeal.τ).loc Cert.InprojIdeal.main_arg1) = m ((c.tc : Thread Cert.InprojIdeal.nD Cert.InprojIdeal.τ).loc Cert.InprojIdeal.main_arg1)
      ∧ r.2.mem ((c.tc : Thread Cert.InprojIdeal.nD Cert.InprojIdeal.τ).loc Cert.InprojIdeal.main_arg2) = m ((c.tc : Thread Cert.InprojIdeal.nD Cert.InprojIdeal.τ).loc Cert.InprojIdeal.main_arg2))
      ∧ r.2.sem = fun _ => 0)

def quiescent_InprojRefIdeal [hInprojRefIdeal : Cert.InprojRefIdeal.Facts] : Prop :=
  ∀ (m : (ℓ : Loc Cert.InprojRefIdeal.nD Cert.InprojRefIdeal.τ Cert.InprojRefIdeal.sig) → Buf (Elt Ideal) ℓ) (g : Dev Cert.InprojRefIdeal.nD → PrngReg), Pre_InprojRefIdeal m →
    θ_run (Cert.InprojRefIdeal.defs (F := Ideal)) (onTc (τ := Cert.InprojRefIdeal.τ) (Cert.InprojRefIdeal.main (F := Ideal))) ⟨m, fun _ => 0, g⟩ (fun r => (∀ c : Dev Cert.InprojRefIdeal.nD,
      r.2.mem ((c.tc : Thread Cert.InprojRefIdeal.nD Cert.InprojRefIdeal.τ).loc Cert.InprojRefIdeal.main_arg0) = m ((c.tc : Thread Cert.InprojRefIdeal.nD Cert.InprojRefIdeal.τ).loc Cert.InprojRefIdeal.main_arg0)
      ∧ r.2.mem ((c.tc : Thread Cert.InprojRefIdeal.nD Cert.InprojRefIdeal.τ).loc Cert.InprojRefIdeal.main_arg1) = m ((c.tc : Thread Cert.InprojRefIdeal.nD Cert.InprojRefIdeal.τ).loc Cert.InprojRefIdeal.main_arg1)
      ∧ r.2.mem ((c.tc : Thread Cert.InprojRefIdeal.nD Cert.InprojRefIdeal.τ).loc Cert.InprojRefIdeal.main_arg2) = m ((c.tc : Thread Cert.InprojRefIdeal.nD Cert.InprojRefIdeal.τ).loc Cert.InprojRefIdeal.main_arg2))
      ∧ r.2.sem = fun _ => 0)

def quiescent_Glu [hGlu : Cert.Glu.Facts] : Prop :=
  ∀ (m : (ℓ : Loc Cert.Glu.nD Cert.Glu.τ Cert.Glu.sig) → Buf (Elt Bits) ℓ) (g : Dev Cert.Glu.nD → PrngReg), Pre_Glu m →
    θ_run (Cert.Glu.defs (F := Bits)) (onTc (τ := Cert.Glu.τ) (Cert.Glu.main (F := Bits))) ⟨m, fun _ => 0, g⟩ (fun r => (∀ c : Dev Cert.Glu.nD,
      r.2.mem ((c.tc : Thread Cert.Glu.nD Cert.Glu.τ).loc Cert.Glu.main_arg0) = m ((c.tc : Thread Cert.Glu.nD Cert.Glu.τ).loc Cert.Glu.main_arg0)
      ∧ r.2.mem ((c.tc : Thread Cert.Glu.nD Cert.Glu.τ).loc Cert.Glu.main_arg1) = m ((c.tc : Thread Cert.Glu.nD Cert.Glu.τ).loc Cert.Glu.main_arg1)
      ∧ r.2.mem ((c.tc : Thread Cert.Glu.nD Cert.Glu.τ).loc Cert.Glu.main_arg2) = m ((c.tc : Thread Cert.Glu.nD Cert.Glu.τ).loc Cert.Glu.main_arg2)
      ∧ r.2.mem ((c.tc : Thread Cert.Glu.nD Cert.Glu.τ).loc Cert.Glu.main_arg3) = m ((c.tc : Thread Cert.Glu.nD Cert.Glu.τ).loc Cert.Glu.main_arg3))
      ∧ r.2.sem = fun _ => 0)

def quiescent_GluIdeal [hGluIdeal : Cert.GluIdeal.Facts] : Prop :=
  ∀ (m : (ℓ : Loc Cert.GluIdeal.nD Cert.GluIdeal.τ Cert.GluIdeal.sig) → Buf (Elt Ideal) ℓ) (g : Dev Cert.GluIdeal.nD → PrngReg), Pre_GluIdeal m →
    θ_run (Cert.GluIdeal.defs (F := Ideal)) (onTc (τ := Cert.GluIdeal.τ) (Cert.GluIdeal.main (F := Ideal))) ⟨m, fun _ => 0, g⟩ (fun r => (∀ c : Dev Cert.GluIdeal.nD,
      r.2.mem ((c.tc : Thread Cert.GluIdeal.nD Cert.GluIdeal.τ).loc Cert.GluIdeal.main_arg0) = m ((c.tc : Thread Cert.GluIdeal.nD Cert.GluIdeal.τ).loc Cert.GluIdeal.main_arg0)
      ∧ r.2.mem ((c.tc : Thread Cert.GluIdeal.nD Cert.GluIdeal.τ).loc Cert.GluIdeal.main_arg1) = m ((c.tc : Thread Cert.GluIdeal.nD Cert.GluIdeal.τ).loc Cert.GluIdeal.main_arg1)
      ∧ r.2.mem ((c.tc : Thread Cert.GluIdeal.nD Cert.GluIdeal.τ).loc Cert.GluIdeal.main_arg2) = m ((c.tc : Thread Cert.GluIdeal.nD Cert.GluIdeal.τ).loc Cert.GluIdeal.main_arg2)
      ∧ r.2.mem ((c.tc : Thread Cert.GluIdeal.nD Cert.GluIdeal.τ).loc Cert.GluIdeal.main_arg3) = m ((c.tc : Thread Cert.GluIdeal.nD Cert.GluIdeal.τ).loc Cert.GluIdeal.main_arg3))
      ∧ r.2.sem = fun _ => 0)

def quiescent_GluIdeal_pre_glu_finite [hGluIdeal : Cert.GluIdeal.Facts] [hPre_glu_finite : Cert.Pre_glu_finite.Facts] : Prop :=
  ∀ (m : (ℓ : Loc Cert.GluIdeal.nD Cert.GluIdeal.τ Cert.GluIdeal.sig) → Buf (Elt Ideal) ℓ) (g : Dev Cert.GluIdeal.nD → PrngReg), Pre_GluIdeal_glu_finite m →
    θ_run (Cert.GluIdeal.defs (F := Ideal)) (onTc (τ := Cert.GluIdeal.τ) (Cert.GluIdeal.main (F := Ideal))) ⟨m, fun _ => 0, g⟩ (fun r => (∀ c : Dev Cert.GluIdeal.nD,
      r.2.mem ((c.tc : Thread Cert.GluIdeal.nD Cert.GluIdeal.τ).loc Cert.GluIdeal.main_arg0) = m ((c.tc : Thread Cert.GluIdeal.nD Cert.GluIdeal.τ).loc Cert.GluIdeal.main_arg0)
      ∧ r.2.mem ((c.tc : Thread Cert.GluIdeal.nD Cert.GluIdeal.τ).loc Cert.GluIdeal.main_arg1) = m ((c.tc : Thread Cert.GluIdeal.nD Cert.GluIdeal.τ).loc Cert.GluIdeal.main_arg1)
      ∧ r.2.mem ((c.tc : Thread Cert.GluIdeal.nD Cert.GluIdeal.τ).loc Cert.GluIdeal.main_arg2) = m ((c.tc : Thread Cert.GluIdeal.nD Cert.GluIdeal.τ).loc Cert.GluIdeal.main_arg2)
      ∧ r.2.mem ((c.tc : Thread Cert.GluIdeal.nD Cert.GluIdeal.τ).loc Cert.GluIdeal.main_arg3) = m ((c.tc : Thread Cert.GluIdeal.nD Cert.GluIdeal.τ).loc Cert.GluIdeal.main_arg3))
      ∧ r.2.sem = fun _ => 0)

def quiescent_GluRefIdeal [hGluRefIdeal : Cert.GluRefIdeal.Facts] : Prop :=
  ∀ (m : (ℓ : Loc Cert.GluRefIdeal.nD Cert.GluRefIdeal.τ Cert.GluRefIdeal.sig) → Buf (Elt Ideal) ℓ) (g : Dev Cert.GluRefIdeal.nD → PrngReg), Pre_GluRefIdeal m →
    θ_run (Cert.GluRefIdeal.defs (F := Ideal)) (onTc (τ := Cert.GluRefIdeal.τ) (Cert.GluRefIdeal.main (F := Ideal))) ⟨m, fun _ => 0, g⟩ (fun r => (∀ c : Dev Cert.GluRefIdeal.nD,
      r.2.mem ((c.tc : Thread Cert.GluRefIdeal.nD Cert.GluRefIdeal.τ).loc Cert.GluRefIdeal.main_arg0) = m ((c.tc : Thread Cert.GluRefIdeal.nD Cert.GluRefIdeal.τ).loc Cert.GluRefIdeal.main_arg0)
      ∧ r.2.mem ((c.tc : Thread Cert.GluRefIdeal.nD Cert.GluRefIdeal.τ).loc Cert.GluRefIdeal.main_arg1) = m ((c.tc : Thread Cert.GluRefIdeal.nD Cert.GluRefIdeal.τ).loc Cert.GluRefIdeal.main_arg1)
      ∧ r.2.mem ((c.tc : Thread Cert.GluRefIdeal.nD Cert.GluRefIdeal.τ).loc Cert.GluRefIdeal.main_arg2) = m ((c.tc : Thread Cert.GluRefIdeal.nD Cert.GluRefIdeal.τ).loc Cert.GluRefIdeal.main_arg2)
      ∧ r.2.mem ((c.tc : Thread Cert.GluRefIdeal.nD Cert.GluRefIdeal.τ).loc Cert.GluRefIdeal.main_arg3) = m ((c.tc : Thread Cert.GluRefIdeal.nD Cert.GluRefIdeal.τ).loc Cert.GluRefIdeal.main_arg3))
      ∧ r.2.sem = fun _ => 0)

def quiescent_GluRefIdeal_pre_glu_finite [hGluRefIdeal : Cert.GluRefIdeal.Facts] [hPre_glu_finite : Cert.Pre_glu_finite.Facts] : Prop :=
  ∀ (m : (ℓ : Loc Cert.GluRefIdeal.nD Cert.GluRefIdeal.τ Cert.GluRefIdeal.sig) → Buf (Elt Ideal) ℓ) (g : Dev Cert.GluRefIdeal.nD → PrngReg), Pre_GluRefIdeal_glu_finite m →
    θ_run (Cert.GluRefIdeal.defs (F := Ideal)) (onTc (τ := Cert.GluRefIdeal.τ) (Cert.GluRefIdeal.main (F := Ideal))) ⟨m, fun _ => 0, g⟩ (fun r => (∀ c : Dev Cert.GluRefIdeal.nD,
      r.2.mem ((c.tc : Thread Cert.GluRefIdeal.nD Cert.GluRefIdeal.τ).loc Cert.GluRefIdeal.main_arg0) = m ((c.tc : Thread Cert.GluRefIdeal.nD Cert.GluRefIdeal.τ).loc Cert.GluRefIdeal.main_arg0)
      ∧ r.2.mem ((c.tc : Thread Cert.GluRefIdeal.nD Cert.GluRefIdeal.τ).loc Cert.GluRefIdeal.main_arg1) = m ((c.tc : Thread Cert.GluRefIdeal.nD Cert.GluRefIdeal.τ).loc Cert.GluRefIdeal.main_arg1)
      ∧ r.2.mem ((c.tc : Thread Cert.GluRefIdeal.nD Cert.GluRefIdeal.τ).loc Cert.GluRefIdeal.main_arg2) = m ((c.tc : Thread Cert.GluRefIdeal.nD Cert.GluRefIdeal.τ).loc Cert.GluRefIdeal.main_arg2)
      ∧ r.2.mem ((c.tc : Thread Cert.GluRefIdeal.nD Cert.GluRefIdeal.τ).loc Cert.GluRefIdeal.main_arg3) = m ((c.tc : Thread Cert.GluRefIdeal.nD Cert.GluRefIdeal.τ).loc Cert.GluRefIdeal.main_arg3))
      ∧ r.2.sem = fun _ => 0)

def quiescent_Outproj [hOutproj : Cert.Outproj.Facts] : Prop :=
  ∀ (m : (ℓ : Loc Cert.Outproj.nD Cert.Outproj.τ Cert.Outproj.sig) → Buf (Elt Bits) ℓ) (g : Dev Cert.Outproj.nD → PrngReg), Pre_Outproj m →
    θ_run (Cert.Outproj.defs (F := Bits)) (onTc (τ := Cert.Outproj.τ) (Cert.Outproj.main (F := Bits))) ⟨m, fun _ => 0, g⟩ (fun r => (∀ c : Dev Cert.Outproj.nD,
      r.2.mem ((c.tc : Thread Cert.Outproj.nD Cert.Outproj.τ).loc Cert.Outproj.main_arg0) = m ((c.tc : Thread Cert.Outproj.nD Cert.Outproj.τ).loc Cert.Outproj.main_arg0)
      ∧ r.2.mem ((c.tc : Thread Cert.Outproj.nD Cert.Outproj.τ).loc Cert.Outproj.main_arg1) = m ((c.tc : Thread Cert.Outproj.nD Cert.Outproj.τ).loc Cert.Outproj.main_arg1)
      ∧ r.2.mem ((c.tc : Thread Cert.Outproj.nD Cert.Outproj.τ).loc Cert.Outproj.main_arg2) = m ((c.tc : Thread Cert.Outproj.nD Cert.Outproj.τ).loc Cert.Outproj.main_arg2)
      ∧ r.2.mem ((c.tc : Thread Cert.Outproj.nD Cert.Outproj.τ).loc Cert.Outproj.main_arg3) = m ((c.tc : Thread Cert.Outproj.nD Cert.Outproj.τ).loc Cert.Outproj.main_arg3)
      ∧ r.2.mem ((c.tc : Thread Cert.Outproj.nD Cert.Outproj.τ).loc Cert.Outproj.main_arg4) = m ((c.tc : Thread Cert.Outproj.nD Cert.Outproj.τ).loc Cert.Outproj.main_arg4)
      ∧ r.2.mem ((c.tc : Thread Cert.Outproj.nD Cert.Outproj.τ).loc Cert.Outproj.main_arg5) = m ((c.tc : Thread Cert.Outproj.nD Cert.Outproj.τ).loc Cert.Outproj.main_arg5)
      ∧ r.2.mem ((c.tc : Thread Cert.Outproj.nD Cert.Outproj.τ).loc Cert.Outproj.main_arg6) = m ((c.tc : Thread Cert.Outproj.nD Cert.Outproj.τ).loc Cert.Outproj.main_arg6))
      ∧ r.2.sem = fun _ => 0)

def quiescent_OutprojIdeal [hOutprojIdeal : Cert.OutprojIdeal.Facts] : Prop :=
  ∀ (m : (ℓ : Loc Cert.OutprojIdeal.nD Cert.OutprojIdeal.τ Cert.OutprojIdeal.sig) → Buf (Elt Ideal) ℓ) (g : Dev Cert.OutprojIdeal.nD → PrngReg), Pre_OutprojIdeal m →
    θ_run (Cert.OutprojIdeal.defs (F := Ideal)) (onTc (τ := Cert.OutprojIdeal.τ) (Cert.OutprojIdeal.main (F := Ideal))) ⟨m, fun _ => 0, g⟩ (fun r => (∀ c : Dev Cert.OutprojIdeal.nD,
      r.2.mem ((c.tc : Thread Cert.OutprojIdeal.nD Cert.OutprojIdeal.τ).loc Cert.OutprojIdeal.main_arg0) = m ((c.tc : Thread Cert.OutprojIdeal.nD Cert.OutprojIdeal.τ).loc Cert.OutprojIdeal.main_arg0)
      ∧ r.2.mem ((c.tc : Thread Cert.OutprojIdeal.nD Cert.OutprojIdeal.τ).loc Cert.OutprojIdeal.main_arg1) = m ((c.tc : Thread Cert.OutprojIdeal.nD Cert.OutprojIdeal.τ).loc Cert.OutprojIdeal.main_arg1)
      ∧ r.2.mem ((c.tc : Thread Cert.OutprojIdeal.nD Cert.OutprojIdeal.τ).loc Cert.OutprojIdeal.main_arg2) = m ((c.tc : Thread Cert.OutprojIdeal.nD Cert.OutprojIdeal.τ).loc Cert.OutprojIdeal.main_arg2)
      ∧ r.2.mem ((c.tc : Thread Cert.OutprojIdeal.nD Cert.OutprojIdeal.τ).loc Cert.OutprojIdeal.main_arg3) = m ((c.tc : Thread Cert.OutprojIdeal.nD Cert.OutprojIdeal.τ).loc Cert.OutprojIdeal.main_arg3)
      ∧ r.2.mem ((c.tc : Thread Cert.OutprojIdeal.nD Cert.OutprojIdeal.τ).loc Cert.OutprojIdeal.main_arg4) = m ((c.tc : Thread Cert.OutprojIdeal.nD Cert.OutprojIdeal.τ).loc Cert.OutprojIdeal.main_arg4)
      ∧ r.2.mem ((c.tc : Thread Cert.OutprojIdeal.nD Cert.OutprojIdeal.τ).loc Cert.OutprojIdeal.main_arg5) = m ((c.tc : Thread Cert.OutprojIdeal.nD Cert.OutprojIdeal.τ).loc Cert.OutprojIdeal.main_arg5)
      ∧ r.2.mem ((c.tc : Thread Cert.OutprojIdeal.nD Cert.OutprojIdeal.τ).loc Cert.OutprojIdeal.main_arg6) = m ((c.tc : Thread Cert.OutprojIdeal.nD Cert.OutprojIdeal.τ).loc Cert.OutprojIdeal.main_arg6))
      ∧ r.2.sem = fun _ => 0)

def quiescent_OutprojRefIdeal [hOutprojRefIdeal : Cert.OutprojRefIdeal.Facts] : Prop :=
  ∀ (m : (ℓ : Loc Cert.OutprojRefIdeal.nD Cert.OutprojRefIdeal.τ Cert.OutprojRefIdeal.sig) → Buf (Elt Ideal) ℓ) (g : Dev Cert.OutprojRefIdeal.nD → PrngReg), Pre_OutprojRefIdeal m →
    θ_run (Cert.OutprojRefIdeal.defs (F := Ideal)) (onTc (τ := Cert.OutprojRefIdeal.τ) (Cert.OutprojRefIdeal.main (F := Ideal))) ⟨m, fun _ => 0, g⟩ (fun r => (∀ c : Dev Cert.OutprojRefIdeal.nD,
      r.2.mem ((c.tc : Thread Cert.OutprojRefIdeal.nD Cert.OutprojRefIdeal.τ).loc Cert.OutprojRefIdeal.main_arg0) = m ((c.tc : Thread Cert.OutprojRefIdeal.nD Cert.OutprojRefIdeal.τ).loc Cert.OutprojRefIdeal.main_arg0)
      ∧ r.2.mem ((c.tc : Thread Cert.OutprojRefIdeal.nD Cert.OutprojRefIdeal.τ).loc Cert.OutprojRefIdeal.main_arg1) = m ((c.tc : Thread Cert.OutprojRefIdeal.nD Cert.OutprojRefIdeal.τ).loc Cert.OutprojRefIdeal.main_arg1)
      ∧ r.2.mem ((c.tc : Thread Cert.OutprojRefIdeal.nD Cert.OutprojRefIdeal.τ).loc Cert.OutprojRefIdeal.main_arg2) = m ((c.tc : Thread Cert.OutprojRefIdeal.nD Cert.OutprojRefIdeal.τ).loc Cert.OutprojRefIdeal.main_arg2)
      ∧ r.2.mem ((c.tc : Thread Cert.OutprojRefIdeal.nD Cert.OutprojRefIdeal.τ).loc Cert.OutprojRefIdeal.main_arg3) = m ((c.tc : Thread Cert.OutprojRefIdeal.nD Cert.OutprojRefIdeal.τ).loc Cert.OutprojRefIdeal.main_arg3)
      ∧ r.2.mem ((c.tc : Thread Cert.OutprojRefIdeal.nD Cert.OutprojRefIdeal.τ).loc Cert.OutprojRefIdeal.main_arg4) = m ((c.tc : Thread Cert.OutprojRefIdeal.nD Cert.OutprojRefIdeal.τ).loc Cert.OutprojRefIdeal.main_arg4)
      ∧ r.2.mem ((c.tc : Thread Cert.OutprojRefIdeal.nD Cert.OutprojRefIdeal.τ).loc Cert.OutprojRefIdeal.main_arg5) = m ((c.tc : Thread Cert.OutprojRefIdeal.nD Cert.OutprojRefIdeal.τ).loc Cert.OutprojRefIdeal.main_arg5)
      ∧ r.2.mem ((c.tc : Thread Cert.OutprojRefIdeal.nD Cert.OutprojRefIdeal.τ).loc Cert.OutprojRefIdeal.main_arg6) = m ((c.tc : Thread Cert.OutprojRefIdeal.nD Cert.OutprojRefIdeal.τ).loc Cert.OutprojRefIdeal.main_arg6))
      ∧ r.2.sem = fun _ => 0)

def quiescent_Adaln [hAdaln : Cert.Adaln.Facts] : Prop :=
  ∀ (m : (ℓ : Loc Cert.Adaln.nD Cert.Adaln.τ Cert.Adaln.sig) → Buf (Elt Bits) ℓ) (g : Dev Cert.Adaln.nD → PrngReg), Pre_Adaln m →
    θ_run (Cert.Adaln.defs (F := Bits)) (onTc (τ := Cert.Adaln.τ) (Cert.Adaln.main (F := Bits))) ⟨m, fun _ => 0, g⟩ (fun r => (∀ c : Dev Cert.Adaln.nD,
      r.2.mem ((c.tc : Thread Cert.Adaln.nD Cert.Adaln.τ).loc Cert.Adaln.main_arg0) = m ((c.tc : Thread Cert.Adaln.nD Cert.Adaln.τ).loc Cert.Adaln.main_arg0)
      ∧ r.2.mem ((c.tc : Thread Cert.Adaln.nD Cert.Adaln.τ).loc Cert.Adaln.main_arg1) = m ((c.tc : Thread Cert.Adaln.nD Cert.Adaln.τ).loc Cert.Adaln.main_arg1)
      ∧ r.2.mem ((c.tc : Thread Cert.Adaln.nD Cert.Adaln.τ).loc Cert.Adaln.main_arg2) = m ((c.tc : Thread Cert.Adaln.nD Cert.Adaln.τ).loc Cert.Adaln.main_arg2))
      ∧ r.2.sem = fun _ => 0)

def quiescent_AdalnIdeal [hAdalnIdeal : Cert.AdalnIdeal.Facts] : Prop :=
  ∀ (m : (ℓ : Loc Cert.AdalnIdeal.nD Cert.AdalnIdeal.τ Cert.AdalnIdeal.sig) → Buf (Elt Ideal) ℓ) (g : Dev Cert.AdalnIdeal.nD → PrngReg), Pre_AdalnIdeal m →
    θ_run (Cert.AdalnIdeal.defs (F := Ideal)) (onTc (τ := Cert.AdalnIdeal.τ) (Cert.AdalnIdeal.main (F := Ideal))) ⟨m, fun _ => 0, g⟩ (fun r => (∀ c : Dev Cert.AdalnIdeal.nD,
      r.2.mem ((c.tc : Thread Cert.AdalnIdeal.nD Cert.AdalnIdeal.τ).loc Cert.AdalnIdeal.main_arg0) = m ((c.tc : Thread Cert.AdalnIdeal.nD Cert.AdalnIdeal.τ).loc Cert.AdalnIdeal.main_arg0)
      ∧ r.2.mem ((c.tc : Thread Cert.AdalnIdeal.nD Cert.AdalnIdeal.τ).loc Cert.AdalnIdeal.main_arg1) = m ((c.tc : Thread Cert.AdalnIdeal.nD Cert.AdalnIdeal.τ).loc Cert.AdalnIdeal.main_arg1)
      ∧ r.2.mem ((c.tc : Thread Cert.AdalnIdeal.nD Cert.AdalnIdeal.τ).loc Cert.AdalnIdeal.main_arg2) = m ((c.tc : Thread Cert.AdalnIdeal.nD Cert.AdalnIdeal.τ).loc Cert.AdalnIdeal.main_arg2))
      ∧ r.2.sem = fun _ => 0)

def quiescent_AdalnIdeal_pre_adaln_finite [hAdalnIdeal : Cert.AdalnIdeal.Facts] [hPre_adaln_finite : Cert.Pre_adaln_finite.Facts] : Prop :=
  ∀ (m : (ℓ : Loc Cert.AdalnIdeal.nD Cert.AdalnIdeal.τ Cert.AdalnIdeal.sig) → Buf (Elt Ideal) ℓ) (g : Dev Cert.AdalnIdeal.nD → PrngReg), Pre_AdalnIdeal_adaln_finite m →
    θ_run (Cert.AdalnIdeal.defs (F := Ideal)) (onTc (τ := Cert.AdalnIdeal.τ) (Cert.AdalnIdeal.main (F := Ideal))) ⟨m, fun _ => 0, g⟩ (fun r => (∀ c : Dev Cert.AdalnIdeal.nD,
      r.2.mem ((c.tc : Thread Cert.AdalnIdeal.nD Cert.AdalnIdeal.τ).loc Cert.AdalnIdeal.main_arg0) = m ((c.tc : Thread Cert.AdalnIdeal.nD Cert.AdalnIdeal.τ).loc Cert.AdalnIdeal.main_arg0)
      ∧ r.2.mem ((c.tc : Thread Cert.AdalnIdeal.nD Cert.AdalnIdeal.τ).loc Cert.AdalnIdeal.main_arg1) = m ((c.tc : Thread Cert.AdalnIdeal.nD Cert.AdalnIdeal.τ).loc Cert.AdalnIdeal.main_arg1)
      ∧ r.2.mem ((c.tc : Thread Cert.AdalnIdeal.nD Cert.AdalnIdeal.τ).loc Cert.AdalnIdeal.main_arg2) = m ((c.tc : Thread Cert.AdalnIdeal.nD Cert.AdalnIdeal.τ).loc Cert.AdalnIdeal.main_arg2))
      ∧ r.2.sem = fun _ => 0)

def quiescent_AdalnRefIdeal [hAdalnRefIdeal : Cert.AdalnRefIdeal.Facts] : Prop :=
  ∀ (m : (ℓ : Loc Cert.AdalnRefIdeal.nD Cert.AdalnRefIdeal.τ Cert.AdalnRefIdeal.sig) → Buf (Elt Ideal) ℓ) (g : Dev Cert.AdalnRefIdeal.nD → PrngReg), Pre_AdalnRefIdeal m →
    θ_run (Cert.AdalnRefIdeal.defs (F := Ideal)) (onTc (τ := Cert.AdalnRefIdeal.τ) (Cert.AdalnRefIdeal.main (F := Ideal))) ⟨m, fun _ => 0, g⟩ (fun r => (∀ c : Dev Cert.AdalnRefIdeal.nD,
      r.2.mem ((c.tc : Thread Cert.AdalnRefIdeal.nD Cert.AdalnRefIdeal.τ).loc Cert.AdalnRefIdeal.main_arg0) = m ((c.tc : Thread Cert.AdalnRefIdeal.nD Cert.AdalnRefIdeal.τ).loc Cert.AdalnRefIdeal.main_arg0)
      ∧ r.2.mem ((c.tc : Thread Cert.AdalnRefIdeal.nD Cert.AdalnRefIdeal.τ).loc Cert.AdalnRefIdeal.main_arg1) = m ((c.tc : Thread Cert.AdalnRefIdeal.nD Cert.AdalnRefIdeal.τ).loc Cert.AdalnRefIdeal.main_arg1)
      ∧ r.2.mem ((c.tc : Thread Cert.AdalnRefIdeal.nD Cert.AdalnRefIdeal.τ).loc Cert.AdalnRefIdeal.main_arg2) = m ((c.tc : Thread Cert.AdalnRefIdeal.nD Cert.AdalnRefIdeal.τ).loc Cert.AdalnRefIdeal.main_arg2))
      ∧ r.2.sem = fun _ => 0)

def quiescent_AdalnRefIdeal_pre_adaln_finite [hAdalnRefIdeal : Cert.AdalnRefIdeal.Facts] [hPre_adaln_finite : Cert.Pre_adaln_finite.Facts] : Prop :=
  ∀ (m : (ℓ : Loc Cert.AdalnRefIdeal.nD Cert.AdalnRefIdeal.τ Cert.AdalnRefIdeal.sig) → Buf (Elt Ideal) ℓ) (g : Dev Cert.AdalnRefIdeal.nD → PrngReg), Pre_AdalnRefIdeal_adaln_finite m →
    θ_run (Cert.AdalnRefIdeal.defs (F := Ideal)) (onTc (τ := Cert.AdalnRefIdeal.τ) (Cert.AdalnRefIdeal.main (F := Ideal))) ⟨m, fun _ => 0, g⟩ (fun r => (∀ c : Dev Cert.AdalnRefIdeal.nD,
      r.2.mem ((c.tc : Thread Cert.AdalnRefIdeal.nD Cert.AdalnRefIdeal.τ).loc Cert.AdalnRefIdeal.main_arg0) = m ((c.tc : Thread Cert.AdalnRefIdeal.nD Cert.AdalnRefIdeal.τ).loc Cert.AdalnRefIdeal.main_arg0)
      ∧ r.2.mem ((c.tc : Thread Cert.AdalnRefIdeal.nD Cert.AdalnRefIdeal.τ).loc Cert.AdalnRefIdeal.main_arg1) = m ((c.tc : Thread Cert.AdalnRefIdeal.nD Cert.AdalnRefIdeal.τ).loc Cert.AdalnRefIdeal.main_arg1)
      ∧ r.2.mem ((c.tc : Thread Cert.AdalnRefIdeal.nD Cert.AdalnRefIdeal.τ).loc Cert.AdalnRefIdeal.main_arg2) = m ((c.tc : Thread Cert.AdalnRefIdeal.nD Cert.AdalnRefIdeal.τ).loc Cert.AdalnRefIdeal.main_arg2))
      ∧ r.2.sem = fun _ => 0)

def quiescent_Modulate [hModulate : Cert.Modulate.Facts] : Prop :=
  ∀ (m : (ℓ : Loc Cert.Modulate.nD Cert.Modulate.τ Cert.Modulate.sig) → Buf (Elt Bits) ℓ) (g : Dev Cert.Modulate.nD → PrngReg), Pre_Modulate m →
    θ_run (Cert.Modulate.defs (F := Bits)) (onTc (τ := Cert.Modulate.τ) (Cert.Modulate.main (F := Bits))) ⟨m, fun _ => 0, g⟩ (fun r => (∀ c : Dev Cert.Modulate.nD,
      r.2.mem ((c.tc : Thread Cert.Modulate.nD Cert.Modulate.τ).loc Cert.Modulate.main_arg0) = m ((c.tc : Thread Cert.Modulate.nD Cert.Modulate.τ).loc Cert.Modulate.main_arg0)
      ∧ r.2.mem ((c.tc : Thread Cert.Modulate.nD Cert.Modulate.τ).loc Cert.Modulate.main_arg1) = m ((c.tc : Thread Cert.Modulate.nD Cert.Modulate.τ).loc Cert.Modulate.main_arg1))
      ∧ r.2.sem = fun _ => 0)

def quiescent_ModulateIdeal [hModulateIdeal : Cert.ModulateIdeal.Facts] : Prop :=
  ∀ (m : (ℓ : Loc Cert.ModulateIdeal.nD Cert.ModulateIdeal.τ Cert.ModulateIdeal.sig) → Buf (Elt Ideal) ℓ) (g : Dev Cert.ModulateIdeal.nD → PrngReg), Pre_ModulateIdeal m →
    θ_run (Cert.ModulateIdeal.defs (F := Ideal)) (onTc (τ := Cert.ModulateIdeal.τ) (Cert.ModulateIdeal.main (F := Ideal))) ⟨m, fun _ => 0, g⟩ (fun r => (∀ c : Dev Cert.ModulateIdeal.nD,
      r.2.mem ((c.tc : Thread Cert.ModulateIdeal.nD Cert.ModulateIdeal.τ).loc Cert.ModulateIdeal.main_arg0) = m ((c.tc : Thread Cert.ModulateIdeal.nD Cert.ModulateIdeal.τ).loc Cert.ModulateIdeal.main_arg0)
      ∧ r.2.mem ((c.tc : Thread Cert.ModulateIdeal.nD Cert.ModulateIdeal.τ).loc Cert.ModulateIdeal.main_arg1) = m ((c.tc : Thread Cert.ModulateIdeal.nD Cert.ModulateIdeal.τ).loc Cert.ModulateIdeal.main_arg1))
      ∧ r.2.sem = fun _ => 0)

def quiescent_ModulateRefIdeal [hModulateRefIdeal : Cert.ModulateRefIdeal.Facts] : Prop :=
  ∀ (m : (ℓ : Loc Cert.ModulateRefIdeal.nD Cert.ModulateRefIdeal.τ Cert.ModulateRefIdeal.sig) → Buf (Elt Ideal) ℓ) (g : Dev Cert.ModulateRefIdeal.nD → PrngReg), Pre_ModulateRefIdeal m →
    θ_run (Cert.ModulateRefIdeal.defs (F := Ideal)) (onTc (τ := Cert.ModulateRefIdeal.τ) (Cert.ModulateRefIdeal.main (F := Ideal))) ⟨m, fun _ => 0, g⟩ (fun r => (∀ c : Dev Cert.ModulateRefIdeal.nD,
      r.2.mem ((c.tc : Thread Cert.ModulateRefIdeal.nD Cert.ModulateRefIdeal.τ).loc Cert.ModulateRefIdeal.main_arg0) = m ((c.tc : Thread Cert.ModulateRefIdeal.nD Cert.ModulateRefIdeal.τ).loc Cert.ModulateRefIdeal.main_arg0)
      ∧ r.2.mem ((c.tc : Thread Cert.ModulateRefIdeal.nD Cert.ModulateRefIdeal.τ).loc Cert.ModulateRefIdeal.main_arg1) = m ((c.tc : Thread Cert.ModulateRefIdeal.nD Cert.ModulateRefIdeal.τ).loc Cert.ModulateRefIdeal.main_arg1))
      ∧ r.2.sem = fun _ => 0)

def quiescent_Wcast [hWcast : Cert.Wcast.Facts] : Prop :=
  ∀ (m : (ℓ : Loc Cert.Wcast.nD Cert.Wcast.τ Cert.Wcast.sig) → Buf (Elt Bits) ℓ) (g : Dev Cert.Wcast.nD → PrngReg), Pre_Wcast m →
    θ_run (Cert.Wcast.defs (F := Bits)) (onTc (τ := Cert.Wcast.τ) (Cert.Wcast.main (F := Bits))) ⟨m, fun _ => 0, g⟩ (fun r => (∀ c : Dev Cert.Wcast.nD,
      r.2.mem ((c.tc : Thread Cert.Wcast.nD Cert.Wcast.τ).loc Cert.Wcast.main_arg0) = m ((c.tc : Thread Cert.Wcast.nD Cert.Wcast.τ).loc Cert.Wcast.main_arg0))
      ∧ r.2.sem = fun _ => 0)

def quiescent_WcastIdeal [hWcastIdeal : Cert.WcastIdeal.Facts] : Prop :=
  ∀ (m : (ℓ : Loc Cert.WcastIdeal.nD Cert.WcastIdeal.τ Cert.WcastIdeal.sig) → Buf (Elt Ideal) ℓ) (g : Dev Cert.WcastIdeal.nD → PrngReg), Pre_WcastIdeal m →
    θ_run (Cert.WcastIdeal.defs (F := Ideal)) (onTc (τ := Cert.WcastIdeal.τ) (Cert.WcastIdeal.main (F := Ideal))) ⟨m, fun _ => 0, g⟩ (fun r => (∀ c : Dev Cert.WcastIdeal.nD,
      r.2.mem ((c.tc : Thread Cert.WcastIdeal.nD Cert.WcastIdeal.τ).loc Cert.WcastIdeal.main_arg0) = m ((c.tc : Thread Cert.WcastIdeal.nD Cert.WcastIdeal.τ).loc Cert.WcastIdeal.main_arg0))
      ∧ r.2.sem = fun _ => 0)

def quiescent_WcastRefIdeal [hWcastRefIdeal : Cert.WcastRefIdeal.Facts] : Prop :=
  ∀ (m : (ℓ : Loc Cert.WcastRefIdeal.nD Cert.WcastRefIdeal.τ Cert.WcastRefIdeal.sig) → Buf (Elt Ideal) ℓ) (g : Dev Cert.WcastRefIdeal.nD → PrngReg), Pre_WcastRefIdeal m →
    θ_run (Cert.WcastRefIdeal.defs (F := Ideal)) (onTc (τ := Cert.WcastRefIdeal.τ) (Cert.WcastRefIdeal.main (F := Ideal))) ⟨m, fun _ => 0, g⟩ (fun r => (∀ c : Dev Cert.WcastRefIdeal.nD,
      r.2.mem ((c.tc : Thread Cert.WcastRefIdeal.nD Cert.WcastRefIdeal.τ).loc Cert.WcastRefIdeal.main_arg0) = m ((c.tc : Thread Cert.WcastRefIdeal.nD Cert.WcastRefIdeal.τ).loc Cert.WcastRefIdeal.main_arg0))
      ∧ r.2.sem = fun _ => 0)

def quiescent_S5prep [hS5prep : Cert.S5prep.Facts] : Prop :=
  ∀ (m : (ℓ : Loc Cert.S5prep.nD Cert.S5prep.τ Cert.S5prep.sig) → Buf (Elt Bits) ℓ) (g : Dev Cert.S5prep.nD → PrngReg), Pre_S5prep m →
    θ_run (Cert.S5prep.defs (F := Bits)) (onTc (τ := Cert.S5prep.τ) (Cert.S5prep.main (F := Bits))) ⟨m, fun _ => 0, g⟩ (fun r => (∀ c : Dev Cert.S5prep.nD,
      r.2.mem ((c.tc : Thread Cert.S5prep.nD Cert.S5prep.τ).loc Cert.S5prep.main_arg0) = m ((c.tc : Thread Cert.S5prep.nD Cert.S5prep.τ).loc Cert.S5prep.main_arg0)
      ∧ r.2.mem ((c.tc : Thread Cert.S5prep.nD Cert.S5prep.τ).loc Cert.S5prep.main_arg1) = m ((c.tc : Thread Cert.S5prep.nD Cert.S5prep.τ).loc Cert.S5prep.main_arg1)
      ∧ r.2.mem ((c.tc : Thread Cert.S5prep.nD Cert.S5prep.τ).loc Cert.S5prep.main_arg2) = m ((c.tc : Thread Cert.S5prep.nD Cert.S5prep.τ).loc Cert.S5prep.main_arg2)
      ∧ r.2.mem ((c.tc : Thread Cert.S5prep.nD Cert.S5prep.τ).loc Cert.S5prep.main_arg3) = m ((c.tc : Thread Cert.S5prep.nD Cert.S5prep.τ).loc Cert.S5prep.main_arg3)
      ∧ r.2.mem ((c.tc : Thread Cert.S5prep.nD Cert.S5prep.τ).loc Cert.S5prep.main_arg4) = m ((c.tc : Thread Cert.S5prep.nD Cert.S5prep.τ).loc Cert.S5prep.main_arg4)
      ∧ r.2.mem ((c.tc : Thread Cert.S5prep.nD Cert.S5prep.τ).loc Cert.S5prep.main_arg5) = m ((c.tc : Thread Cert.S5prep.nD Cert.S5prep.τ).loc Cert.S5prep.main_arg5)
      ∧ r.2.mem ((c.tc : Thread Cert.S5prep.nD Cert.S5prep.τ).loc Cert.S5prep.main_arg6) = m ((c.tc : Thread Cert.S5prep.nD Cert.S5prep.τ).loc Cert.S5prep.main_arg6)
      ∧ r.2.mem ((c.tc : Thread Cert.S5prep.nD Cert.S5prep.τ).loc Cert.S5prep.main_arg7) = m ((c.tc : Thread Cert.S5prep.nD Cert.S5prep.τ).loc Cert.S5prep.main_arg7))
      ∧ r.2.sem = fun _ => 0)

def quiescent_S5prepIdeal [hS5prepIdeal : Cert.S5prepIdeal.Facts] : Prop :=
  ∀ (m : (ℓ : Loc Cert.S5prepIdeal.nD Cert.S5prepIdeal.τ Cert.S5prepIdeal.sig) → Buf (Elt Ideal) ℓ) (g : Dev Cert.S5prepIdeal.nD → PrngReg), Pre_S5prepIdeal m →
    θ_run (Cert.S5prepIdeal.defs (F := Ideal)) (onTc (τ := Cert.S5prepIdeal.τ) (Cert.S5prepIdeal.main (F := Ideal))) ⟨m, fun _ => 0, g⟩ (fun r => (∀ c : Dev Cert.S5prepIdeal.nD,
      r.2.mem ((c.tc : Thread Cert.S5prepIdeal.nD Cert.S5prepIdeal.τ).loc Cert.S5prepIdeal.main_arg0) = m ((c.tc : Thread Cert.S5prepIdeal.nD Cert.S5prepIdeal.τ).loc Cert.S5prepIdeal.main_arg0)
      ∧ r.2.mem ((c.tc : Thread Cert.S5prepIdeal.nD Cert.S5prepIdeal.τ).loc Cert.S5prepIdeal.main_arg1) = m ((c.tc : Thread Cert.S5prepIdeal.nD Cert.S5prepIdeal.τ).loc Cert.S5prepIdeal.main_arg1)
      ∧ r.2.mem ((c.tc : Thread Cert.S5prepIdeal.nD Cert.S5prepIdeal.τ).loc Cert.S5prepIdeal.main_arg2) = m ((c.tc : Thread Cert.S5prepIdeal.nD Cert.S5prepIdeal.τ).loc Cert.S5prepIdeal.main_arg2)
      ∧ r.2.mem ((c.tc : Thread Cert.S5prepIdeal.nD Cert.S5prepIdeal.τ).loc Cert.S5prepIdeal.main_arg3) = m ((c.tc : Thread Cert.S5prepIdeal.nD Cert.S5prepIdeal.τ).loc Cert.S5prepIdeal.main_arg3)
      ∧ r.2.mem ((c.tc : Thread Cert.S5prepIdeal.nD Cert.S5prepIdeal.τ).loc Cert.S5prepIdeal.main_arg4) = m ((c.tc : Thread Cert.S5prepIdeal.nD Cert.S5prepIdeal.τ).loc Cert.S5prepIdeal.main_arg4)
      ∧ r.2.mem ((c.tc : Thread Cert.S5prepIdeal.nD Cert.S5prepIdeal.τ).loc Cert.S5prepIdeal.main_arg5) = m ((c.tc : Thread Cert.S5prepIdeal.nD Cert.S5prepIdeal.τ).loc Cert.S5prepIdeal.main_arg5)
      ∧ r.2.mem ((c.tc : Thread Cert.S5prepIdeal.nD Cert.S5prepIdeal.τ).loc Cert.S5prepIdeal.main_arg6) = m ((c.tc : Thread Cert.S5prepIdeal.nD Cert.S5prepIdeal.τ).loc Cert.S5prepIdeal.main_arg6)
      ∧ r.2.mem ((c.tc : Thread Cert.S5prepIdeal.nD Cert.S5prepIdeal.τ).loc Cert.S5prepIdeal.main_arg7) = m ((c.tc : Thread Cert.S5prepIdeal.nD Cert.S5prepIdeal.τ).loc Cert.S5prepIdeal.main_arg7))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v58) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_Inproj_InprojIdeal : Prop :=
  True

def algebraic_InprojIdeal_InprojRefIdeal [hInprojIdeal : Cert.InprojIdeal.Facts] [hInprojRefIdeal : Cert.InprojRefIdeal.Facts] : Prop :=
  ∀ (m : (ℓ : Loc Cert.InprojIdeal.nD Cert.InprojIdeal.τ Cert.InprojIdeal.sig) → Buf (Elt Ideal) ℓ) (g : Dev Cert.InprojIdeal.nD → PrngReg)
    (m' : (ℓ : Loc Cert.InprojRefIdeal.nD Cert.InprojRefIdeal.τ Cert.InprojRefIdeal.sig) → Buf (Elt Ideal) ℓ) (g' : Dev Cert.InprojRefIdeal.nD → PrngReg), Pre_InprojIdeal m →
    (∀ c : Dev Cert.InprojIdeal.nD,
      m' ((c.tc : Thread Cert.InprojRefIdeal.nD Cert.InprojRefIdeal.τ).loc Cert.InprojRefIdeal.main_arg0) = m ((c.tc : Thread Cert.InprojIdeal.nD Cert.InprojIdeal.τ).loc Cert.InprojIdeal.main_arg0)
      ∧ m' ((c.tc : Thread Cert.InprojRefIdeal.nD Cert.InprojRefIdeal.τ).loc Cert.InprojRefIdeal.main_arg1) = m ((c.tc : Thread Cert.InprojIdeal.nD Cert.InprojIdeal.τ).loc Cert.InprojIdeal.main_arg1)
      ∧ m' ((c.tc : Thread Cert.InprojRefIdeal.nD Cert.InprojRefIdeal.τ).loc Cert.InprojRefIdeal.main_arg2) = m ((c.tc : Thread Cert.InprojIdeal.nD Cert.InprojIdeal.τ).loc Cert.InprojIdeal.main_arg2)) →
    ∃ (v0 : (c : Dev Cert.InprojIdeal.nD) → Buf (Elt Ideal) ((c.tc : Thread Cert.InprojIdeal.nD Cert.InprojIdeal.τ).loc Cert.InprojIdeal.main_v0_0)) (v1 : (c : Dev Cert.InprojIdeal.nD) → Buf (Elt Ideal) ((c.tc : Thread Cert.InprojIdeal.nD Cert.InprojIdeal.τ).loc Cert.InprojIdeal.main_v0_1)),
      θ_run (Cert.InprojIdeal.defs (F := Ideal)) (onTc (τ := Cert.InprojIdeal.τ) (Cert.InprojIdeal.main (F := Ideal))) ⟨m, fun _ => 0, g⟩ (fun r => ∀ c : Dev Cert.InprojIdeal.nD,
          r.2.mem ((c.tc : Thread Cert.InprojIdeal.nD Cert.InprojIdeal.τ).loc Cert.InprojIdeal.main_v0_0) = v0 c
          ∧ r.2.mem ((c.tc : Thread Cert.InprojIdeal.nD Cert.InprojIdeal.τ).loc Cert.InprojIdeal.main_v0_1) = v1 c
          ∧ r.2.mem ((c.tc : Thread Cert.InprojIdeal.nD Cert.InprojIdeal.τ).loc Cert.InprojIdeal.main_arg0) = m ((c.tc : Thread Cert.InprojIdeal.nD Cert.InprojIdeal.τ).loc Cert.InprojIdeal.main_arg0)
          ∧ r.2.mem ((c.tc : Thread Cert.InprojIdeal.nD Cert.InprojIdeal.τ).loc Cert.InprojIdeal.main_arg1) = m ((c.tc : Thread Cert.InprojIdeal.nD Cert.InprojIdeal.τ).loc Cert.InprojIdeal.main_arg1)
          ∧ r.2.mem ((c.tc : Thread Cert.InprojIdeal.nD Cert.InprojIdeal.τ).loc Cert.InprojIdeal.main_arg2) = m ((c.tc : Thread Cert.InprojIdeal.nD Cert.InprojIdeal.τ).loc Cert.InprojIdeal.main_arg2))
      ∧ θ_run (Cert.InprojRefIdeal.defs (F := Ideal)) (onTc (τ := Cert.InprojRefIdeal.τ) (Cert.InprojRefIdeal.main (F := Ideal))) ⟨m', fun _ => 0, g'⟩ (fun r => ∀ c : Dev Cert.InprojRefIdeal.nD,
          r.2.mem ((c.tc : Thread Cert.InprojRefIdeal.nD Cert.InprojRefIdeal.τ).loc Cert.InprojRefIdeal.main_v4) = v0 c
          ∧ r.2.mem ((c.tc : Thread Cert.InprojRefIdeal.nD Cert.InprojRefIdeal.τ).loc Cert.InprojRefIdeal.main_v7) = v1 c
          ∧ r.2.mem ((c.tc : Thread Cert.InprojRefIdeal.nD Cert.InprojRefIdeal.τ).loc Cert.InprojRefIdeal.main_arg0) = m' ((c.tc : Thread Cert.InprojRefIdeal.nD Cert.InprojRefIdeal.τ).loc Cert.InprojRefIdeal.main_arg0)
          ∧ r.2.mem ((c.tc : Thread Cert.InprojRefIdeal.nD Cert.InprojRefIdeal.τ).loc Cert.InprojRefIdeal.main_arg1) = m' ((c.tc : Thread Cert.InprojRefIdeal.nD Cert.InprojRefIdeal.τ).loc Cert.InprojRefIdeal.main_arg1)
          ∧ r.2.mem ((c.tc : Thread Cert.InprojRefIdeal.nD Cert.InprojRefIdeal.τ).loc Cert.InprojRefIdeal.main_arg2) = m' ((c.tc : Thread Cert.InprojRefIdeal.nD Cert.InprojRefIdeal.τ).loc Cert.InprojRefIdeal.main_arg2))

def preserves_Glu_GluIdeal : Prop :=
  True

def algebraic_GluIdeal_GluRefIdeal_pre_glu_finite [hGluIdeal : Cert.GluIdeal.Facts] [hGluRefIdeal : Cert.GluRefIdeal.Facts] [hPre_glu_finite : Cert.Pre_glu_finite.Facts] : Prop :=
  ∀ (m : (ℓ : Loc Cert.GluIdeal.nD Cert.GluIdeal.τ Cert.GluIdeal.sig) → Buf (Elt Ideal) ℓ) (g : Dev Cert.GluIdeal.nD → PrngReg)
    (m' : (ℓ : Loc Cert.GluRefIdeal.nD Cert.GluRefIdeal.τ Cert.GluRefIdeal.sig) → Buf (Elt Ideal) ℓ) (g' : Dev Cert.GluRefIdeal.nD → PrngReg), Pre_GluIdeal_glu_finite m →
    (∀ c : Dev Cert.GluIdeal.nD,
      m' ((c.tc : Thread Cert.GluRefIdeal.nD Cert.GluRefIdeal.τ).loc Cert.GluRefIdeal.main_arg0) = m ((c.tc : Thread Cert.GluIdeal.nD Cert.GluIdeal.τ).loc Cert.GluIdeal.main_arg0)
      ∧ m' ((c.tc : Thread Cert.GluRefIdeal.nD Cert.GluRefIdeal.τ).loc Cert.GluRefIdeal.main_arg1) = m ((c.tc : Thread Cert.GluIdeal.nD Cert.GluIdeal.τ).loc Cert.GluIdeal.main_arg1)
      ∧ m' ((c.tc : Thread Cert.GluRefIdeal.nD Cert.GluRefIdeal.τ).loc Cert.GluRefIdeal.main_arg2) = m ((c.tc : Thread Cert.GluIdeal.nD Cert.GluIdeal.τ).loc Cert.GluIdeal.main_arg2)
      ∧ m' ((c.tc : Thread Cert.GluRefIdeal.nD Cert.GluRefIdeal.τ).loc Cert.GluRefIdeal.main_arg3) = m ((c.tc : Thread Cert.GluIdeal.nD Cert.GluIdeal.τ).loc Cert.GluIdeal.main_arg3)) →
    ∃ (v0 : (c : Dev Cert.GluIdeal.nD) → Buf (Elt Ideal) ((c.tc : Thread Cert.GluIdeal.nD Cert.GluIdeal.τ).loc Cert.GluIdeal.main_v2)),
      θ_run (Cert.GluIdeal.defs (F := Ideal)) (onTc (τ := Cert.GluIdeal.τ) (Cert.GluIdeal.main (F := Ideal))) ⟨m, fun _ => 0, g⟩ (fun r => ∀ c : Dev Cert.GluIdeal.nD,
          r.2.mem ((c.tc : Thread Cert.GluIdeal.nD Cert.GluIdeal.τ).loc Cert.GluIdeal.main_v2) = v0 c
          ∧ r.2.mem ((c.tc : Thread Cert.GluIdeal.nD Cert.GluIdeal.τ).loc Cert.GluIdeal.main_arg0) = m ((c.tc : Thread Cert.GluIdeal.nD Cert.GluIdeal.τ).loc Cert.GluIdeal.main_arg0)
          ∧ r.2.mem ((c.tc : Thread Cert.GluIdeal.nD Cert.GluIdeal.τ).loc Cert.GluIdeal.main_arg1) = m ((c.tc : Thread Cert.GluIdeal.nD Cert.GluIdeal.τ).loc Cert.GluIdeal.main_arg1)
          ∧ r.2.mem ((c.tc : Thread Cert.GluIdeal.nD Cert.GluIdeal.τ).loc Cert.GluIdeal.main_arg2) = m ((c.tc : Thread Cert.GluIdeal.nD Cert.GluIdeal.τ).loc Cert.GluIdeal.main_arg2)
          ∧ r.2.mem ((c.tc : Thread Cert.GluIdeal.nD Cert.GluIdeal.τ).loc Cert.GluIdeal.main_arg3) = m ((c.tc : Thread Cert.GluIdeal.nD Cert.GluIdeal.τ).loc Cert.GluIdeal.main_arg3))
      ∧ θ_run (Cert.GluRefIdeal.defs (F := Ideal)) (onTc (τ := Cert.GluRefIdeal.τ) (Cert.GluRefIdeal.main (F := Ideal))) ⟨m', fun _ => 0, g'⟩ (fun r => ∀ c : Dev Cert.GluRefIdeal.nD,
          r.2.mem ((c.tc : Thread Cert.GluRefIdeal.nD Cert.GluRefIdeal.τ).loc Cert.GluRefIdeal.main_v16) = v0 c
          ∧ r.2.mem ((c.tc : Thread Cert.GluRefIdeal.nD Cert.GluRefIdeal.τ).loc Cert.GluRefIdeal.main_arg0) = m' ((c.tc : Thread Cert.GluRefIdeal.nD Cert.GluRefIdeal.τ).loc Cert.GluRefIdeal.main_arg0)
          ∧ r.2.mem ((c.tc : Thread Cert.GluRefIdeal.nD Cert.GluRefIdeal.τ).loc Cert.GluRefIdeal.main_arg1) = m' ((c.tc : Thread Cert.GluRefIdeal.nD Cert.GluRefIdeal.τ).loc Cert.GluRefIdeal.main_arg1)
          ∧ r.2.mem ((c.tc : Thread Cert.GluRefIdeal.nD Cert.GluRefIdeal.τ).loc Cert.GluRefIdeal.main_arg2) = m' ((c.tc : Thread Cert.GluRefIdeal.nD Cert.GluRefIdeal.τ).loc Cert.GluRefIdeal.main_arg2)
          ∧ r.2.mem ((c.tc : Thread Cert.GluRefIdeal.nD Cert.GluRefIdeal.τ).loc Cert.GluRefIdeal.main_arg3) = m' ((c.tc : Thread Cert.GluRefIdeal.nD Cert.GluRefIdeal.τ).loc Cert.GluRefIdeal.main_arg3))

def preserves_Outproj_OutprojIdeal : Prop :=
  True

def algebraic_OutprojIdeal_OutprojRefIdeal [hOutprojIdeal : Cert.OutprojIdeal.Facts] [hOutprojRefIdeal : Cert.OutprojRefIdeal.Facts] : Prop :=
  ∀ (m : (ℓ : Loc Cert.OutprojIdeal.nD Cert.OutprojIdeal.τ Cert.OutprojIdeal.sig) → Buf (Elt Ideal) ℓ) (g : Dev Cert.OutprojIdeal.nD → PrngReg)
    (m' : (ℓ : Loc Cert.OutprojRefIdeal.nD Cert.OutprojRefIdeal.τ Cert.OutprojRefIdeal.sig) → Buf (Elt Ideal) ℓ) (g' : Dev Cert.OutprojRefIdeal.nD → PrngReg), Pre_OutprojIdeal m →
    (∀ c : Dev Cert.OutprojIdeal.nD,
      m' ((c.tc : Thread Cert.OutprojRefIdeal.nD Cert.OutprojRefIdeal.τ).loc Cert.OutprojRefIdeal.main_arg0) = m ((c.tc : Thread Cert.OutprojIdeal.nD Cert.OutprojIdeal.τ).loc Cert.OutprojIdeal.main_arg0)
      ∧ m' ((c.tc : Thread Cert.OutprojRefIdeal.nD Cert.OutprojRefIdeal.τ).loc Cert.OutprojRefIdeal.main_arg1) = m ((c.tc : Thread Cert.OutprojIdeal.nD Cert.OutprojIdeal.τ).loc Cert.OutprojIdeal.main_arg1)
      ∧ m' ((c.tc : Thread Cert.OutprojRefIdeal.nD Cert.OutprojRefIdeal.τ).loc Cert.OutprojRefIdeal.main_arg2) = m ((c.tc : Thread Cert.OutprojIdeal.nD Cert.OutprojIdeal.τ).loc Cert.OutprojIdeal.main_arg2)
      ∧ m' ((c.tc : Thread Cert.OutprojRefIdeal.nD Cert.OutprojRefIdeal.τ).loc Cert.OutprojRefIdeal.main_arg3) = m ((c.tc : Thread Cert.OutprojIdeal.nD Cert.OutprojIdeal.τ).loc Cert.OutprojIdeal.main_arg3)
      ∧ m' ((c.tc : Thread Cert.OutprojRefIdeal.nD Cert.OutprojRefIdeal.τ).loc Cert.OutprojRefIdeal.main_arg4) = m ((c.tc : Thread Cert.OutprojIdeal.nD Cert.OutprojIdeal.τ).loc Cert.OutprojIdeal.main_arg4)
      ∧ m' ((c.tc : Thread Cert.OutprojRefIdeal.nD Cert.OutprojRefIdeal.τ).loc Cert.OutprojRefIdeal.main_arg5) = m ((c.tc : Thread Cert.OutprojIdeal.nD Cert.OutprojIdeal.τ).loc Cert.OutprojIdeal.main_arg5)
      ∧ m' ((c.tc : Thread Cert.OutprojRefIdeal.nD Cert.OutprojRefIdeal.τ).loc Cert.OutprojRefIdeal.main_arg6) = m ((c.tc : Thread Cert.OutprojIdeal.nD Cert.OutprojIdeal.τ).loc Cert.OutprojIdeal.main_arg6)) →
    ∃ (v0 : (c : Dev Cert.OutprojIdeal.nD) → Buf (Elt Ideal) ((c.tc : Thread Cert.OutprojIdeal.nD Cert.OutprojIdeal.τ).loc Cert.OutprojIdeal.main_v7)),
      θ_run (Cert.OutprojIdeal.defs (F := Ideal)) (onTc (τ := Cert.OutprojIdeal.τ) (Cert.OutprojIdeal.main (F := Ideal))) ⟨m, fun _ => 0, g⟩ (fun r => ∀ c : Dev Cert.OutprojIdeal.nD,
          r.2.mem ((c.tc : Thread Cert.OutprojIdeal.nD Cert.OutprojIdeal.τ).loc Cert.OutprojIdeal.main_v7) = v0 c
          ∧ r.2.mem ((c.tc : Thread Cert.OutprojIdeal.nD Cert.OutprojIdeal.τ).loc Cert.OutprojIdeal.main_arg0) = m ((c.tc : Thread Cert.OutprojIdeal.nD Cert.OutprojIdeal.τ).loc Cert.OutprojIdeal.main_arg0)
          ∧ r.2.mem ((c.tc : Thread Cert.OutprojIdeal.nD Cert.OutprojIdeal.τ).loc Cert.OutprojIdeal.main_arg1) = m ((c.tc : Thread Cert.OutprojIdeal.nD Cert.OutprojIdeal.τ).loc Cert.OutprojIdeal.main_arg1)
          ∧ r.2.mem ((c.tc : Thread Cert.OutprojIdeal.nD Cert.OutprojIdeal.τ).loc Cert.OutprojIdeal.main_arg2) = m ((c.tc : Thread Cert.OutprojIdeal.nD Cert.OutprojIdeal.τ).loc Cert.OutprojIdeal.main_arg2)
          ∧ r.2.mem ((c.tc : Thread Cert.OutprojIdeal.nD Cert.OutprojIdeal.τ).loc Cert.OutprojIdeal.main_arg3) = m ((c.tc : Thread Cert.OutprojIdeal.nD Cert.OutprojIdeal.τ).loc Cert.OutprojIdeal.main_arg3)
          ∧ r.2.mem ((c.tc : Thread Cert.OutprojIdeal.nD Cert.OutprojIdeal.τ).loc Cert.OutprojIdeal.main_arg4) = m ((c.tc : Thread Cert.OutprojIdeal.nD Cert.OutprojIdeal.τ).loc Cert.OutprojIdeal.main_arg4)
          ∧ r.2.mem ((c.tc : Thread Cert.OutprojIdeal.nD Cert.OutprojIdeal.τ).loc Cert.OutprojIdeal.main_arg5) = m ((c.tc : Thread Cert.OutprojIdeal.nD Cert.OutprojIdeal.τ).loc Cert.OutprojIdeal.main_arg5)
          ∧ r.2.mem ((c.tc : Thread Cert.OutprojIdeal.nD Cert.OutprojIdeal.τ).loc Cert.OutprojIdeal.main_arg6) = m ((c.tc : Thread Cert.OutprojIdeal.nD Cert.OutprojIdeal.τ).loc Cert.OutprojIdeal.main_arg6))
      ∧ θ_run (Cert.OutprojRefIdeal.defs (F := Ideal)) (onTc (τ := Cert.OutprojRefIdeal.τ) (Cert.OutprojRefIdeal.main (F := Ideal))) ⟨m', fun _ => 0, g'⟩ (fun r => ∀ c : Dev Cert.OutprojRefIdeal.nD,
          r.2.mem ((c.tc : Thread Cert.OutprojRefIdeal.nD Cert.OutprojRefIdeal.τ).loc Cert.OutprojRefIdeal.main_v40) = v0 c
          ∧ r.2.mem ((c.tc : Thread Cert.OutprojRefIdeal.nD Cert.OutprojRefIdeal.τ).loc Cert.OutprojRefIdeal.main_arg0) = m' ((c.tc : Thread Cert.OutprojRefIdeal.nD Cert.OutprojRefIdeal.τ).loc Cert.OutprojRefIdeal.main_arg0)
          ∧ r.2.mem ((c.tc : Thread Cert.OutprojRefIdeal.nD Cert.OutprojRefIdeal.τ).loc Cert.OutprojRefIdeal.main_arg1) = m' ((c.tc : Thread Cert.OutprojRefIdeal.nD Cert.OutprojRefIdeal.τ).loc Cert.OutprojRefIdeal.main_arg1)
          ∧ r.2.mem ((c.tc : Thread Cert.OutprojRefIdeal.nD Cert.OutprojRefIdeal.τ).loc Cert.OutprojRefIdeal.main_arg2) = m' ((c.tc : Thread Cert.OutprojRefIdeal.nD Cert.OutprojRefIdeal.τ).loc Cert.OutprojRefIdeal.main_arg2)
          ∧ r.2.mem ((c.tc : Thread Cert.OutprojRefIdeal.nD Cert.OutprojRefIdeal.τ).loc Cert.OutprojRefIdeal.main_arg3) = m' ((c.tc : Thread Cert.OutprojRefIdeal.nD Cert.OutprojRefIdeal.τ).loc Cert.OutprojRefIdeal.main_arg3)
          ∧ r.2.mem ((c.tc : Thread Cert.OutprojRefIdeal.nD Cert.OutprojRefIdeal.τ).loc Cert.OutprojRefIdeal.main_arg4) = m' ((c.tc : Thread Cert.OutprojRefIdeal.nD Cert.OutprojRefIdeal.τ).loc Cert.OutprojRefIdeal.main_arg4)
          ∧ r.2.mem ((c.tc : Thread Cert.OutprojRefIdeal.nD Cert.OutprojRefIdeal.τ).loc Cert.OutprojRefIdeal.main_arg5) = m' ((c.tc : Thread Cert.OutprojRefIdeal.nD Cert.OutprojRefIdeal.τ).loc Cert.OutprojRefIdeal.main_arg5)
          ∧ r.2.mem ((c.tc : Thread Cert.OutprojRefIdeal.nD Cert.OutprojRefIdeal.τ).loc Cert.OutprojRefIdeal.main_arg6) = m' ((c.tc : Thread Cert.OutprojRefIdeal.nD Cert.OutprojRefIdeal.τ).loc Cert.OutprojRefIdeal.main_arg6))

def preserves_Adaln_AdalnIdeal : Prop :=
  True

def algebraic_AdalnIdeal_AdalnRefIdeal_pre_adaln_finite [hAdalnIdeal : Cert.AdalnIdeal.Facts] [hAdalnRefIdeal : Cert.AdalnRefIdeal.Facts] [hPre_adaln_finite : Cert.Pre_adaln_finite.Facts] : Prop :=
  ∀ (m : (ℓ : Loc Cert.AdalnIdeal.nD Cert.AdalnIdeal.τ Cert.AdalnIdeal.sig) → Buf (Elt Ideal) ℓ) (g : Dev Cert.AdalnIdeal.nD → PrngReg)
    (m' : (ℓ : Loc Cert.AdalnRefIdeal.nD Cert.AdalnRefIdeal.τ Cert.AdalnRefIdeal.sig) → Buf (Elt Ideal) ℓ) (g' : Dev Cert.AdalnRefIdeal.nD → PrngReg), Pre_AdalnIdeal_adaln_finite m →
    (∀ c : Dev Cert.AdalnIdeal.nD,
      m' ((c.tc : Thread Cert.AdalnRefIdeal.nD Cert.AdalnRefIdeal.τ).loc Cert.AdalnRefIdeal.main_arg0) = m ((c.tc : Thread Cert.AdalnIdeal.nD Cert.AdalnIdeal.τ).loc Cert.AdalnIdeal.main_arg0)
      ∧ m' ((c.tc : Thread Cert.AdalnRefIdeal.nD Cert.AdalnRefIdeal.τ).loc Cert.AdalnRefIdeal.main_arg1) = m ((c.tc : Thread Cert.AdalnIdeal.nD Cert.AdalnIdeal.τ).loc Cert.AdalnIdeal.main_arg1)
      ∧ m' ((c.tc : Thread Cert.AdalnRefIdeal.nD Cert.AdalnRefIdeal.τ).loc Cert.AdalnRefIdeal.main_arg2) = m ((c.tc : Thread Cert.AdalnIdeal.nD Cert.AdalnIdeal.τ).loc Cert.AdalnIdeal.main_arg2)) →
    ∃ (v0 : (c : Dev Cert.AdalnIdeal.nD) → Buf (Elt Ideal) ((c.tc : Thread Cert.AdalnIdeal.nD Cert.AdalnIdeal.τ).loc Cert.AdalnIdeal.main_v3)),
      θ_run (Cert.AdalnIdeal.defs (F := Ideal)) (onTc (τ := Cert.AdalnIdeal.τ) (Cert.AdalnIdeal.main (F := Ideal))) ⟨m, fun _ => 0, g⟩ (fun r => ∀ c : Dev Cert.AdalnIdeal.nD,
          r.2.mem ((c.tc : Thread Cert.AdalnIdeal.nD Cert.AdalnIdeal.τ).loc Cert.AdalnIdeal.main_v3) = v0 c
          ∧ r.2.mem ((c.tc : Thread Cert.AdalnIdeal.nD Cert.AdalnIdeal.τ).loc Cert.AdalnIdeal.main_arg0) = m ((c.tc : Thread Cert.AdalnIdeal.nD Cert.AdalnIdeal.τ).loc Cert.AdalnIdeal.main_arg0)
          ∧ r.2.mem ((c.tc : Thread Cert.AdalnIdeal.nD Cert.AdalnIdeal.τ).loc Cert.AdalnIdeal.main_arg1) = m ((c.tc : Thread Cert.AdalnIdeal.nD Cert.AdalnIdeal.τ).loc Cert.AdalnIdeal.main_arg1)
          ∧ r.2.mem ((c.tc : Thread Cert.AdalnIdeal.nD Cert.AdalnIdeal.τ).loc Cert.AdalnIdeal.main_arg2) = m ((c.tc : Thread Cert.AdalnIdeal.nD Cert.AdalnIdeal.τ).loc Cert.AdalnIdeal.main_arg2))
      ∧ θ_run (Cert.AdalnRefIdeal.defs (F := Ideal)) (onTc (τ := Cert.AdalnRefIdeal.τ) (Cert.AdalnRefIdeal.main (F := Ideal))) ⟨m', fun _ => 0, g'⟩ (fun r => ∀ c : Dev Cert.AdalnRefIdeal.nD,
          r.2.mem ((c.tc : Thread Cert.AdalnRefIdeal.nD Cert.AdalnRefIdeal.τ).loc Cert.AdalnRefIdeal.main_v6) = v0 c
          ∧ r.2.mem ((c.tc : Thread Cert.AdalnRefIdeal.nD Cert.AdalnRefIdeal.τ).loc Cert.AdalnRefIdeal.main_arg0) = m' ((c.tc : Thread Cert.AdalnRefIdeal.nD Cert.AdalnRefIdeal.τ).loc Cert.AdalnRefIdeal.main_arg0)
          ∧ r.2.mem ((c.tc : Thread Cert.AdalnRefIdeal.nD Cert.AdalnRefIdeal.τ).loc Cert.AdalnRefIdeal.main_arg1) = m' ((c.tc : Thread Cert.AdalnRefIdeal.nD Cert.AdalnRefIdeal.τ).loc Cert.AdalnRefIdeal.main_arg1)
          ∧ r.2.mem ((c.tc : Thread Cert.AdalnRefIdeal.nD Cert.AdalnRefIdeal.τ).loc Cert.AdalnRefIdeal.main_arg2) = m' ((c.tc : Thread Cert.AdalnRefIdeal.nD Cert.AdalnRefIdeal.τ).loc Cert.AdalnRefIdeal.main_arg2))

def preserves_Modulate_ModulateIdeal : Prop :=
  True

def algebraic_ModulateIdeal_ModulateRefIdeal [hModulateIdeal : Cert.ModulateIdeal.Facts] [hModulateRefIdeal : Cert.ModulateRefIdeal.Facts] : Prop :=
  ∀ (m : (ℓ : Loc Cert.ModulateIdeal.nD Cert.ModulateIdeal.τ Cert.ModulateIdeal.sig) → Buf (Elt Ideal) ℓ) (g : Dev Cert.ModulateIdeal.nD → PrngReg)
    (m' : (ℓ : Loc Cert.ModulateRefIdeal.nD Cert.ModulateRefIdeal.τ Cert.ModulateRefIdeal.sig) → Buf (Elt Ideal) ℓ) (g' : Dev Cert.ModulateRefIdeal.nD → PrngReg), Pre_ModulateIdeal m →
    (∀ c : Dev Cert.ModulateIdeal.nD,
      m' ((c.tc : Thread Cert.ModulateRefIdeal.nD Cert.ModulateRefIdeal.τ).loc Cert.ModulateRefIdeal.main_arg0) = m ((c.tc : Thread Cert.ModulateIdeal.nD Cert.ModulateIdeal.τ).loc Cert.ModulateIdeal.main_arg0)
      ∧ m' ((c.tc : Thread Cert.ModulateRefIdeal.nD Cert.ModulateRefIdeal.τ).loc Cert.ModulateRefIdeal.main_arg1) = m ((c.tc : Thread Cert.ModulateIdeal.nD Cert.ModulateIdeal.τ).loc Cert.ModulateIdeal.main_arg1)) →
    ∃ (v0 : (c : Dev Cert.ModulateIdeal.nD) → Buf (Elt Ideal) ((c.tc : Thread Cert.ModulateIdeal.nD Cert.ModulateIdeal.τ).loc Cert.ModulateIdeal.main_v0)),
      θ_run (Cert.ModulateIdeal.defs (F := Ideal)) (onTc (τ := Cert.ModulateIdeal.τ) (Cert.ModulateIdeal.main (F := Ideal))) ⟨m, fun _ => 0, g⟩ (fun r => ∀ c : Dev Cert.ModulateIdeal.nD,
          r.2.mem ((c.tc : Thread Cert.ModulateIdeal.nD Cert.ModulateIdeal.τ).loc Cert.ModulateIdeal.main_v0) = v0 c
          ∧ r.2.mem ((c.tc : Thread Cert.ModulateIdeal.nD Cert.ModulateIdeal.τ).loc Cert.ModulateIdeal.main_arg0) = m ((c.tc : Thread Cert.ModulateIdeal.nD Cert.ModulateIdeal.τ).loc Cert.ModulateIdeal.main_arg0)
          ∧ r.2.mem ((c.tc : Thread Cert.ModulateIdeal.nD Cert.ModulateIdeal.τ).loc Cert.ModulateIdeal.main_arg1) = m ((c.tc : Thread Cert.ModulateIdeal.nD Cert.ModulateIdeal.τ).loc Cert.ModulateIdeal.main_arg1))
      ∧ θ_run (Cert.ModulateRefIdeal.defs (F := Ideal)) (onTc (τ := Cert.ModulateRefIdeal.τ) (Cert.ModulateRefIdeal.main (F := Ideal))) ⟨m', fun _ => 0, g'⟩ (fun r => ∀ c : Dev Cert.ModulateRefIdeal.nD,
          r.2.mem ((c.tc : Thread Cert.ModulateRefIdeal.nD Cert.ModulateRefIdeal.τ).loc Cert.ModulateRefIdeal.main_v10) = v0 c
          ∧ r.2.mem ((c.tc : Thread Cert.ModulateRefIdeal.nD Cert.ModulateRefIdeal.τ).loc Cert.ModulateRefIdeal.main_arg0) = m' ((c.tc : Thread Cert.ModulateRefIdeal.nD Cert.ModulateRefIdeal.τ).loc Cert.ModulateRefIdeal.main_arg0)
          ∧ r.2.mem ((c.tc : Thread Cert.ModulateRefIdeal.nD Cert.ModulateRefIdeal.τ).loc Cert.ModulateRefIdeal.main_arg1) = m' ((c.tc : Thread Cert.ModulateRefIdeal.nD Cert.ModulateRefIdeal.τ).loc Cert.ModulateRefIdeal.main_arg1))

def preserves_Wcast_WcastIdeal : Prop :=
  True

def algebraic_WcastIdeal_WcastRefIdeal [hWcastIdeal : Cert.WcastIdeal.Facts] [hWcastRefIdeal : Cert.WcastRefIdeal.Facts] : Prop :=
  ∀ (m : (ℓ : Loc Cert.WcastIdeal.nD Cert.WcastIdeal.τ Cert.WcastIdeal.sig) → Buf (Elt Ideal) ℓ) (g : Dev Cert.WcastIdeal.nD → PrngReg)
    (m' : (ℓ : Loc Cert.WcastRefIdeal.nD Cert.WcastRefIdeal.τ Cert.WcastRefIdeal.sig) → Buf (Elt Ideal) ℓ) (g' : Dev Cert.WcastRefIdeal.nD → PrngReg), Pre_WcastIdeal m →
    (∀ c : Dev Cert.WcastIdeal.nD,
      m' ((c.tc : Thread Cert.WcastRefIdeal.nD Cert.WcastRefIdeal.τ).loc Cert.WcastRefIdeal.main_arg0) = m ((c.tc : Thread Cert.WcastIdeal.nD Cert.WcastIdeal.τ).loc Cert.WcastIdeal.main_arg0)) →
    ∃ (v0 : (c : Dev Cert.WcastIdeal.nD) → Buf (Elt Ideal) ((c.tc : Thread Cert.WcastIdeal.nD Cert.WcastIdeal.τ).loc Cert.WcastIdeal.main_v2)),
      θ_run (Cert.WcastIdeal.defs (F := Ideal)) (onTc (τ := Cert.WcastIdeal.τ) (Cert.WcastIdeal.main (F := Ideal))) ⟨m, fun _ => 0, g⟩ (fun r => ∀ c : Dev Cert.WcastIdeal.nD,
          r.2.mem ((c.tc : Thread Cert.WcastIdeal.nD Cert.WcastIdeal.τ).loc Cert.WcastIdeal.main_v2) = v0 c
          ∧ r.2.mem ((c.tc : Thread Cert.WcastIdeal.nD Cert.WcastIdeal.τ).loc Cert.WcastIdeal.main_arg0) = m ((c.tc : Thread Cert.WcastIdeal.nD Cert.WcastIdeal.τ).loc Cert.WcastIdeal.main_arg0))
      ∧ θ_run (Cert.WcastRefIdeal.defs (F := Ideal)) (onTc (τ := Cert.WcastRefIdeal.τ) (Cert.WcastRefIdeal.main (F := Ideal))) ⟨m', fun _ => 0, g'⟩ (fun r => ∀ c : Dev Cert.WcastRefIdeal.nD,
          r.2.mem ((c.tc : Thread Cert.WcastRefIdeal.nD Cert.WcastRefIdeal.τ).loc Cert.WcastRefIdeal.main_v5) = v0 c
          ∧ r.2.mem ((c.tc : Thread Cert.WcastRefIdeal.nD Cert.WcastRefIdeal.τ).loc Cert.WcastRefIdeal.main_arg0) = m' ((c.tc : Thread Cert.WcastRefIdeal.nD Cert.WcastRefIdeal.τ).loc Cert.WcastRefIdeal.main_arg0))

def preserves_S5prep_S5prepIdeal : Prop :=
  True

def Claim : Prop :=
  ∃ (hKernel : Cert.Kernel.Facts) (hKernelIdeal : Cert.KernelIdeal.Facts) (hReferenceIdeal : Cert.ReferenceIdeal.Facts) (hInproj : Cert.Inproj.Facts) (hInprojIdeal : Cert.InprojIdeal.Facts) (hInprojRefIdeal : Cert.InprojRefIdeal.Facts) (hGlu : Cert.Glu.Facts) (hGluIdeal : Cert.GluIdeal.Facts) (hGluRefIdeal : Cert.GluRefIdeal.Facts) (hOutproj : Cert.Outproj.Facts) (hOutprojIdeal : Cert.OutprojIdeal.Facts) (hOutprojRefIdeal : Cert.OutprojRefIdeal.Facts) (hAdaln : Cert.Adaln.Facts) (hAdalnIdeal : Cert.AdalnIdeal.Facts) (hAdalnRefIdeal : Cert.AdalnRefIdeal.Facts) (hModulate : Cert.Modulate.Facts) (hModulateIdeal : Cert.ModulateIdeal.Facts) (hModulateRefIdeal : Cert.ModulateRefIdeal.Facts) (hWcast : Cert.Wcast.Facts) (hWcastIdeal : Cert.WcastIdeal.Facts) (hWcastRefIdeal : Cert.WcastRefIdeal.Facts) (hS5prep : Cert.S5prep.Facts) (hS5prepIdeal : Cert.S5prepIdeal.Facts) (hPre_finite : Cert.Pre_finite.Facts) (hPre_glu_finite : Cert.Pre_glu_finite.Facts) (hPre_adaln_finite : Cert.Pre_adaln_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Inproj (hInproj := hInproj)
    ∧ quiescent_InprojIdeal (hInprojIdeal := hInprojIdeal)
    ∧ quiescent_InprojRefIdeal (hInprojRefIdeal := hInprojRefIdeal)
    ∧ quiescent_Glu (hGlu := hGlu)
    ∧ quiescent_GluIdeal (hGluIdeal := hGluIdeal)
    ∧ quiescent_GluIdeal_pre_glu_finite (hGluIdeal := hGluIdeal) (hPre_glu_finite := hPre_glu_finite)
    ∧ quiescent_GluRefIdeal (hGluRefIdeal := hGluRefIdeal)
    ∧ quiescent_GluRefIdeal_pre_glu_finite (hGluRefIdeal := hGluRefIdeal) (hPre_glu_finite := hPre_glu_finite)
    ∧ quiescent_Outproj (hOutproj := hOutproj)
    ∧ quiescent_OutprojIdeal (hOutprojIdeal := hOutprojIdeal)
    ∧ quiescent_OutprojRefIdeal (hOutprojRefIdeal := hOutprojRefIdeal)
    ∧ quiescent_Adaln (hAdaln := hAdaln)
    ∧ quiescent_AdalnIdeal (hAdalnIdeal := hAdalnIdeal)
    ∧ quiescent_AdalnIdeal_pre_adaln_finite (hAdalnIdeal := hAdalnIdeal) (hPre_adaln_finite := hPre_adaln_finite)
    ∧ quiescent_AdalnRefIdeal (hAdalnRefIdeal := hAdalnRefIdeal)
    ∧ quiescent_AdalnRefIdeal_pre_adaln_finite (hAdalnRefIdeal := hAdalnRefIdeal) (hPre_adaln_finite := hPre_adaln_finite)
    ∧ quiescent_Modulate (hModulate := hModulate)
    ∧ quiescent_ModulateIdeal (hModulateIdeal := hModulateIdeal)
    ∧ quiescent_ModulateRefIdeal (hModulateRefIdeal := hModulateRefIdeal)
    ∧ quiescent_Wcast (hWcast := hWcast)
    ∧ quiescent_WcastIdeal (hWcastIdeal := hWcastIdeal)
    ∧ quiescent_WcastRefIdeal (hWcastRefIdeal := hWcastRefIdeal)
    ∧ quiescent_S5prep (hS5prep := hS5prep)
    ∧ quiescent_S5prepIdeal (hS5prepIdeal := hS5prepIdeal)
    ∧ preserves_Kernel_KernelIdeal
    ∧ algebraic_KernelIdeal_ReferenceIdeal_pre_finite (hKernelIdeal := hKernelIdeal) (hReferenceIdeal := hReferenceIdeal) (hPre_finite := hPre_finite)
    ∧ preserves_Inproj_InprojIdeal
    ∧ algebraic_InprojIdeal_InprojRefIdeal (hInprojIdeal := hInprojIdeal) (hInprojRefIdeal := hInprojRefIdeal)
    ∧ preserves_Glu_GluIdeal
    ∧ algebraic_GluIdeal_GluRefIdeal_pre_glu_finite (hGluIdeal := hGluIdeal) (hGluRefIdeal := hGluRefIdeal) (hPre_glu_finite := hPre_glu_finite)
    ∧ preserves_Outproj_OutprojIdeal
    ∧ algebraic_OutprojIdeal_OutprojRefIdeal (hOutprojIdeal := hOutprojIdeal) (hOutprojRefIdeal := hOutprojRefIdeal)
    ∧ preserves_Adaln_AdalnIdeal
    ∧ algebraic_AdalnIdeal_AdalnRefIdeal_pre_adaln_finite (hAdalnIdeal := hAdalnIdeal) (hAdalnRefIdeal := hAdalnRefIdeal) (hPre_adaln_finite := hPre_adaln_finite)
    ∧ preserves_Modulate_ModulateIdeal
    ∧ algebraic_ModulateIdeal_ModulateRefIdeal (hModulateIdeal := hModulateIdeal) (hModulateRefIdeal := hModulateRefIdeal)
    ∧ preserves_Wcast_WcastIdeal
    ∧ algebraic_WcastIdeal_WcastRefIdeal (hWcastIdeal := hWcastIdeal) (hWcastRefIdeal := hWcastRefIdeal)
    ∧ preserves_S5prep_S5prepIdeal
-- ==== Pre_adaln_finite.lean ====
abbrev S8x4096 : Shape := ⟨2, ![8, 4096]⟩
abbrev S1x4096x12288 : Shape := ⟨3, ![1, 4096, 12288]⟩
abbrev S1x12288 : Shape := ⟨2, ![1, 12288]⟩
abbrev S_ : Shape := ⟨0, ![]⟩

class Facts : Prop where
  bcast_S_S8x4096 : S_.BroadcastsInDim S8x4096 (![] : Fin 0 → Fin S8x4096.rank)
  reducesTo_S8x4096_S_d0_1 : S8x4096.ReducesTo [0, 1] S_
  h_S_ : 0 < S_.numel
  bcast_S_S1x4096x12288 : S_.BroadcastsInDim S1x4096x12288 (![] : Fin 0 → Fin S1x4096x12288.rank)
  reducesTo_S1x4096x12288_S_d0_1_2 : S1x4096x12288.ReducesTo [0, 1, 2] S_

variable [Facts]

def fn {F : FTy → Type} [FloatOps F] (main_arg0 : FVec F S8x4096 .f32) (main_arg1 : FVec F S1x4096x12288 .f32) (main_arg2 : FVec F S1x12288 .f32) : IVec S_ 1 :=
  let main_v0 : FVec F S8x4096 .f32 := Host.absf main_arg0
  let main_cst : FVec F S_ .f32 := constant S_ .f32 0x7F800000#32
  let main_v1 : FVec F S8x4096 .f32 := broadcastInDim S8x4096 ![] bcast_S_S8x4096 main_cst
  let main_v2 : IVec S8x4096 1 := cmpf .olt main_v0 main_v1
  let main_c : IVec S_ 1 := constantI S_ 1 1#1
  let main_v3 : IVec S_ 1 := (fun x v => Host.reduce IntOp.andi x v reducesTo_S8x4096_S_d0_1 h_S_) main_v2 main_c
  let main_v4 : FVec F S1x4096x12288 .f32 := Host.absf main_arg1
  let main_cst_0 : FVec F S_ .f32 := constant S_ .f32 0x7F800000#32
  let main_v5 : FVec F S1x4096x12288 .f32 := broadcastInDim S1x4096x12288 ![] bcast_S_S1x4096x12288 main_cst_0
  let main_v6 : IVec S1x4096x12288 1 := cmpf .olt main_v4 main_v5
  let main_c_1 : IVec S_ 1 := constantI S_ 1 1#1
  let main_v7 : IVec S_ 1 := (fun x v => Host.reduce IntOp.andi x v reducesTo_S1x4096x12288_S_d0_1_2 h_S_) main_v6 main_c_1
  let main_v8 : IVec S_ 1 := andi main_v3 main_v7
  main_v8
-- ==== Pre_finite.lean ====
abbrev S16384x10240 : Shape := ⟨2, ![16384, 10240]⟩
abbrev S16384x128 : Shape := ⟨2, ![16384, 128]⟩
abbrev S1x16x1024 : Shape := ⟨3, ![1, 16, 1024]⟩
abbrev S1x1024 : Shape := ⟨2, ![1, 1024]⟩
abbrev S1x512 : Shape := ⟨2, ![1, 512]⟩
abbrev S_ : Shape := ⟨0, ![]⟩

class Facts : Prop where
  bitsLt_bf16_f32 : FTy.bits .bf16 < FTy.bits .f32
  bcast_S_S16384x10240 : S_.BroadcastsInDim S16384x10240 (![] : Fin 0 → Fin S16384x10240.rank)
  reducesTo_S16384x10240_S_d0_1 : S16384x10240.ReducesTo [0, 1] S_
  h_S_ : 0 < S_.numel
  bcast_S_S16384x128 : S_.BroadcastsInDim S16384x128 (![] : Fin 0 → Fin S16384x128.rank)
  reducesTo_S16384x128_S_d0_1 : S16384x128.ReducesTo [0, 1] S_
  bcast_S_S1x16x1024 : S_.BroadcastsInDim S1x16x1024 (![] : Fin 0 → Fin S1x16x1024.rank)
  reducesTo_S1x16x1024_S_d0_1_2 : S1x16x1024.ReducesTo [0, 1, 2] S_
  bcast_S_S1x1024 : S_.BroadcastsInDim S1x1024 (![] : Fin 0 → Fin S1x1024.rank)
  reducesTo_S1x1024_S_d0_1 : S1x1024.ReducesTo [0, 1] S_

variable [Facts]

def fn_part1 {F : FTy → Type} [FloatOps F] (main_v14 : IVec S_ 1) (main_v15 : FVec F S1x1024 .f32) (main_v16 : FVec F S1x1024 .f32) : IVec S_ 1 :=
  let main_v17 : IVec S1x1024 1 := cmpf .olt main_v15 main_v16
  let main_c_5 : IVec S_ 1 := constantI S_ 1 1#1
  let main_v18 : IVec S_ 1 := (fun x v => Host.reduce IntOp.andi x v reducesTo_S1x1024_S_d0_1 h_S_) main_v17 main_c_5
  let main_v19 : IVec S_ 1 := andi main_v14 main_v18
  main_v19

def fn {F : FTy → Type} [FloatOps F] (main_arg0 : FVec F S16384x10240 .bf16) (main_arg1 : FVec F S16384x128 .f32) (main_arg2 : FVec F S1x16x1024 .f32) (main_arg3 : FVec F S1x1024 .f32) (main_arg4 : FVec F S1x512 .f32) : IVec S_ 1 :=
  let main_v0 : FVec F S16384x10240 .f32 := (extf .f32 · bitsLt_bf16_f32) main_arg0
  let main_v1 : FVec F S16384x10240 .f32 := Host.absf main_v0
  let main_cst : FVec F S_ .f32 := constant S_ .f32 0x7F800000#32
  let main_v2 : FVec F S16384x10240 .f32 := broadcastInDim S16384x10240 ![] bcast_S_S16384x10240 main_cst
  let main_v3 : IVec S16384x10240 1 := cmpf .olt main_v1 main_v2
  let main_c : IVec S_ 1 := constantI S_ 1 1#1
  let main_v4 : IVec S_ 1 := (fun x v => Host.reduce IntOp.andi x v reducesTo_S16384x10240_S_d0_1 h_S_) main_v3 main_c
  let main_v5 : FVec F S16384x128 .f32 := Host.absf main_arg1
  let main_cst_0 : FVec F S_ .f32 := constant S_ .f32 0x7F800000#32
  let main_v6 : FVec F S16384x128 .f32 := broadcastInDim S16384x128 ![] bcast_S_S16384x128 main_cst_0
  let main_v7 : IVec S16384x128 1 := cmpf .olt main_v5 main_v6
  let main_c_1 : IVec S_ 1 := constantI S_ 1 1#1
  let main_v8 : IVec S_ 1 := (fun x v => Host.reduce IntOp.andi x v reducesTo_S16384x128_S_d0_1 h_S_) main_v7 main_c_1
  let main_v9 : IVec S_ 1 := andi main_v4 main_v8
  let main_v10 : FVec F S1x16x1024 .f32 := Host.absf main_arg2
  let main_cst_2 : FVec F S_ .f32 := constant S_ .f32 0x7F800000#32
  let main_v11 : FVec F S1x16x1024 .f32 := broadcastInDim S1x16x1024 ![] bcast_S_S1x16x1024 main_cst_2
  let main_v12 : IVec S1x16x1024 1 := cmpf .olt main_v10 main_v11
  let main_c_3 : IVec S_ 1 := constantI S_ 1 1#1
  let main_v13 : IVec S_ 1 := (fun x v => Host.reduce IntOp.andi x v reducesTo_S1x16x1024_S_d0_1_2 h_S_) main_v12 main_c_3
  let main_v14 : IVec S_ 1 := andi main_v9 main_v13
  let main_v15 : FVec F S1x1024 .f32 := Host.absf main_arg3
  let main_cst_4 : FVec F S_ .f32 := constant S_ .f32 0x7F800000#32
  let main_v16 : FVec F S1x1024 .f32 := broadcastInDim S1x1024 ![] bcast_S_S1x1024 main_cst_4
  fn_part1 (F := F) main_v14 main_v15 main_v16
-- ==== Pre_glu_finite.lean ====
abbrev S16384x2048 : Shape := ⟨2, ![16384, 2048]⟩
abbrev S16384x10240 : Shape := ⟨2, ![16384, 10240]⟩
abbrev S2048x2048 : Shape := ⟨2, ![2048, 2048]⟩
abbrev S2048 : Shape := ⟨1, ![2048]⟩
abbrev S_ : Shape := ⟨0, ![]⟩

class Facts : Prop where
  bitsLt_bf16_f32 : FTy.bits .bf16 < FTy.bits .f32
  bcast_S_S16384x10240 : S_.BroadcastsInDim S16384x10240 (![] : Fin 0 → Fin S16384x10240.rank)
  reducesTo_S16384x10240_S_d0_1 : S16384x10240.ReducesTo [0, 1] S_
  h_S_ : 0 < S_.numel

variable [Facts]

def fn {F : FTy → Type} [FloatOps F] (main_arg0 : FVec F S16384x2048 .bf16) (main_arg1 : FVec F S16384x10240 .bf16) (main_arg2 : FVec F S2048x2048 .f32) (main_arg3 : FVec F S2048 .f32) : IVec S_ 1 :=
  let main_v0 : FVec F S16384x10240 .f32 := (extf .f32 · bitsLt_bf16_f32) main_arg1
  let main_v1 : FVec F S16384x10240 .f32 := Host.absf main_v0
  let main_cst : FVec F S_ .f32 := constant S_ .f32 0x7F800000#32
  let main_v2 : FVec F S16384x10240 .f32 := broadcastInDim S16384x10240 ![] bcast_S_S16384x10240 main_cst
  let main_v3 : IVec S16384x10240 1 := cmpf .olt main_v1 main_v2
  let main_c : IVec S_ 1 := constantI S_ 1 1#1
  let main_v4 : IVec S_ 1 := (fun x v => Host.reduce IntOp.andi x v reducesTo_S16384x10240_S_d0_1 h_S_) main_v3 main_c
  main_v4
-- ==== Kernel.lean ====
abbrev S16384x10240 : Shape := ⟨2, ![16384, 10240]⟩
abbrev S16384x128 : Shape := ⟨2, ![16384, 128]⟩
abbrev S1x16x1024 : Shape := ⟨3, ![1, 16, 1024]⟩
abbrev S1x1024 : Shape := ⟨2, ![1, 1024]⟩
abbrev S1x512 : Shape := ⟨2, ![1, 512]⟩
abbrev S16x1024 : Shape := ⟨2, ![16, 1024]⟩
abbrev S1024 : Shape := ⟨1, ![1024]⟩
abbrev S512 : Shape := ⟨1, ![512]⟩
abbrev S_ : Shape := ⟨0, ![]⟩
abbrev S128x1024 : Shape := ⟨2, ![128, 1024]⟩
abbrev S1 : Shape := ⟨1, ![1]⟩
abbrev S16384x2048 : Shape := ⟨2, ![16384, 2048]⟩
abbrev S2048x256 : Shape := ⟨2, ![2048, 256]⟩
abbrev S2048x512 : Shape := ⟨2, ![2048, 512]⟩
abbrev S2048x128 : Shape := ⟨2, ![2048, 128]⟩
abbrev S128x256 : Shape := ⟨2, ![128, 256]⟩
abbrev S1x256 : Shape := ⟨2, ![1, 256]⟩
abbrev S512x256 : Shape := ⟨2, ![512, 256]⟩
abbrev S256x256 : Shape := ⟨2, ![256, 256]⟩
abbrev S128x128 : Shape := ⟨2, ![128, 128]⟩
abbrev S64x256 : Shape := ⟨2, ![64, 256]⟩
abbrev S256x512 : Shape := ⟨2, ![256, 512]⟩
abbrev S2048 : Shape := ⟨1, ![2048]⟩
abbrev S2048x1 : Shape := ⟨2, ![2048, 1]⟩

abbrev nBuf : Space → Nat
  | .hbm => 16
  | .vmem => 18
  | .smem => 0
  | _ => 0

abbrev bufTy : (tb : Table) → Fin (tcTables nBuf tb) → BufTy
  | .hbm, ⟨0, _⟩ => ⟨S16384x10240, .bf16⟩
  | .hbm, ⟨1, _⟩ => ⟨S16384x128, .f32⟩
  | .hbm, ⟨2, _⟩ => ⟨S1x16x1024, .f32⟩
  | .hbm, ⟨3, _⟩ => ⟨S1x1024, .f32⟩
  | .hbm, ⟨4, _⟩ => ⟨S1x512, .f32⟩
  | .hbm, ⟨5, _⟩ => ⟨S16x1024, .f32⟩
  | .hbm, ⟨6, _⟩ => ⟨S1024, .f32⟩
  | .hbm, ⟨7, _⟩ => ⟨S512, .f32⟩
  | .hbm, ⟨8, _⟩ => ⟨S_, .f32⟩
  | .hbm, ⟨9, _⟩ => ⟨S128x1024, .f32⟩
  | .hbm, ⟨10, _⟩ => ⟨S_, .i32⟩
  | .hbm, ⟨11, _⟩ => ⟨S1, .i32⟩
  | .hbm, ⟨12, _⟩ => ⟨S128x1024, .f32⟩
  | .hbm, ⟨13, _⟩ => ⟨S1x1024, .f32⟩
  | .hbm, ⟨14, _⟩ => ⟨S1x512, .f32⟩
  | .hbm, ⟨15, _⟩ => ⟨S16384x2048, .bf16⟩
  | .local _ .vmem, ⟨0, _⟩ => ⟨S2048x256, .bf16⟩
  | .local _ .vmem, ⟨1, _⟩ => ⟨S2048x256, .bf16⟩
  | .local _ .vmem, ⟨2, _⟩ => ⟨S2048x256, .bf16⟩
  | .local _ .vmem, ⟨3, _⟩ => ⟨S2048x256, .bf16⟩
  | .local _ .vmem, ⟨4, _⟩ => ⟨S2048x512, .bf16⟩
  | .local _ .vmem, ⟨5, _⟩ => ⟨S2048x512, .bf16⟩
  | .local _ .vmem, ⟨6, _⟩ => ⟨S2048x128, .f32⟩
  | .local _ .vmem, ⟨7, _⟩ => ⟨S2048x128, .f32⟩
  | .local _ .vmem, ⟨8, _⟩ => ⟨S2048x512, .bf16⟩
  | .local _ .vmem, ⟨9, _⟩ => ⟨S2048x512, .bf16⟩
  | .local _ .vmem, ⟨10, _⟩ => ⟨S128x256, .f32⟩
  | .local _ .vmem, ⟨11, _⟩ => ⟨S128x256, .f32⟩
  | .local _ .vmem, ⟨12, _⟩ => ⟨S1x256, .f32⟩
  | .local _ .vmem, ⟨13, _⟩ => ⟨S1x256, .f32⟩
  | .local _ .vmem, ⟨14, _⟩ => ⟨S1x512, .f32⟩
  | .local _ .vmem, ⟨15, _⟩ => ⟨S2048x512, .bf16⟩
  | .local _ .vmem, ⟨16, _⟩ => ⟨S2048x512, .bf16⟩
  | .local _ .vmem, ⟨17, _⟩ => ⟨S512x256, .f32⟩
  | _, _ => ⟨S16384x10240, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_c : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg8_1 : Ref sig .tc := ⟨.vmem, 16, rfl⟩
abbrev cc0_scratch0 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem8_1 : DmaSem sig := 16

abbrev nD : Nat := 1
abbrev τ : Topo := Topo.v7x

variable {F : FTy → Type} [FloatOps F]

abbrev grid0 : Pipeline.Grid := ⟨3, ![4, 4, 2], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli arg0 c2_i32
  let v1 : BitVec 32 := Scalar.addi v0 arg2
  let c0_i32 : BitVec 32 := 0#32
  let v2 : BitVec 32 := Scalar.addi c0_i32 arg1
  let c0_i32_0 : BitVec 32 := 0#32
  ![v1.toNat, v2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli arg0 c2_i32
  let v1 : BitVec 32 := Scalar.addi v0 arg2
  let c4_i32 : BitVec 32 := 4#32
  let v2 : BitVec 32 := Scalar.addi c4_i32 arg1
  let c0_i32 : BitVec 32 := 0#32
  ![v1.toNat, v2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli arg0 c2_i32
  let v1 : BitVec 32 := Scalar.addi v0 arg2
  let c4_i32 : BitVec 32 := 4#32
  let v2 : BitVec 32 := Scalar.addi c4_i32 arg1
  let c0_i32 : BitVec 32 := 0#32
  ![v1.toNat, v2.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli arg0 c2_i32
  let v1 : BitVec 32 := Scalar.addi v0 arg2
  let c0_i32 : BitVec 32 := 0#32
  let c0_i32_0 : BitVec 32 := 0#32
  ![v1.toNat, c0_i32.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli arg0 c2_i32
  let v1 : BitVec 32 := Scalar.addi v0 arg2
  let c8_i32 : BitVec 32 := 8#32
  let v2 : BitVec 32 := Scalar.addi c8_i32 arg1
  let c0_i32 : BitVec 32 := 0#32
  ![v1.toNat, v2.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli arg0 c2_i32
  let v1 : BitVec 32 := Scalar.addi v0 arg2
  let c0_i32 : BitVec 32 := 0#32
  ![v1.toNat, arg1.toNat]

abbrev stage0_0 : Fin 2 → Memref sig .tc .vmem S2048x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S2048x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S2048x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, true]

abbrev stage0_4 : Fin 2 → Memref sig .tc .vmem S2048x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

abbrev stage0_5 : Fin 2 → Memref sig .tc .vmem S128x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true, false]

abbrev stage0_6 : Fin 2 → Memref sig .tc .vmem S1x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true, false]

abbrev stage0_7 : Fin 1 → Memref sig .tc .vmem S1x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false, false]

abbrev stage0_8 : Fin 2 → Memref sig .tc .vmem S2048x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, true]
-- ==== ReferenceIdeal.lean ====
abbrev S16384x10240 : Shape := ⟨2, ![16384, 10240]⟩
abbrev S16384x128 : Shape := ⟨2, ![16384, 128]⟩
abbrev S1x16x1024 : Shape := ⟨3, ![1, 16, 1024]⟩
abbrev S1x1024 : Shape := ⟨2, ![1, 1024]⟩
abbrev S1x512 : Shape := ⟨2, ![1, 512]⟩
abbrev S16384x1024 : Shape := ⟨2, ![16384, 1024]⟩
abbrev S16384x2048 : Shape := ⟨2, ![16384, 2048]⟩
abbrev S4x4096x4x256 : Shape := ⟨4, ![4, 4096, 4, 256]⟩
abbrev S_ : Shape := ⟨0, ![]⟩
abbrev S4x4096x4x512 : Shape := ⟨4, ![4, 4096, 4, 512]⟩
abbrev S16384x16 : Shape := ⟨2, ![16384, 16]⟩
abbrev S16x1024 : Shape := ⟨2, ![16, 1024]⟩
abbrev S1024 : Shape := ⟨1, ![1024]⟩
abbrev S4x64x64x4x256 : Shape := ⟨5, ![4, 64, 64, 4, 256]⟩
abbrev S64x4x4x64x256 : Shape := ⟨5, ![64, 4, 4, 64, 256]⟩
abbrev S4x64x64x4x512 : Shape := ⟨5, ![4, 64, 64, 4, 512]⟩
abbrev S64x4x4x64x512 : Shape := ⟨5, ![64, 4, 4, 64, 512]⟩
abbrev S64x64 : Shape := ⟨2, ![64, 64]⟩
abbrev S4x4x256x512 : Shape := ⟨4, ![4, 4, 256, 512]⟩
abbrev S1x4x4x64x256 : Shape := ⟨5, ![1, 4, 4, 64, 256]⟩
abbrev S4x4x64x256 : Shape := ⟨4, ![4, 4, 64, 256]⟩
abbrev S1x4x4x64x512 : Shape := ⟨5, ![1, 4, 4, 64, 512]⟩
abbrev S4x4x64x512 : Shape := ⟨4, ![4, 4, 64, 512]⟩
abbrev S4x4x1x256 : Shape := ⟨4, ![4, 4, 1, 256]⟩
abbrev S4x4x64x64 : Shape := ⟨4, ![4, 4, 64, 64]⟩
abbrev S4x4x256 : Shape := ⟨3, ![4, 4, 256]⟩
abbrev S4x4x256x1 : Shape := ⟨4, ![4, 4, 256, 1]⟩
abbrev S4x4096x4 : Shape := ⟨3, ![4, 4096, 4]⟩
abbrev S4x4096x4x1 : Shape := ⟨4, ![4, 4096, 4, 1]⟩
abbrev S512 : Shape := ⟨1, ![512]⟩
abbrev S1x1x1x512 : Shape := ⟨4, ![1, 1, 1, 512]⟩

abbrev nBuf : Space → Nat
  | .hbm => 172
  | .vmem => 0
  | .smem => 0
  | _ => 0

abbrev hbmTy0_0 (i : Nat) : BufTy := match i % 128 with
  | 0 => ⟨S16384x10240, .bf16⟩
  | 1 => ⟨S16384x128, .f32⟩
  | 2 => ⟨S1x16x1024, .f32⟩
  | 3 => ⟨S1x1024, .f32⟩
  | 4 => ⟨S1x512, .f32⟩
  | 5 => ⟨S16384x1024, .bf16⟩
  | 6 => ⟨S16384x1024, .f32⟩
  | 7 => ⟨S16384x1024, .bf16⟩
  | 8 => ⟨S16384x1024, .f32⟩
  | 9 => ⟨S16384x2048, .bf16⟩
  | 10 => ⟨S16384x2048, .f32⟩
  | 11 => ⟨S4x4096x4x256, .f32⟩
  | 12 => ⟨S_, .f32⟩
  | 13 => ⟨S4x4096x4x256, .f32⟩
  | 14 => ⟨S4x4096x4x256, .f32⟩
  | 15 => ⟨S4x4096x4x256, .f32⟩
  | 16 => ⟨S4x4096x4x512, .f32⟩
  | 17 => ⟨S16384x16, .f32⟩
  | 18 => ⟨S16x1024, .f32⟩
  | 19 => ⟨S16384x1024, .f32⟩
  | 20 => ⟨S1024, .f32⟩
  | 21 => ⟨S1x1024, .f32⟩
  | 22 => ⟨S16384x1024, .f32⟩
  | 23 => ⟨S16384x1024, .f32⟩
  | 24 => ⟨S16384x1024, .f32⟩
  | 25 => ⟨S_, .f32⟩
  | 26 => ⟨S16384x1024, .f32⟩
  | 27 => ⟨S16384x1024, .f32⟩
  | 28 => ⟨S16384x1024, .f32⟩
  | 29 => ⟨S16384x1024, .f32⟩
  | 30 => ⟨S16384x1024, .i1⟩
  | 31 => ⟨S16384x1024, .f32⟩
  | 32 => ⟨S16384x1024, .f32⟩
  | 33 => ⟨S16384x1024, .f32⟩
  | 34 => ⟨S16384x1024, .f32⟩
  | 35 => ⟨S16384x1024, .f32⟩
  | 36 => ⟨S16384x1024, .f32⟩
  | 37 => ⟨S16384x1024, .f32⟩
  | 38 => ⟨S16384x1024, .f32⟩
  | 39 => ⟨S16384x1024, .f32⟩
  | 40 => ⟨S_, .f32⟩
  | 41 => ⟨S16384x1024, .f32⟩
  | 42 => ⟨S16384x1024, .f32⟩
  | 43 => ⟨S4x4096x4x256, .f32⟩
  | 44 => ⟨S4x64x64x4x256, .f32⟩
  | 45 => ⟨S64x4x4x64x256, .f32⟩
  | 46 => ⟨S4x64x64x4x256, .f32⟩
  | 47 => ⟨S64x4x4x64x256, .f32⟩
  | 48 => ⟨S4x64x64x4x512, .f32⟩
  | 49 => ⟨S64x4x4x64x512, .f32⟩
  | 50 => ⟨S4x64x64x4x256, .f32⟩
  | 51 => ⟨S64x4x4x64x256, .f32⟩
  | 52 => ⟨S_, .i1⟩
  | 53 => ⟨S64x64, .i1⟩
  | 54 => ⟨S64x64, .i32⟩
  | 55 => ⟨S_, .i32⟩
  | 56 => ⟨S64x64, .i32⟩
  | 57 => ⟨S64x64, .i32⟩
  | 58 => ⟨S64x64, .i32⟩
  | 59 => ⟨S64x64, .i1⟩
  | 60 => ⟨S_, .i1⟩
  | 61 => ⟨S64x64, .i1⟩
  | 62 => ⟨S64x64, .i1⟩
  | 63 => ⟨S_, .f32⟩
  | 64 => ⟨S4x4x256x512, .f32⟩
  | 65 => ⟨S_, .f32⟩
  | 66 => ⟨S64x4x4x64x512, .f32⟩
  | 67 => ⟨S_, .i32⟩
  | 68 => ⟨S64x4x4x64x256, .f32⟩
  | 69 => ⟨S64x4x4x64x256, .f32⟩
  | 70 => ⟨S64x4x4x64x512, .f32⟩
  | 71 => ⟨S64x4x4x64x256, .f32⟩
  | 72 => ⟨S64x64, .i1⟩
  | 73 => ⟨S_, .i32⟩
  | 74 => ⟨S4x4x256x512, .f32⟩
  | 75 => ⟨S64x4x4x64x512, .f32⟩
  | 76 => ⟨S_, .i32⟩
  | 77 => ⟨S_, .i1⟩
  | 78 => ⟨S_, .i32⟩
  | 79 => ⟨S_, .i32⟩
  | 80 => ⟨S_, .i32⟩
  | 81 => ⟨S_, .i32⟩
  | 82 => ⟨S1x4x4x64x256, .f32⟩
  | 83 => ⟨S4x4x64x256, .f32⟩
  | 84 => ⟨S_, .i32⟩
  | 85 => ⟨S_, .i32⟩
  | 86 => ⟨S_, .i32⟩
  | 87 => ⟨S_, .i32⟩
  | 88 => ⟨S1x4x4x64x256, .f32⟩
  | 89 => ⟨S4x4x64x256, .f32⟩
  | 90 => ⟨S_, .i32⟩
  | 91 => ⟨S_, .i32⟩
  | 92 => ⟨S_, .i32⟩
  | 93 => ⟨S_, .i32⟩
  | 94 => ⟨S1x4x4x64x512, .f32⟩
  | 95 => ⟨S4x4x64x512, .f32⟩
  | 96 => ⟨S_, .i32⟩
  | 97 => ⟨S_, .i32⟩
  | 98 => ⟨S_, .i32⟩
  | 99 => ⟨S_, .i32⟩
  | 100 => ⟨S1x4x4x64x256, .f32⟩
  | 101 => ⟨S4x4x64x256, .f32⟩
  | 102 => ⟨S_, .f32⟩
  | 103 => ⟨S_, .f32⟩
  | 104 => ⟨S4x4x64x256, .f32⟩
  | 105 => ⟨S4x4x1x256, .f32⟩
  | 106 => ⟨S4x4x64x256, .f32⟩
  | 107 => ⟨S4x4x64x256, .f32⟩
  | 108 => ⟨S4x4x64x256, .f32⟩
  | 109 => ⟨S4x4x64x256, .f32⟩
  | 110 => ⟨S4x4x64x256, .f32⟩
  | 111 => ⟨S4x4x64x64, .f32⟩
  | 112 => ⟨S_, .f32⟩
  | 113 => ⟨S_, .f32⟩
  | 114 => ⟨S4x4x64x64, .i1⟩
  | 115 => ⟨S4x4x64x64, .f32⟩
  | 116 => ⟨S4x4x64x64, .f32⟩
  | 117 => ⟨S4x4x64x512, .f32⟩
  | 118 => ⟨S4x4x64x512, .f32⟩
  | 119 => ⟨S4x4x64x512, .f32⟩
  | 120 => ⟨S4x4x64x256, .f32⟩
  | 121 => ⟨S4x4x64x256, .f32⟩
  | 122 => ⟨S4x4x64x256, .f32⟩
  | 123 => ⟨S4x4x64x256, .f32⟩
  | 124 => ⟨S4x4x256, .f32⟩
  | 125 => ⟨S4x4x256, .f32⟩
  | 126 => ⟨S4x4x256x1, .f32⟩
  | 127 => ⟨S4x4x256x512, .f32⟩
  | _ => ⟨S16384x10240, .bf16⟩

abbrev hbmTy0_1 (i : Nat) : BufTy := match i % 128 with
  | 0 => ⟨S4x4x256x512, .f32⟩
  | 1 => ⟨S4x4x256x512, .f32⟩
  | 2 => ⟨S4x4x256x512, .f32⟩
  | 3 => ⟨S1x4x4x64x512, .f32⟩
  | 4 => ⟨S_, .i32⟩
  | 5 => ⟨S_, .i32⟩
  | 6 => ⟨S_, .i32⟩
  | 7 => ⟨S_, .i32⟩
  | 8 => ⟨S64x4x4x64x512, .f32⟩
  | 9 => ⟨S_, .i32⟩
  | 10 => ⟨S_, .i32⟩
  | 11 => ⟨S4x64x64x4x512, .f32⟩
  | 12 => ⟨S4x4096x4x512, .f32⟩
  | 13 => ⟨S4x4096x4x512, .f32⟩
  | 14 => ⟨S_, .f32⟩
  | 15 => ⟨S4x4096x4, .f32⟩
  | 16 => ⟨S4x4096x4x1, .f32⟩
  | 17 => ⟨S_, .f32⟩
  | 18 => ⟨S4x4096x4x1, .f32⟩
  | 19 => ⟨S4x4096x4x1, .f32⟩
  | 20 => ⟨S_, .f32⟩
  | 21 => ⟨S4x4096x4x1, .f32⟩
  | 22 => ⟨S4x4096x4x1, .f32⟩
  | 23 => ⟨S4x4096x4x1, .f32⟩
  | 24 => ⟨S4x4096x4x512, .f32⟩
  | 25 => ⟨S4x4096x4x512, .f32⟩
  | 26 => ⟨S512, .f32⟩
  | 27 => ⟨S1x1x1x512, .f32⟩
  | 28 => ⟨S4x4096x4x512, .f32⟩
  | 29 => ⟨S4x4096x4x512, .f32⟩
  | 30 => ⟨S16384x2048, .bf16⟩
  | 31 => ⟨S16384x2048, .f32⟩
  | 32 => ⟨S16384x2048, .f32⟩
  | 33 => ⟨S16384x2048, .f32⟩
  | 34 => ⟨S16384x2048, .f32⟩
  | 35 => ⟨S_, .f32⟩
  | 36 => ⟨S16384x2048, .f32⟩
  | 37 => ⟨S16384x2048, .f32⟩
  | 38 => ⟨S_, .f32⟩
  | 39 => ⟨S16384x2048, .f32⟩
  | 40 => ⟨S16384x2048, .f32⟩
  | 41 => ⟨S16384x2048, .f32⟩
  | 42 => ⟨S16384x2048, .f32⟩
  | 43 => ⟨S16384x2048, .bf16⟩
  | _ => ⟨S16384x10240, .bf16⟩

abbrev hbmTy (i : Nat) : BufTy := match i / 128 with
  | 0 => hbmTy0_0 i
  | 1 => hbmTy0_1 i
  | _ => ⟨S16384x10240, .bf16⟩

abbrev bufTy : (tb : Table) → Fin (tcTables nBuf tb) → BufTy
  | .hbm, ⟨i, _⟩ => hbmTy i
  | _, _ => ⟨S16384x10240, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_call0_cst : Ref sig .tc := ⟨.hbm, 25, rfl⟩
abbrev main_call0_v0 : Ref sig .tc := ⟨.hbm, 26, rfl⟩
abbrev main_call0_v1 : Ref sig .tc := ⟨.hbm, 27, rfl⟩
abbrev main_call0_v2 : Ref sig .tc := ⟨.hbm, 28, rfl⟩
abbrev main_call0_v3 : Ref sig .tc := ⟨.hbm, 29, rfl⟩
abbrev main_call0_v4 : Ref sig .tc := ⟨.hbm, 30, rfl⟩
abbrev main_call0_v5 : Ref sig .tc := ⟨.hbm, 31, rfl⟩
abbrev main_call0_v6 : Ref sig .tc := ⟨.hbm, 32, rfl⟩
abbrev main_call0_v7 : Ref sig .tc := ⟨.hbm, 33, rfl⟩
abbrev main_call0_v8 : Ref sig .tc := ⟨.hbm, 34, rfl⟩
abbrev main_call0_v9 : Ref sig .tc := ⟨.hbm, 35, rfl⟩
abbrev main_call0_v10 : Ref sig .tc := ⟨.hbm, 36, rfl⟩
abbrev main_call0_v11 : Ref sig .tc := ⟨.hbm, 37, rfl⟩
abbrev main_v19 : Ref sig .tc := ⟨.hbm, 38, rfl⟩
abbrev main_v20 : Ref sig .tc := ⟨.hbm, 39, rfl⟩
abbrev main_cst_0 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_c : Ref sig .tc := ⟨.hbm, 52, rfl⟩
abbrev main_v32 : Ref sig .tc := ⟨.hbm, 53, rfl⟩
abbrev main_call1_v0 : Ref sig .tc := ⟨.hbm, 54, rfl⟩
abbrev main_call1_c : Ref sig .tc := ⟨.hbm, 55, rfl⟩
abbrev main_call1_v1 : Ref sig .tc := ⟨.hbm, 56, rfl⟩
abbrev main_call1_v2 : Ref sig .tc := ⟨.hbm, 57, rfl⟩
abbrev main_call1_v3 : Ref sig .tc := ⟨.hbm, 58, rfl⟩
abbrev main_call1_v4 : Ref sig .tc := ⟨.hbm, 59, rfl⟩
abbrev main_call1_c_0 : Ref sig .tc := ⟨.hbm, 60, rfl⟩
abbrev main_call1_v5 : Ref sig .tc := ⟨.hbm, 61, rfl⟩
abbrev main_v33 : Ref sig .tc := ⟨.hbm, 62, rfl⟩
abbrev main_cst_1 : Ref sig .tc := ⟨.hbm, 63, rfl⟩
abbrev main_v34 : Ref sig .tc := ⟨.hbm, 64, rfl⟩
abbrev main_cst_2 : Ref sig .tc := ⟨.hbm, 65, rfl⟩
abbrev main_v35 : Ref sig .tc := ⟨.hbm, 66, rfl⟩
abbrev main_c_3 : Ref sig .tc := ⟨.hbm, 67, rfl⟩
abbrev main_v36_0 : Ref sig .tc := ⟨.hbm, 68, rfl⟩
abbrev main_v36_1 : Ref sig .tc := ⟨.hbm, 69, rfl⟩
abbrev main_v36_2 : Ref sig .tc := ⟨.hbm, 70, rfl⟩
abbrev main_v36_3 : Ref sig .tc := ⟨.hbm, 71, rfl⟩
abbrev main_v36_4 : Ref sig .tc := ⟨.hbm, 72, rfl⟩
abbrev main_v36_5 : Ref sig .tc := ⟨.hbm, 73, rfl⟩
abbrev main_v36_6 : Ref sig .tc := ⟨.hbm, 74, rfl⟩
abbrev main_v36_7 : Ref sig .tc := ⟨.hbm, 75, rfl⟩
abbrev main_while0c_c_14 : Ref sig .tc := ⟨.hbm, 76, rfl⟩
abbrev main_while0c_v59 : Ref sig .tc := ⟨.hbm, 77, rfl⟩
abbrev main_while0b_call2_c : Ref sig .tc := ⟨.hbm, 78, rfl⟩
abbrev main_while0b_call2_c_0 : Ref sig .tc := ⟨.hbm, 79, rfl⟩
abbrev main_while0b_call2_c_1 : Ref sig .tc := ⟨.hbm, 80, rfl⟩
abbrev main_while0b_call2_c_2 : Ref sig .tc := ⟨.hbm, 81, rfl⟩
abbrev main_while0b_call2_v0 : Ref sig .tc := ⟨.hbm, 82, rfl⟩
abbrev main_while0b_v59 : Ref sig .tc := ⟨.hbm, 83, rfl⟩
abbrev main_while0b_call3_c : Ref sig .tc := ⟨.hbm, 84, rfl⟩
abbrev main_while0b_call3_c_0 : Ref sig .tc := ⟨.hbm, 85, rfl⟩
abbrev main_while0b_call3_c_1 : Ref sig .tc := ⟨.hbm, 86, rfl⟩
abbrev main_while0b_call3_c_2 : Ref sig .tc := ⟨.hbm, 87, rfl⟩
abbrev main_while0b_call3_v0 : Ref sig .tc := ⟨.hbm, 88, rfl⟩
abbrev main_while0b_v60 : Ref sig .tc := ⟨.hbm, 89, rfl⟩
abbrev main_while0b_call4_c : Ref sig .tc := ⟨.hbm, 90, rfl⟩
abbrev main_while0b_call4_c_0 : Ref sig .tc := ⟨.hbm, 91, rfl⟩
abbrev main_while0b_call4_c_1 : Ref sig .tc := ⟨.hbm, 92, rfl⟩
abbrev main_while0b_call4_c_2 : Ref sig .tc := ⟨.hbm, 93, rfl⟩
abbrev main_while0b_call4_v0 : Ref sig .tc := ⟨.hbm, 94, rfl⟩
abbrev main_while0b_v61 : Ref sig .tc := ⟨.hbm, 95, rfl⟩
abbrev main_while0b_call5_c : Ref sig .tc := ⟨.hbm, 96, rfl⟩
abbrev main_while0b_call5_c_0 : Ref sig .tc := ⟨.hbm, 97, rfl⟩
abbrev main_while0b_call5_c_1 : Ref sig .tc := ⟨.hbm, 98, rfl⟩
abbrev main_while0b_call5_c_2 : Ref sig .tc := ⟨.hbm, 99, rfl⟩
abbrev main_while0b_call5_v0 : Ref sig .tc := ⟨.hbm, 100, rfl⟩
abbrev main_while0b_v62 : Ref sig .tc := ⟨.hbm, 101, rfl⟩
abbrev main_while0b_call6_call0_cst : Ref sig .tc := ⟨.hbm, 102, rfl⟩
abbrev main_while0b_call6_call0_v0 : Ref sig .tc := ⟨.hbm, 103, rfl⟩
abbrev main_while0b_v63 : Ref sig .tc := ⟨.hbm, 104, rfl⟩
abbrev main_while0b_v64 : Ref sig .tc := ⟨.hbm, 105, rfl⟩
abbrev main_while0b_v65 : Ref sig .tc := ⟨.hbm, 106, rfl⟩
abbrev main_while0b_v66 : Ref sig .tc := ⟨.hbm, 107, rfl⟩
abbrev main_while0b_v67 : Ref sig .tc := ⟨.hbm, 108, rfl⟩
abbrev main_while0b_v68 : Ref sig .tc := ⟨.hbm, 109, rfl⟩
abbrev main_while0b_v69 : Ref sig .tc := ⟨.hbm, 110, rfl⟩
abbrev main_while0b_v70 : Ref sig .tc := ⟨.hbm, 111, rfl⟩
abbrev main_while0b_cst_14 : Ref sig .tc := ⟨.hbm, 112, rfl⟩
abbrev main_while0b_call7_v0 : Ref sig .tc := ⟨.hbm, 113, rfl⟩
abbrev main_while0b_call7_v1 : Ref sig .tc := ⟨.hbm, 114, rfl⟩
abbrev main_while0b_call7_v2 : Ref sig .tc := ⟨.hbm, 115, rfl⟩
abbrev main_while0b_v71 : Ref sig .tc := ⟨.hbm, 116, rfl⟩
abbrev main_while0b_v72 : Ref sig .tc := ⟨.hbm, 117, rfl⟩
abbrev main_while0b_v73 : Ref sig .tc := ⟨.hbm, 118, rfl⟩
abbrev main_while0b_v74 : Ref sig .tc := ⟨.hbm, 119, rfl⟩
abbrev main_while0b_v75 : Ref sig .tc := ⟨.hbm, 120, rfl⟩
abbrev main_while0b_v76 : Ref sig .tc := ⟨.hbm, 121, rfl⟩
abbrev main_while0b_v77 : Ref sig .tc := ⟨.hbm, 122, rfl⟩
abbrev main_while0b_v78 : Ref sig .tc := ⟨.hbm, 123, rfl⟩
abbrev main_while0b_v79 : Ref sig .tc := ⟨.hbm, 124, rfl⟩
abbrev main_while0b_v80 : Ref sig .tc := ⟨.hbm, 125, rfl⟩
abbrev main_while0b_v81 : Ref sig .tc := ⟨.hbm, 126, rfl⟩
abbrev main_while0b_v82 : Ref sig .tc := ⟨.hbm, 127, rfl⟩
abbrev main_while0b_v83 : Ref sig .tc := ⟨.hbm, 128, rfl⟩
abbrev main_while0b_v84 : Ref sig .tc := ⟨.hbm, 129, rfl⟩
abbrev main_while0b_v85 : Ref sig .tc := ⟨.hbm, 130, rfl⟩
abbrev main_while0b_call8_v0 : Ref sig .tc := ⟨.hbm, 131, rfl⟩
abbrev main_while0b_call8_c : Ref sig .tc := ⟨.hbm, 132, rfl⟩
abbrev main_while0b_call8_c_0 : Ref sig .tc := ⟨.hbm, 133, rfl⟩
abbrev main_while0b_call8_c_1 : Ref sig .tc := ⟨.hbm, 134, rfl⟩
abbrev main_while0b_call8_c_2 : Ref sig .tc := ⟨.hbm, 135, rfl⟩
abbrev main_while0b_v86 : Ref sig .tc := ⟨.hbm, 136, rfl⟩
abbrev main_while0b_c_15 : Ref sig .tc := ⟨.hbm, 137, rfl⟩
abbrev main_while0b_v87 : Ref sig .tc := ⟨.hbm, 138, rfl⟩
abbrev main_v37 : Ref sig .tc := ⟨.hbm, 139, rfl⟩
abbrev main_v38 : Ref sig .tc := ⟨.hbm, 140, rfl⟩
abbrev main_v39 : Ref sig .tc := ⟨.hbm, 141, rfl⟩
abbrev main_cst_4 : Ref sig .tc := ⟨.hbm, 142, rfl⟩
abbrev main_v40 : Ref sig .tc := ⟨.hbm, 143, rfl⟩
abbrev main_v41 : Ref sig .tc := ⟨.hbm, 144, rfl⟩
abbrev main_cst_5 : Ref sig .tc := ⟨.hbm, 145, rfl⟩
abbrev main_v42 : Ref sig .tc := ⟨.hbm, 146, rfl⟩
abbrev main_v43 : Ref sig .tc := ⟨.hbm, 147, rfl⟩
abbrev main_cst_6 : Ref sig .tc := ⟨.hbm, 148, rfl⟩
abbrev main_v44 : Ref sig .tc := ⟨.hbm, 149, rfl⟩
abbrev main_v45 : Ref sig .tc := ⟨.hbm, 150, rfl⟩
abbrev main_v46 : Ref sig .tc := ⟨.hbm, 151, rfl⟩
abbrev main_v47 : Ref sig .tc := ⟨.hbm, 152, rfl⟩
abbrev main_v48 : Ref sig .tc := ⟨.hbm, 153, rfl⟩
abbrev main_v49 : Ref sig .tc := ⟨.hbm, 154, rfl⟩
abbrev main_v50 : Ref sig .tc := ⟨.hbm, 155, rfl⟩
abbrev main_v51 : Ref sig .tc := ⟨.hbm, 156, rfl⟩
abbrev main_v52 : Ref sig .tc := ⟨.hbm, 157, rfl⟩
abbrev main_v53 : Ref sig .tc := ⟨.hbm, 158, rfl⟩
abbrev main_v54 : Ref sig .tc := ⟨.hbm, 159, rfl⟩
abbrev main_v55 : Ref sig .tc := ⟨.hbm, 160, rfl⟩
abbrev main_call9_v0 : Ref sig .tc := ⟨.hbm, 161, rfl⟩
abbrev main_call9_v1 : Ref sig .tc := ⟨.hbm, 162, rfl⟩
abbrev main_call9_cst : Ref sig .tc := ⟨.hbm, 163, rfl⟩
abbrev main_call9_v2 : Ref sig .tc := ⟨.hbm, 164, rfl⟩
abbrev main_call9_v3 : Ref sig .tc := ⟨.hbm, 165, rfl⟩
abbrev main_call9_cst_0 : Ref sig .tc := ⟨.hbm, 166, rfl⟩
abbrev main_call9_v4 : Ref sig .tc := ⟨.hbm, 167, rfl⟩
abbrev main_call9_v5 : Ref sig .tc := ⟨.hbm, 168, rfl⟩
abbrev main_v56 : Ref sig .tc := ⟨.hbm, 169, rfl⟩
abbrev main_v57 : Ref sig .tc := ⟨.hbm, 170, rfl⟩
abbrev main_v58 : Ref sig .tc := ⟨.hbm, 171, rfl⟩

abbrev nD : Nat := 1
abbrev τ : Topo := Topo.v7x

variable {F : FTy → Type} [FloatOps F]

abbrev main_while0_count : Scf.Loop 32 := ⟨0#32, 64#32, 1#32⟩
-- ==== Inproj.lean ====
abbrev S16384x4096 : Shape := ⟨2, ![16384, 4096]⟩
abbrev S10240x4096 : Shape := ⟨2, ![10240, 4096]⟩
abbrev S128x4096 : Shape := ⟨2, ![128, 4096]⟩
abbrev S16384x10240 : Shape := ⟨2, ![16384, 10240]⟩
abbrev S16384x128 : Shape := ⟨2, ![16384, 128]⟩
abbrev S1024x4096 : Shape := ⟨2, ![1024, 4096]⟩
abbrev S1024x1024 : Shape := ⟨2, ![1024, 1024]⟩
abbrev S1024x128 : Shape := ⟨2, ![1024, 128]⟩

abbrev nBuf : Space → Nat
  | .hbm => 5
  | .vmem => 9
  | .smem => 0
  | _ => 0

abbrev bufTy : (tb : Table) → Fin (tcTables nBuf tb) → BufTy
  | .hbm, ⟨0, _⟩ => ⟨S16384x4096, .bf16⟩
  | .hbm, ⟨1, _⟩ => ⟨S10240x4096, .bf16⟩
  | .hbm, ⟨2, _⟩ => ⟨S128x4096, .bf16⟩
  | .hbm, ⟨3, _⟩ => ⟨S16384x10240, .bf16⟩
  | .hbm, ⟨4, _⟩ => ⟨S16384x128, .f32⟩
  | .local _ .vmem, ⟨0, _⟩ => ⟨S1024x4096, .bf16⟩
  | .local _ .vmem, ⟨1, _⟩ => ⟨S1024x4096, .bf16⟩
  | .local _ .vmem, ⟨2, _⟩ => ⟨S1024x4096, .bf16⟩
  | .local _ .vmem, ⟨3, _⟩ => ⟨S1024x4096, .bf16⟩
  | .local _ .vmem, ⟨4, _⟩ => ⟨S128x4096, .bf16⟩
  | .local _ .vmem, ⟨5, _⟩ => ⟨S1024x1024, .bf16⟩
  | .local _ .vmem, ⟨6, _⟩ => ⟨S1024x1024, .bf16⟩
  | .local _ .vmem, ⟨7, _⟩ => ⟨S1024x128, .f32⟩
  | .local _ .vmem, ⟨8, _⟩ => ⟨S1024x128, .f32⟩
  | _, _ => ⟨S16384x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![16, 10], ![false, false]⟩

def k0_cond1 (i : grid0.Coords) : BitVec 1 :=
  let arg1 : BitVec 32 := BitVec.ofNat 32 (i 1).val
  let c0_i32 : BitVec 32 := 0#32
  let v5 : BitVec 1 := Scalar.cmpi .eq arg1 c0_i32
  let v6 : BitVec 32 := Scalar.extui v5
  let c0_i32_5 : BitVec 32 := 0#32
  let v7 : BitVec 1 := Scalar.cmpi .ne v6 c0_i32_5
  v7

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 1 → Memref sig .tc .vmem S128x4096 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]
-- ==== InprojRefIdeal.lean ====
abbrev S16384x4096 : Shape := ⟨2, ![16384, 4096]⟩
abbrev S10240x4096 : Shape := ⟨2, ![10240, 4096]⟩
abbrev S128x4096 : Shape := ⟨2, ![128, 4096]⟩
abbrev S4096x10240 : Shape := ⟨2, ![4096, 10240]⟩
abbrev S16384x10240 : Shape := ⟨2, ![16384, 10240]⟩
abbrev S4096x128 : Shape := ⟨2, ![4096, 128]⟩
abbrev S16384x128 : Shape := ⟨2, ![16384, 128]⟩

abbrev nBuf : Space → Nat
  | .hbm => 11
  | .vmem => 0
  | .smem => 0
  | _ => 0

abbrev bufTy : (tb : Table) → Fin (tcTables nBuf tb) → BufTy
  | .hbm, ⟨0, _⟩ => ⟨S16384x4096, .bf16⟩
  | .hbm, ⟨1, _⟩ => ⟨S10240x4096, .bf16⟩
  | .hbm, ⟨2, _⟩ => ⟨S128x4096, .bf16⟩
  | .hbm, ⟨3, _⟩ => ⟨S16384x4096, .f32⟩
  | .hbm, ⟨4, _⟩ => ⟨S10240x4096, .f32⟩
  | .hbm, ⟨5, _⟩ => ⟨S4096x10240, .f32⟩
  | .hbm, ⟨6, _⟩ => ⟨S16384x10240, .f32⟩
  | .hbm, ⟨7, _⟩ => ⟨S16384x10240, .bf16⟩
  | .hbm, ⟨8, _⟩ => ⟨S128x4096, .f32⟩
  | .hbm, ⟨9, _⟩ => ⟨S4096x128, .f32⟩
  | .hbm, ⟨10, _⟩ => ⟨S16384x128, .f32⟩
  | _, _ => ⟨S16384x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== Glu.lean ====
abbrev S16384x2048 : Shape := ⟨2, ![16384, 2048]⟩
abbrev S16384x10240 : Shape := ⟨2, ![16384, 10240]⟩
abbrev S2048x2048 : Shape := ⟨2, ![2048, 2048]⟩
abbrev S2048 : Shape := ⟨1, ![2048]⟩
abbrev S1x2048 : Shape := ⟨2, ![1, 2048]⟩
abbrev S1024x2048 : Shape := ⟨2, ![1024, 2048]⟩

abbrev nBuf : Space → Nat
  | .hbm => 7
  | .vmem => 8
  | .smem => 0
  | _ => 0

abbrev bufTy : (tb : Table) → Fin (tcTables nBuf tb) → BufTy
  | .hbm, ⟨0, _⟩ => ⟨S16384x2048, .bf16⟩
  | .hbm, ⟨1, _⟩ => ⟨S16384x10240, .bf16⟩
  | .hbm, ⟨2, _⟩ => ⟨S2048x2048, .f32⟩
  | .hbm, ⟨3, _⟩ => ⟨S2048, .f32⟩
  | .hbm, ⟨4, _⟩ => ⟨S2048x2048, .bf16⟩
  | .hbm, ⟨5, _⟩ => ⟨S1x2048, .f32⟩
  | .hbm, ⟨6, _⟩ => ⟨S16384x2048, .bf16⟩
  | .local _ .vmem, ⟨0, _⟩ => ⟨S1024x2048, .bf16⟩
  | .local _ .vmem, ⟨1, _⟩ => ⟨S1024x2048, .bf16⟩
  | .local _ .vmem, ⟨2, _⟩ => ⟨S1024x2048, .bf16⟩
  | .local _ .vmem, ⟨3, _⟩ => ⟨S1024x2048, .bf16⟩
  | .local _ .vmem, ⟨4, _⟩ => ⟨S2048x2048, .bf16⟩
  | .local _ .vmem, ⟨5, _⟩ => ⟨S1x2048, .f32⟩
  | .local _ .vmem, ⟨6, _⟩ => ⟨S1024x2048, .bf16⟩
  | .local _ .vmem, ⟨7, _⟩ => ⟨S1024x2048, .bf16⟩
  | _, _ => ⟨S16384x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c4_i32 : BitVec 32 := 4#32
  let c0_i32 : BitVec 32 := 0#32
  ![arg0.toNat, c4_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S2048x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1024x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== GluRefIdeal.lean ====
abbrev S16384x2048 : Shape := ⟨2, ![16384, 2048]⟩
abbrev S16384x10240 : Shape := ⟨2, ![16384, 10240]⟩
abbrev S2048x2048 : Shape := ⟨2, ![2048, 2048]⟩
abbrev S2048 : Shape := ⟨1, ![2048]⟩
abbrev S1x2048 : Shape := ⟨2, ![1, 2048]⟩
abbrev S_ : Shape := ⟨0, ![]⟩

abbrev nBuf : Space → Nat
  | .hbm => 31
  | .vmem => 0
  | .smem => 0
  | _ => 0

abbrev bufTy : (tb : Table) → Fin (tcTables nBuf tb) → BufTy
  | .hbm, ⟨0, _⟩ => ⟨S16384x2048, .bf16⟩
  | .hbm, ⟨1, _⟩ => ⟨S16384x10240, .bf16⟩
  | .hbm, ⟨2, _⟩ => ⟨S2048x2048, .f32⟩
  | .hbm, ⟨3, _⟩ => ⟨S2048, .f32⟩
  | .hbm, ⟨4, _⟩ => ⟨S16384x2048, .f32⟩
  | .hbm, ⟨5, _⟩ => ⟨S16384x2048, .bf16⟩
  | .hbm, ⟨6, _⟩ => ⟨S16384x2048, .f32⟩
  | .hbm, ⟨7, _⟩ => ⟨S16384x2048, .f32⟩
  | .hbm, ⟨8, _⟩ => ⟨S1x2048, .f32⟩
  | .hbm, ⟨9, _⟩ => ⟨S16384x2048, .f32⟩
  | .hbm, ⟨10, _⟩ => ⟨S16384x2048, .f32⟩
  | .hbm, ⟨11, _⟩ => ⟨S16384x2048, .f32⟩
  | .hbm, ⟨12, _⟩ => ⟨S16384x2048, .f32⟩
  | .hbm, ⟨13, _⟩ => ⟨S_, .f32⟩
  | .hbm, ⟨14, _⟩ => ⟨S16384x2048, .f32⟩
  | .hbm, ⟨15, _⟩ => ⟨S16384x2048, .f32⟩
  | .hbm, ⟨16, _⟩ => ⟨S_, .f32⟩
  | .hbm, ⟨17, _⟩ => ⟨S16384x2048, .f32⟩
  | .hbm, ⟨18, _⟩ => ⟨S16384x2048, .f32⟩
  | .hbm, ⟨19, _⟩ => ⟨S16384x2048, .f32⟩
  | .hbm, ⟨20, _⟩ => ⟨S16384x2048, .f32⟩
  | .hbm, ⟨21, _⟩ => ⟨S16384x2048, .f32⟩
  | .hbm, ⟨22, _⟩ => ⟨S_, .f32⟩
  | .hbm, ⟨23, _⟩ => ⟨S16384x2048, .f32⟩
  | .hbm, ⟨24, _⟩ => ⟨S16384x2048, .f32⟩
  | .hbm, ⟨25, _⟩ => ⟨S_, .f32⟩
  | .hbm, ⟨26, _⟩ => ⟨S16384x2048, .f32⟩
  | .hbm, ⟨27, _⟩ => ⟨S16384x2048, .f32⟩
  | .hbm, ⟨28, _⟩ => ⟨S16384x2048, .f32⟩
  | .hbm, ⟨29, _⟩ => ⟨S16384x2048, .f32⟩
  | .hbm, ⟨30, _⟩ => ⟨S16384x2048, .bf16⟩
  | _, _ => ⟨S16384x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_cst : Ref sig .tc := ⟨.hbm, 13, rfl⟩
abbrev main_v9 : Ref sig .tc := ⟨.hbm, 14, rfl⟩
abbrev main_v10 : Ref sig .tc := ⟨.hbm, 15, rfl⟩
abbrev main_cst_0 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_call0_v0 : Ref sig .tc := ⟨.hbm, 20, rfl⟩
abbrev main_call0_v1 : Ref sig .tc := ⟨.hbm, 21, rfl⟩
abbrev main_call0_cst : Ref sig .tc := ⟨.hbm, 22, rfl⟩
abbrev main_call0_v2 : Ref sig .tc := ⟨.hbm, 23, rfl⟩
abbrev main_call0_v3 : Ref sig .tc := ⟨.hbm, 24, rfl⟩
abbrev main_call0_cst_0 : Ref sig .tc := ⟨.hbm, 25, rfl⟩
abbrev main_call0_v4 : Ref sig .tc := ⟨.hbm, 26, rfl⟩
abbrev main_call0_v5 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩

abbrev nD : Nat := 1
abbrev τ : Topo := Topo.v7x

variable {F : FTy → Type} [FloatOps F]
-- ==== Outproj.lean ====
abbrev S16384x2048 : Shape := ⟨2, ![16384, 2048]⟩
abbrev S1x4096x4096 : Shape := ⟨3, ![1, 4096, 4096]⟩
abbrev S4x4096x4096 : Shape := ⟨3, ![4, 4096, 4096]⟩
abbrev S4x3x1x4096 : Shape := ⟨4, ![4, 3, 1, 4096]⟩
abbrev S1x4096 : Shape := ⟨2, ![1, 4096]⟩
abbrev S4096x4096 : Shape := ⟨2, ![4096, 4096]⟩
abbrev S16384x4096 : Shape := ⟨2, ![16384, 4096]⟩
abbrev S4096 : Shape := ⟨1, ![4096]⟩
abbrev S256x2048 : Shape := ⟨2, ![256, 2048]⟩
abbrev S2048x4096 : Shape := ⟨2, ![2048, 4096]⟩
abbrev S256x4096 : Shape := ⟨2, ![256, 4096]⟩
abbrev S1x1x1x4096 : Shape := ⟨4, ![1, 1, 1, 4096]⟩
abbrev S128x2048 : Shape := ⟨2, ![128, 2048]⟩
abbrev S128x4096 : Shape := ⟨2, ![128, 4096]⟩
abbrev S128 : Shape := ⟨1, ![128]⟩
abbrev S128x1 : Shape := ⟨2, ![128, 1]⟩

abbrev nBuf : Space → Nat
  | .hbm => 15
  | .vmem => 14
  | .smem => 0
  | _ => 0

abbrev bufTy : (tb : Table) → Fin (tcTables nBuf tb) → BufTy
  | .hbm, ⟨0, _⟩ => ⟨S16384x2048, .bf16⟩
  | .hbm, ⟨1, _⟩ => ⟨S16384x2048, .bf16⟩
  | .hbm, ⟨2, _⟩ => ⟨S1x4096x4096, .f32⟩
  | .hbm, ⟨3, _⟩ => ⟨S4x4096x4096, .f32⟩
  | .hbm, ⟨4, _⟩ => ⟨S4x3x1x4096, .f32⟩
  | .hbm, ⟨5, _⟩ => ⟨S1x4096, .f32⟩
  | .hbm, ⟨6, _⟩ => ⟨S1x4096, .f32⟩
  | .hbm, ⟨7, _⟩ => ⟨S4096x4096, .f32⟩
  | .hbm, ⟨8, _⟩ => ⟨S4096x4096, .bf16⟩
  | .hbm, ⟨9, _⟩ => ⟨S16384x4096, .f32⟩
  | .hbm, ⟨10, _⟩ => ⟨S4096, .f32⟩
  | .hbm, ⟨11, _⟩ => ⟨S1x4096, .f32⟩
  | .hbm, ⟨12, _⟩ => ⟨S4096, .f32⟩
  | .hbm, ⟨13, _⟩ => ⟨S1x4096, .f32⟩
  | .hbm, ⟨14, _⟩ => ⟨S16384x4096, .f32⟩
  | .local _ .vmem, ⟨0, _⟩ => ⟨S256x2048, .bf16⟩
  | .local _ .vmem, ⟨1, _⟩ => ⟨S256x2048, .bf16⟩
  | .local _ .vmem, ⟨2, _⟩ => ⟨S256x2048, .bf16⟩
  | .local _ .vmem, ⟨3, _⟩ => ⟨S256x2048, .bf16⟩
  | .local _ .vmem, ⟨4, _⟩ => ⟨S2048x4096, .bf16⟩
  | .local _ .vmem, ⟨5, _⟩ => ⟨S2048x4096, .bf16⟩
  | .local _ .vmem, ⟨6, _⟩ => ⟨S256x4096, .f32⟩
  | .local _ .vmem, ⟨7, _⟩ => ⟨S256x4096, .f32⟩
  | .local _ .vmem, ⟨8, _⟩ => ⟨S1x1x1x4096, .f32⟩
  | .local _ .vmem, ⟨9, _⟩ => ⟨S1x1x1x4096, .f32⟩
  | .local _ .vmem, ⟨10, _⟩ => ⟨S1x4096, .f32⟩
  | .local _ .vmem, ⟨11, _⟩ => ⟨S1x4096, .f32⟩
  | .local _ .vmem, ⟨12, _⟩ => ⟨S256x4096, .f32⟩
  | .local _ .vmem, ⟨13, _⟩ => ⟨S256x4096, .f32⟩
  | _, _ => ⟨S16384x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem7_0 : DmaSem sig := 11
abbrev cc0_sem8_0 : DmaSem sig := 12
abbrev cc0_sem8_1 : DmaSem sig := 13

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c1_i32 : BitVec 32 := 1#32
  let c0_i32 : BitVec 32 := 0#32
  let c0_i32_0 : BitVec 32 := 0#32
  ![c1_i32.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 4 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32 : BitVec 32 := 2#32
  let c0_i32_4 : BitVec 32 := 0#32
  let c0_i32_5 : BitVec 32 := 0#32
  let c0_i32_6 : BitVec 32 := 0#32
  ![v16.toNat, c2_i32.toNat, c0_i32_4.toNat, c0_i32_5.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S2048x4096 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2048x4096 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x4096 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x1x1x4096 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x4096 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x4096 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S256x4096 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== OutprojRefIdeal.lean ====
abbrev S16384x2048 : Shape := ⟨2, ![16384, 2048]⟩
abbrev S1x4096x4096 : Shape := ⟨3, ![1, 4096, 4096]⟩
abbrev S4x4096x4096 : Shape := ⟨3, ![4, 4096, 4096]⟩
abbrev S4x3x1x4096 : Shape := ⟨4, ![4, 3, 1, 4096]⟩
abbrev S1x4096 : Shape := ⟨2, ![1, 4096]⟩
abbrev S4x1x1x4096 : Shape := ⟨4, ![4, 1, 1, 4096]⟩
abbrev S4x1x4096 : Shape := ⟨3, ![4, 1, 4096]⟩
abbrev S4x4096x2048 : Shape := ⟨3, ![4, 4096, 2048]⟩
abbrev S4096x4096 : Shape := ⟨2, ![4096, 4096]⟩
abbrev S_ : Shape := ⟨0, ![]⟩
abbrev S4096 : Shape := ⟨1, ![4096]⟩
abbrev S4x4096 : Shape := ⟨2, ![4, 4096]⟩
abbrev S4x4096x1 : Shape := ⟨3, ![4, 4096, 1]⟩
abbrev S1x1x4096 : Shape := ⟨3, ![1, 1, 4096]⟩
abbrev S16384x4096 : Shape := ⟨2, ![16384, 4096]⟩

abbrev nBuf : Space → Nat
  | .hbm => 54
  | .vmem => 0
  | .smem => 0
  | _ => 0

abbrev bufTy : (tb : Table) → Fin (tcTables nBuf tb) → BufTy
  | .hbm, ⟨0, _⟩ => ⟨S16384x2048, .bf16⟩
  | .hbm, ⟨1, _⟩ => ⟨S16384x2048, .bf16⟩
  | .hbm, ⟨2, _⟩ => ⟨S1x4096x4096, .f32⟩
  | .hbm, ⟨3, _⟩ => ⟨S4x4096x4096, .f32⟩
  | .hbm, ⟨4, _⟩ => ⟨S4x3x1x4096, .f32⟩
  | .hbm, ⟨5, _⟩ => ⟨S1x4096, .f32⟩
  | .hbm, ⟨6, _⟩ => ⟨S1x4096, .f32⟩
  | .hbm, ⟨7, _⟩ => ⟨S4x1x1x4096, .f32⟩
  | .hbm, ⟨8, _⟩ => ⟨S4x1x4096, .f32⟩
  | .hbm, ⟨9, _⟩ => ⟨S16384x2048, .f32⟩
  | .hbm, ⟨10, _⟩ => ⟨S4x4096x2048, .f32⟩
  | .hbm, ⟨11, _⟩ => ⟨S16384x2048, .f32⟩
  | .hbm, ⟨12, _⟩ => ⟨S4x4096x2048, .f32⟩
  | .hbm, ⟨13, _⟩ => ⟨S4x4096x4096, .f32⟩
  | .hbm, ⟨14, _⟩ => ⟨S4096x4096, .f32⟩
  | .hbm, ⟨15, _⟩ => ⟨S4x4096x4096, .f32⟩
  | .hbm, ⟨16, _⟩ => ⟨S_, .f32⟩
  | .hbm, ⟨17, _⟩ => ⟨S4x4096x4096, .f32⟩
  | .hbm, ⟨18, _⟩ => ⟨S4x4096x4096, .f32⟩
  | .hbm, ⟨19, _⟩ => ⟨S4x4096x4096, .f32⟩
  | .hbm, ⟨20, _⟩ => ⟨S4x4096x4096, .f32⟩
  | .hbm, ⟨21, _⟩ => ⟨S4x4096x4096, .f32⟩
  | .hbm, ⟨22, _⟩ => ⟨S4096, .f32⟩
  | .hbm, ⟨23, _⟩ => ⟨S4096, .f32⟩
  | .hbm, ⟨24, _⟩ => ⟨S_, .f32⟩
  | .hbm, ⟨25, _⟩ => ⟨S4x4096, .f32⟩
  | .hbm, ⟨26, _⟩ => ⟨S4x4096x1, .f32⟩
  | .hbm, ⟨27, _⟩ => ⟨S_, .f32⟩
  | .hbm, ⟨28, _⟩ => ⟨S4x4096x1, .f32⟩
  | .hbm, ⟨29, _⟩ => ⟨S4x4096x1, .f32⟩
  | .hbm, ⟨30, _⟩ => ⟨S4x4096x4096, .f32⟩
  | .hbm, ⟨31, _⟩ => ⟨S4x4096x4096, .f32⟩
  | .hbm, ⟨32, _⟩ => ⟨S4x4096x4096, .f32⟩
  | .hbm, ⟨33, _⟩ => ⟨S_, .f32⟩
  | .hbm, ⟨34, _⟩ => ⟨S4x4096, .f32⟩
  | .hbm, ⟨35, _⟩ => ⟨S4x4096x1, .f32⟩
  | .hbm, ⟨36, _⟩ => ⟨S_, .f32⟩
  | .hbm, ⟨37, _⟩ => ⟨S4x4096x1, .f32⟩
  | .hbm, ⟨38, _⟩ => ⟨S4x4096x1, .f32⟩
  | .hbm, ⟨39, _⟩ => ⟨S4x4096x4096, .f32⟩
  | .hbm, ⟨40, _⟩ => ⟨S4x4096x4096, .f32⟩
  | .hbm, ⟨41, _⟩ => ⟨S_, .f32⟩
  | .hbm, ⟨42, _⟩ => ⟨S4x4096x1, .f32⟩
  | .hbm, ⟨43, _⟩ => ⟨S4x4096x1, .f32⟩
  | .hbm, ⟨44, _⟩ => ⟨S4x4096x1, .f32⟩
  | .hbm, ⟨45, _⟩ => ⟨S4x4096x4096, .f32⟩
  | .hbm, ⟨46, _⟩ => ⟨S4x4096x4096, .f32⟩
  | .hbm, ⟨47, _⟩ => ⟨S1x1x4096, .f32⟩
  | .hbm, ⟨48, _⟩ => ⟨S4x4096x4096, .f32⟩
  | .hbm, ⟨49, _⟩ => ⟨S4x4096x4096, .f32⟩
  | .hbm, ⟨50, _⟩ => ⟨S1x1x4096, .f32⟩
  | .hbm, ⟨51, _⟩ => ⟨S4x4096x4096, .f32⟩
  | .hbm, ⟨52, _⟩ => ⟨S4x4096x4096, .f32⟩
  | .hbm, ⟨53, _⟩ => ⟨S16384x4096, .f32⟩
  | _, _ => ⟨S16384x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst_0 : Ref sig .tc := ⟨.hbm, 24, rfl⟩
abbrev main_v16 : Ref sig .tc := ⟨.hbm, 25, rfl⟩
abbrev main_v17 : Ref sig .tc := ⟨.hbm, 26, rfl⟩
abbrev main_cst_1 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_2 : Ref sig .tc := ⟨.hbm, 33, rfl⟩
abbrev main_v23 : Ref sig .tc := ⟨.hbm, 34, rfl⟩
abbrev main_v24 : Ref sig .tc := ⟨.hbm, 35, rfl⟩
abbrev main_cst_3 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_cst_4 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩

abbrev nD : Nat := 1
abbrev τ : Topo := Topo.v7x

variable {F : FTy → Type} [FloatOps F]
-- ==== Adaln.lean ====
abbrev S8x4096 : Shape := ⟨2, ![8, 4096]⟩
abbrev S1x4096x12288 : Shape := ⟨3, ![1, 4096, 12288]⟩
abbrev S1x12288 : Shape := ⟨2, ![1, 12288]⟩
abbrev S4096x12288 : Shape := ⟨2, ![4096, 12288]⟩
abbrev S12288 : Shape := ⟨1, ![12288]⟩
abbrev S8x12288 : Shape := ⟨2, ![8, 12288]⟩
abbrev S4096x512 : Shape := ⟨2, ![4096, 512]⟩
abbrev S1x512 : Shape := ⟨2, ![1, 512]⟩
abbrev S8x512 : Shape := ⟨2, ![8, 512]⟩
abbrev S16x4096 : Shape := ⟨2, ![16, 4096]⟩
abbrev S16x512 : Shape := ⟨2, ![16, 512]⟩

abbrev nBuf : Space → Nat
  | .hbm => 7
  | .vmem => 7
  | .smem => 0
  | _ => 0

abbrev bufTy : (tb : Table) → Fin (tcTables nBuf tb) → BufTy
  | .hbm, ⟨0, _⟩ => ⟨S8x4096, .f32⟩
  | .hbm, ⟨1, _⟩ => ⟨S1x4096x12288, .f32⟩
  | .hbm, ⟨2, _⟩ => ⟨S1x12288, .f32⟩
  | .hbm, ⟨3, _⟩ => ⟨S4096x12288, .f32⟩
  | .hbm, ⟨4, _⟩ => ⟨S12288, .f32⟩
  | .hbm, ⟨5, _⟩ => ⟨S1x12288, .f32⟩
  | .hbm, ⟨6, _⟩ => ⟨S8x12288, .f32⟩
  | .local _ .vmem, ⟨0, _⟩ => ⟨S8x4096, .f32⟩
  | .local _ .vmem, ⟨1, _⟩ => ⟨S4096x512, .f32⟩
  | .local _ .vmem, ⟨2, _⟩ => ⟨S4096x512, .f32⟩
  | .local _ .vmem, ⟨3, _⟩ => ⟨S1x512, .f32⟩
  | .local _ .vmem, ⟨4, _⟩ => ⟨S1x512, .f32⟩
  | .local _ .vmem, ⟨5, _⟩ => ⟨S8x512, .f32⟩
  | .local _ .vmem, ⟨6, _⟩ => ⟨S8x512, .f32⟩
  | _, _ => ⟨S8x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![24], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S8x4096 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S4096x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== AdalnRefIdeal.lean ====
abbrev S8x4096 : Shape := ⟨2, ![8, 4096]⟩
abbrev S1x4096x12288 : Shape := ⟨3, ![1, 4096, 12288]⟩
abbrev S1x12288 : Shape := ⟨2, ![1, 12288]⟩
abbrev S_ : Shape := ⟨0, ![]⟩
abbrev S4096x12288 : Shape := ⟨2, ![4096, 12288]⟩
abbrev S8x12288 : Shape := ⟨2, ![8, 12288]⟩
abbrev S12288 : Shape := ⟨1, ![12288]⟩

abbrev nBuf : Space → Nat
  | .hbm => 18
  | .vmem => 0
  | .smem => 0
  | _ => 0

abbrev bufTy : (tb : Table) → Fin (tcTables nBuf tb) → BufTy
  | .hbm, ⟨0, _⟩ => ⟨S8x4096, .f32⟩
  | .hbm, ⟨1, _⟩ => ⟨S1x4096x12288, .f32⟩
  | .hbm, ⟨2, _⟩ => ⟨S1x12288, .f32⟩
  | .hbm, ⟨3, _⟩ => ⟨S8x4096, .f32⟩
  | .hbm, ⟨4, _⟩ => ⟨S8x4096, .f32⟩
  | .hbm, ⟨5, _⟩ => ⟨S_, .f32⟩
  | .hbm, ⟨6, _⟩ => ⟨S8x4096, .f32⟩
  | .hbm, ⟨7, _⟩ => ⟨S8x4096, .f32⟩
  | .hbm, ⟨8, _⟩ => ⟨S_, .f32⟩
  | .hbm, ⟨9, _⟩ => ⟨S8x4096, .f32⟩
  | .hbm, ⟨10, _⟩ => ⟨S8x4096, .f32⟩
  | .hbm, ⟨11, _⟩ => ⟨S8x4096, .f32⟩
  | .hbm, ⟨12, _⟩ => ⟨S4096x12288, .f32⟩
  | .hbm, ⟨13, _⟩ => ⟨S8x12288, .f32⟩
  | .hbm, ⟨14, _⟩ => ⟨S12288, .f32⟩
  | .hbm, ⟨15, _⟩ => ⟨S1x12288, .f32⟩
  | .hbm, ⟨16, _⟩ => ⟨S8x12288, .f32⟩
  | .hbm, ⟨17, _⟩ => ⟨S8x12288, .f32⟩
  | _, _ => ⟨S8x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_v1 : Ref sig .tc := ⟨.hbm, 4, rfl⟩
abbrev main_call0_cst : Ref sig .tc := ⟨.hbm, 5, rfl⟩
abbrev main_call0_v2 : Ref sig .tc := ⟨.hbm, 6, rfl⟩
abbrev main_call0_v3 : Ref sig .tc := ⟨.hbm, 7, rfl⟩
abbrev main_call0_cst_0 : Ref sig .tc := ⟨.hbm, 8, rfl⟩
abbrev main_call0_v4 : Ref sig .tc := ⟨.hbm, 9, rfl⟩
abbrev main_call0_v5 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩

abbrev nD : Nat := 1
abbrev τ : Topo := Topo.v7x

variable {F : FTy → Type} [FloatOps F]
-- ==== Modulate.lean ====
abbrev S4x4096x4096 : Shape := ⟨3, ![4, 4096, 4096]⟩
abbrev S4x3x1x4096 : Shape := ⟨4, ![4, 3, 1, 4096]⟩
abbrev S1x512x4096 : Shape := ⟨3, ![1, 512, 4096]⟩
abbrev S1x1x1x4096 : Shape := ⟨4, ![1, 1, 1, 4096]⟩
abbrev S512x4096 : Shape := ⟨2, ![512, 4096]⟩
abbrev S1x4096 : Shape := ⟨2, ![1, 4096]⟩

abbrev nBuf : Space → Nat
  | .hbm => 3
  | .vmem => 8
  | .smem => 0
  | _ => 0

abbrev bufTy : (tb : Table) → Fin (tcTables nBuf tb) → BufTy
  | .hbm, ⟨0, _⟩ => ⟨S4x4096x4096, .f32⟩
  | .hbm, ⟨1, _⟩ => ⟨S4x3x1x4096, .f32⟩
  | .hbm, ⟨2, _⟩ => ⟨S4x4096x4096, .bf16⟩
  | .local _ .vmem, ⟨0, _⟩ => ⟨S1x512x4096, .f32⟩
  | .local _ .vmem, ⟨1, _⟩ => ⟨S1x512x4096, .f32⟩
  | .local _ .vmem, ⟨2, _⟩ => ⟨S1x1x1x4096, .f32⟩
  | .local _ .vmem, ⟨3, _⟩ => ⟨S1x1x1x4096, .f32⟩
  | .local _ .vmem, ⟨4, _⟩ => ⟨S1x1x1x4096, .f32⟩
  | .local _ .vmem, ⟨5, _⟩ => ⟨S1x1x1x4096, .f32⟩
  | .local _ .vmem, ⟨6, _⟩ => ⟨S1x512x4096, .bf16⟩
  | .local _ .vmem, ⟨7, _⟩ => ⟨S1x512x4096, .bf16⟩
  | _, _ => ⟨S4x4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![4, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_2 (i : grid0.Coords) : Fin 4 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![arg0.toNat, c1_i32.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x1x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1x1x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x512x4096 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== ModulateRefIdeal.lean ====
abbrev S4x4096x4096 : Shape := ⟨3, ![4, 4096, 4096]⟩
abbrev S4x3x1x4096 : Shape := ⟨4, ![4, 3, 1, 4096]⟩
abbrev S4x1x1x4096 : Shape := ⟨4, ![4, 1, 1, 4096]⟩
abbrev S4x1x4096 : Shape := ⟨3, ![4, 1, 4096]⟩
abbrev S_ : Shape := ⟨0, ![]⟩

abbrev nBuf : Space → Nat
  | .hbm => 14
  | .vmem => 0
  | .smem => 0
  | _ => 0

abbrev bufTy : (tb : Table) → Fin (tcTables nBuf tb) → BufTy
  | .hbm, ⟨0, _⟩ => ⟨S4x4096x4096, .f32⟩
  | .hbm, ⟨1, _⟩ => ⟨S4x3x1x4096, .f32⟩
  | .hbm, ⟨2, _⟩ => ⟨S4x1x1x4096, .f32⟩
  | .hbm, ⟨3, _⟩ => ⟨S4x1x4096, .f32⟩
  | .hbm, ⟨4, _⟩ => ⟨S4x1x1x4096, .f32⟩
  | .hbm, ⟨5, _⟩ => ⟨S4x1x4096, .f32⟩
  | .hbm, ⟨6, _⟩ => ⟨S_, .f32⟩
  | .hbm, ⟨7, _⟩ => ⟨S4x1x4096, .f32⟩
  | .hbm, ⟨8, _⟩ => ⟨S4x1x4096, .f32⟩
  | .hbm, ⟨9, _⟩ => ⟨S4x4096x4096, .f32⟩
  | .hbm, ⟨10, _⟩ => ⟨S4x4096x4096, .f32⟩
  | .hbm, ⟨11, _⟩ => ⟨S4x4096x4096, .f32⟩
  | .hbm, ⟨12, _⟩ => ⟨S4x4096x4096, .f32⟩
  | .hbm, ⟨13, _⟩ => ⟨S4x4096x4096, .bf16⟩
  | _, _ => ⟨S4x4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_cst : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩

abbrev nD : Nat := 1
abbrev τ : Topo := Topo.v7x

variable {F : FTy → Type} [FloatOps F]
-- ==== Wcast.lean ====
abbrev S1x4096x10256 : Shape := ⟨3, ![1, 4096, 10256]⟩
abbrev S4096x10256 : Shape := ⟨2, ![4096, 10256]⟩
abbrev S10256x4096 : Shape := ⟨2, ![10256, 4096]⟩
abbrev S10240x4096 : Shape := ⟨2, ![10240, 4096]⟩
abbrev S256x4096 : Shape := ⟨2, ![256, 4096]⟩
abbrev S16x4096 : Shape := ⟨2, ![16, 4096]⟩
abbrev S240x4096 : Shape := ⟨2, ![240, 4096]⟩

abbrev nBuf : Space → Nat
  | .hbm => 4
  | .vmem => 6
  | .smem => 0
  | _ => 0

abbrev bufTy : (tb : Table) → Fin (tcTables nBuf tb) → BufTy
  | .hbm, ⟨0, _⟩ => ⟨S1x4096x10256, .f32⟩
  | .hbm, ⟨1, _⟩ => ⟨S4096x10256, .f32⟩
  | .hbm, ⟨2, _⟩ => ⟨S10256x4096, .f32⟩
  | .hbm, ⟨3, _⟩ => ⟨S10240x4096, .bf16⟩
  | .local _ .vmem, ⟨0, _⟩ => ⟨S256x4096, .f32⟩
  | .local _ .vmem, ⟨1, _⟩ => ⟨S256x4096, .f32⟩
  | .local _ .vmem, ⟨2, _⟩ => ⟨S16x4096, .f32⟩
  | .local _ .vmem, ⟨3, _⟩ => ⟨S16x4096, .f32⟩
  | .local _ .vmem, ⟨4, _⟩ => ⟨S256x4096, .bf16⟩
  | .local _ .vmem, ⟨5, _⟩ => ⟨S256x4096, .bf16⟩
  | _, _ => ⟨S1x4096x10256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![40], ![false]⟩

def k0_cond1 (i : grid0.Coords) : BitVec 1 :=
  let arg0 : BitVec 32 := BitVec.ofNat 32 (i 0).val
  let c16_i32 : BitVec 32 := 16#32
  let v0 : BitVec 1 := Scalar.cmpi .slt arg0 c16_i32
  let v1 : BitVec 32 := Scalar.extui v0
  let c0_i32 : BitVec 32 := 0#32
  let v2 : BitVec 1 := Scalar.cmpi .ne v1 c0_i32
  v2

def k0_cond2 (i : grid0.Coords) : BitVec 1 :=
  let arg0 : BitVec 32 := BitVec.ofNat 32 (i 0).val
  let c16_i32_0 : BitVec 32 := 16#32
  let v3 : BitVec 1 := Scalar.cmpi .sge arg0 c16_i32_0
  let v4 : BitVec 32 := Scalar.extui v3
  let c0_i32_1 : BitVec 32 := 0#32
  let v5 : BitVec 1 := Scalar.cmpi .ne v4 c0_i32_1
  v5

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c1_i32 : BitVec 32 := 1#32
  let v0 : BitVec 32 := Scalar.addi arg0 c1_i32
  let c16_i32 : BitVec 32 := 16#32
  let v1 : BitVec 32 := Scalar.muli v0 c16_i32
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S16x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x4096 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== WcastRefIdeal.lean ====
abbrev S1x4096x10256 : Shape := ⟨3, ![1, 4096, 10256]⟩
abbrev S4096x10256 : Shape := ⟨2, ![4096, 10256]⟩
abbrev S4096x4096 : Shape := ⟨2, ![4096, 4096]⟩
abbrev S4096x6144 : Shape := ⟨2, ![4096, 6144]⟩
abbrev S4096x10240 : Shape := ⟨2, ![4096, 10240]⟩
abbrev S10240x4096 : Shape := ⟨2, ![10240, 4096]⟩

abbrev nBuf : Space → Nat
  | .hbm => 7
  | .vmem => 0
  | .smem => 0
  | _ => 0

abbrev bufTy : (tb : Table) → Fin (tcTables nBuf tb) → BufTy
  | .hbm, ⟨0, _⟩ => ⟨S1x4096x10256, .f32⟩
  | .hbm, ⟨1, _⟩ => ⟨S4096x10256, .f32⟩
  | .hbm, ⟨2, _⟩ => ⟨S4096x4096, .f32⟩
  | .hbm, ⟨3, _⟩ => ⟨S4096x6144, .f32⟩
  | .hbm, ⟨4, _⟩ => ⟨S4096x10240, .f32⟩
  | .hbm, ⟨5, _⟩ => ⟨S10240x4096, .f32⟩
  | .hbm, ⟨6, _⟩ => ⟨S10240x4096, .bf16⟩
  | _, _ => ⟨S1x4096x10256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩

abbrev nD : Nat := 1
abbrev τ : Topo := Topo.v7x

variable {F : FTy → Type} [FloatOps F]
-- ==== S5prep.lean ====
abbrev S128x64 : Shape := ⟨2, ![128, 64]⟩
abbrev S128 : Shape := ⟨1, ![128]⟩
abbrev S128x64x16 : Shape := ⟨3, ![128, 64, 16]⟩
abbrev S128x16x64 : Shape := ⟨3, ![128, 16, 64]⟩
abbrev S2048 : Shape := ⟨1, ![2048]⟩
abbrev S128x128 : Shape := ⟨2, ![128, 128]⟩
abbrev S128x1x128 : Shape := ⟨3, ![128, 1, 128]⟩
abbrev S128x1x1 : Shape := ⟨3, ![128, 1, 1]⟩
abbrev S128x16x128 : Shape := ⟨3, ![128, 16, 128]⟩
abbrev S128x16x1 : Shape := ⟨3, ![128, 16, 1]⟩
abbrev S128x256x256 : Shape := ⟨3, ![128, 256, 256]⟩
abbrev S128x256x128 : Shape := ⟨3, ![128, 256, 128]⟩
abbrev S128x8x128 : Shape := ⟨3, ![128, 8, 128]⟩
abbrev S8x1x128 : Shape := ⟨3, ![8, 1, 128]⟩
abbrev S8x1x1 : Shape := ⟨3, ![8, 1, 1]⟩
abbrev S8x16x128 : Shape := ⟨3, ![8, 16, 128]⟩
abbrev S8x16x1 : Shape := ⟨3, ![8, 16, 1]⟩
abbrev S8x256x256 : Shape := ⟨3, ![8, 256, 256]⟩
abbrev S8x256x128 : Shape := ⟨3, ![8, 256, 128]⟩
abbrev S8x8x128 : Shape := ⟨3, ![8, 8, 128]⟩
abbrev S1x128 : Shape := ⟨2, ![1, 128]⟩
abbrev S8x128 : Shape := ⟨2, ![8, 128]⟩
abbrev S16x256 : Shape := ⟨2, ![16, 256]⟩
abbrev S1x1x128 : Shape := ⟨3, ![1, 1, 128]⟩
abbrev S1x1x1 : Shape := ⟨3, ![1, 1, 1]⟩
abbrev S1x1 : Shape := ⟨2, ![1, 1]⟩
abbrev S1x8x128 : Shape := ⟨3, ![1, 8, 128]⟩
abbrev S1x16x128 : Shape := ⟨3, ![1, 16, 128]⟩
abbrev S16x128 : Shape := ⟨2, ![16, 128]⟩
abbrev S256x128 : Shape := ⟨2, ![256, 128]⟩
abbrev S1x16x1 : Shape := ⟨3, ![1, 16, 1]⟩
abbrev S16x1 : Shape := ⟨2, ![16, 1]⟩
abbrev S1x16x256 : Shape := ⟨3, ![1, 16, 256]⟩

abbrev nBuf : Space → Nat
  | .hbm => 24
  | .vmem => 24
  | .smem => 0
  | _ => 0

abbrev bufTy : (tb : Table) → Fin (tcTables nBuf tb) → BufTy
  | .hbm, ⟨0, _⟩ => ⟨S128x64, .f32⟩
  | .hbm, ⟨1, _⟩ => ⟨S128x64, .f32⟩
  | .hbm, ⟨2, _⟩ => ⟨S128, .f32⟩
  | .hbm, ⟨3, _⟩ => ⟨S128x64x16, .f32⟩
  | .hbm, ⟨4, _⟩ => ⟨S128x64x16, .f32⟩
  | .hbm, ⟨5, _⟩ => ⟨S128x16x64, .f32⟩
  | .hbm, ⟨6, _⟩ => ⟨S128x16x64, .f32⟩
  | .hbm, ⟨7, _⟩ => ⟨S2048, .f32⟩
  | .hbm, ⟨8, _⟩ => ⟨S128x128, .f32⟩
  | .hbm, ⟨9, _⟩ => ⟨S128x1x128, .f32⟩
  | .hbm, ⟨10, _⟩ => ⟨S128x128, .f32⟩
  | .hbm, ⟨11, _⟩ => ⟨S128x1x128, .f32⟩
  | .hbm, ⟨12, _⟩ => ⟨S128x1x1, .f32⟩
  | .hbm, ⟨13, _⟩ => ⟨S128x16x64, .f32⟩
  | .hbm, ⟨14, _⟩ => ⟨S128x16x64, .f32⟩
  | .hbm, ⟨15, _⟩ => ⟨S128x16x128, .f32⟩
  | .hbm, ⟨16, _⟩ => ⟨S128x16x128, .f32⟩
  | .hbm, ⟨17, _⟩ => ⟨S128x16x128, .f32⟩
  | .hbm, ⟨18, _⟩ => ⟨S128x16x128, .f32⟩
  | .hbm, ⟨19, _⟩ => ⟨S128x16x1, .f32⟩
  | .hbm, ⟨20, _⟩ => ⟨S128x256x256, .bf16⟩
  | .hbm, ⟨21, _⟩ => ⟨S128x256x256, .bf16⟩
  | .hbm, ⟨22, _⟩ => ⟨S128x256x128, .bf16⟩
  | .hbm, ⟨23, _⟩ => ⟨S128x8x128, .f32⟩
  | .local _ .vmem, ⟨0, _⟩ => ⟨S8x1x128, .f32⟩
  | .local _ .vmem, ⟨1, _⟩ => ⟨S8x1x128, .f32⟩
  | .local _ .vmem, ⟨2, _⟩ => ⟨S8x1x128, .f32⟩
  | .local _ .vmem, ⟨3, _⟩ => ⟨S8x1x128, .f32⟩
  | .local _ .vmem, ⟨4, _⟩ => ⟨S8x1x1, .f32⟩
  | .local _ .vmem, ⟨5, _⟩ => ⟨S8x1x1, .f32⟩
  | .local _ .vmem, ⟨6, _⟩ => ⟨S8x16x128, .f32⟩
  | .local _ .vmem, ⟨7, _⟩ => ⟨S8x16x128, .f32⟩
  | .local _ .vmem, ⟨8, _⟩ => ⟨S8x16x128, .f32⟩
  | .local _ .vmem, ⟨9, _⟩ => ⟨S8x16x128, .f32⟩
  | .local _ .vmem, ⟨10, _⟩ => ⟨S8x16x128, .f32⟩
  | .local _ .vmem, ⟨11, _⟩ => ⟨S8x16x128, .f32⟩
  | .local _ .vmem, ⟨12, _⟩ => ⟨S8x16x128, .f32⟩
  | .local _ .vmem, ⟨13, _⟩ => ⟨S8x16x128, .f32⟩
  | .local _ .vmem, ⟨14, _⟩ => ⟨S8x16x1, .f32⟩
  | .local _ .vmem, ⟨15, _⟩ => ⟨S8x16x1, .f32⟩
  | .local _ .vmem, ⟨16, _⟩ => ⟨S8x256x256, .bf16⟩
  | .local _ .vmem, ⟨17, _⟩ => ⟨S8x256x256, .bf16⟩
  | .local _ .vmem, ⟨18, _⟩ => ⟨S8x256x256, .bf16⟩
  | .local _ .vmem, ⟨19, _⟩ => ⟨S8x256x256, .bf16⟩
  | .local _ .vmem, ⟨20, _⟩ => ⟨S8x256x128, .bf16⟩
  | .local _ .vmem, ⟨21, _⟩ => ⟨S8x256x128, .bf16⟩
  | .local _ .vmem, ⟨22, _⟩ => ⟨S8x8x128, .f32⟩
  | .local _ .vmem, ⟨23, _⟩ => ⟨S8x8x128, .f32⟩
  | _, _ => ⟨S128x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12_0 : Ref sig .tc := ⟨.hbm, 20, rfl⟩
abbrev main_v12_1 : Ref sig .tc := ⟨.hbm, 21, rfl⟩
abbrev main_v12_2 : Ref sig .tc := ⟨.hbm, 22, rfl⟩
abbrev main_v12_3 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S8x1x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x1x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8x1x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x16x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S8x16x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S8x16x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S8x16x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S8x16x1 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S8x256x256 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S8x256x256 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S8x256x128 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S8x8x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== Proof.GlaModel.lean ====
/- The body of the gated linear attention kernel, written once over a block number: the logarithm of the decays, its
   running sums inside a chunk of 64 rows, the decayed queries and keys, what one block of 256 rows (four chunks) adds
   by itself and from the state before it, the state after it, and the closing norm and gate. -/
module

public import proofs.«01_k».proof.Proof.Gen.KernelIdeal.Value
public import Idealize.ShloMosaic.Lib.Pipeline.ValueKit
public import Idealize.ShloMosaic.Lib.KernelVsHost

@[expose] public section

set_option maxRecDepth 16384

noncomputable section

open Idealize.ShloMosaic Idealize.ShloMosaic.TcCoe Idealize.SL.Sem

namespace Cert.KernelIdeal.Gla

open Cert.KernelIdeal Cert.KernelIdeal.Gen

variable {F : FTy → Type} [FloatOps F]

/-- The mask of the running sums: row and column in one chunk of 64, the column not after the row. -/
def trilM : FVec F S256x256 .bf16 :=
  k0_pay6 (iota .tc S256x256 32 [0] iota_S256x256_d0_w32) (iota .tc S256x256 32 [1] iota_S256x256_d1_w32) k0_pay3 64#32
    k0_pay4 k0_pay5 1#32 0#32

/-- The mask of a chunk's own scores inside a pair of chunks. -/
def diagM : IVec S128x128 1 :=
  k0_pay10 (iota .tc S128x128 32 [0] iota_S128x128_d0_w32) (iota .tc S128x128 32 [1] iota_S128x128_d1_w32) k0_pay7 64#32
    k0_pay8 k0_pay9 0#32

/-- The mask of the second chunk's scores against the first one inside a pair of chunks. -/
def lowM : IVec S128x128 1 :=
  k0_pay11 (iota .tc S128x128 32 [0] iota_S128x128_d0_w32) (iota .tc S128x128 32 [1] iota_S128x128_d1_w32)

/-- Block `b` of 256 rows can be cut out. -/
theorem sl256 (b : Fin 8) : S2048x256.Slices ![256 * b.val, 0] S256x256 := by
  revert b; decide +kernel

/-- Row `64 c + 63` can be cut out. -/
theorem slRow (c : Fin 32) : S2048x256.Slices ![64 * c.val + 63, 0] S1x256 := by
  revert c; decide +kernel

/-- Block `b` of 256 rows. -/
def cut {α : Type} (b : Fin 8) (X : S2048x256.Idx → α) : S256x256.Idx → α :=
  extractStridedSlice S256x256 ![256 * b.val, 0] X (sl256 b)

/-- Row `64 c + 63`: the last row of chunk `c`. -/
def row (B : FVec F S2048x256 .f32) (c : Fin 32) : FVec F S1x256 .f32 :=
  extractStridedSlice S1x256 ![64 * c.val + 63, 0] B (slRow c)

/-- A row repeated over a chunk. -/
def bc (r : FVec F S1x256 .f32) : FVec F S64x256 .f32 :=
  broadcastTo S64x256 (shapeCast S1x256 r shapeCasts_S1x256_S1x256) broadcasts_S1x256_S64x256

/-- One row per chunk, each repeated over its chunk. -/
def perChunk (r : Fin 32 → FVec F S1x256 .f32) : FVec F S2048x256 .f32 :=
  concatenate S2048x256 0 [⟨S64x256, bc (r ⟨0, by decide⟩)⟩, ⟨S64x256, bc (r ⟨1, by decide⟩)⟩, ⟨S64x256, bc (r ⟨2, by decide⟩)⟩, ⟨S64x256, bc (r ⟨3, by decide⟩)⟩, ⟨S64x256, bc (r ⟨4, by decide⟩)⟩, ⟨S64x256, bc (r ⟨5, by decide⟩)⟩, ⟨S64x256, bc (r ⟨6, by decide⟩)⟩, ⟨S64x256, bc (r ⟨7, by decide⟩)⟩, ⟨S64x256, bc (r ⟨8, by decide⟩)⟩, ⟨S64x256, bc (r ⟨9, by decide⟩)⟩, ⟨S64x256, bc (r ⟨10, by decide⟩)⟩, ⟨S64x256, bc (r ⟨11, by decide⟩)⟩, ⟨S64x256, bc (r ⟨12, by decide⟩)⟩, ⟨S64x256, bc (r ⟨13, by decide⟩)⟩, ⟨S64x256, bc (r ⟨14, by decide⟩)⟩, ⟨S64x256, bc (r ⟨15, by decide⟩)⟩, ⟨S64x256, bc (r ⟨16, by decide⟩)⟩, ⟨S64x256, bc (r ⟨17, by decide⟩)⟩, ⟨S64x256, bc (r ⟨18, by decide⟩)⟩, ⟨S64x256, bc (r ⟨19, by decide⟩)⟩, ⟨S64x256, bc (r ⟨20, by decide⟩)⟩, ⟨S64x256, bc (r ⟨21, by decide⟩)⟩, ⟨S64x256, bc (r ⟨22, by decide⟩)⟩, ⟨S64x256, bc (r ⟨23, by decide⟩)⟩, ⟨S64x256, bc (r ⟨24, by decide⟩)⟩, ⟨S64x256, bc (r ⟨25, by decide⟩)⟩, ⟨S64x256, bc (r ⟨26, by decide⟩)⟩, ⟨S64x256, bc (r ⟨27, by decide⟩)⟩, ⟨S64x256, bc (r ⟨28, by decide⟩)⟩, ⟨S64x256, bc (r ⟨29, by decide⟩)⟩, ⟨S64x256, bc (r ⟨30, by decide⟩)⟩, ⟨S64x256, bc (r ⟨31, by decide⟩)⟩]
    concatenates_S64x256_S64x256_S64x256_S64x256_S64x256_S64x256_S64x256_S64x256_S64x256_S64x256_S64x256_S64x256_S64x256_S64x256_S64x256_S64x256_S64x256_S64x256_S64x256_S64x256_S64x256_S64x256_S64x256_S64x256_S64x256_S64x256_S64x256_S64x256_S64x256_S64x256_S64x256_S64x256_S2048x256_d0

/-- The running sums of one block. -/
def tri (hi lo : FVec F S256x256 .bf16) : FVec F S256x256 .f32 :=
  addf (matmul dot_S256x256_S256x256_S256x256_1_0_0_1_n_n none trilM hi (constant S256x256 .f32 0x00000000#32))
    (matmul dot_S256x256_S256x256_S256x256_1_0_0_1_n_n none trilM lo (constant S256x256 .f32 0x00000000#32))

def concat8 (f g : Fin 8 → FVec F S256x256 .bf16) : FVec F S2048x256 .f32 :=
  concatenate S2048x256 0 [⟨S256x256, tri (f ⟨0, by decide⟩) (g ⟨0, by decide⟩)⟩, ⟨S256x256, tri (f ⟨1, by decide⟩) (g ⟨1, by decide⟩)⟩, ⟨S256x256, tri (f ⟨2, by decide⟩) (g ⟨2, by decide⟩)⟩, ⟨S256x256, tri (f ⟨3, by decide⟩) (g ⟨3, by decide⟩)⟩, ⟨S256x256, tri (f ⟨4, by decide⟩) (g ⟨4, by decide⟩)⟩, ⟨S256x256, tri (f ⟨5, by decide⟩) (g ⟨5, by decide⟩)⟩, ⟨S256x256, tri (f ⟨6, by decide⟩) (g ⟨6, by decide⟩)⟩, ⟨S256x256, tri (f ⟨7, by decide⟩) (g ⟨7, by decide⟩)⟩]
    concatenates_S256x256_S256x256_S256x256_S256x256_S256x256_S256x256_S256x256_S256x256_S2048x256_d0

/-- The logarithm of the decays of 2048 rows. -/
def logA (wg : Vec F S128x256 .f32) (bg : Vec F S1x256 .f32) (g : Vec F S2048x128 .f32) : FVec F S2048x256 .f32 :=
  k0_pay20 (k0_pay14 wg) (k0_pay15 bg) (k0_pay17 g) (k0_pay18 wg g) (k0_pay19 wg g)

/-- Its running sums inside each chunk. -/
def bcum (L : FVec F S2048x256 .f32) : FVec F S2048x256 .f32 :=
  concat8 (fun b => cut b (truncf .bf16 L bitsLt_bf16_f32))
    (fun b => cut b (truncf .bf16 (subf L (extf .f32 (truncf .bf16 L bitsLt_bf16_f32) bitsLt_bf16_f32)) bitsLt_bf16_f32))

/-- The scaled queries, decayed from their chunk's start. -/
def qDec (B : FVec F S2048x256 .f32) (q : Vec F S2048x256 .bf16) : FVec F S2048x256 .f32 :=
  k0_pay64 B (k0_pay62 q) (Scalar.ofBits .f32 0x3D800000#32)

/-- The keys, with the decay from their chunk's start taken off. -/
def kInv (B : FVec F S2048x256 .f32) (k : Vec F S2048x256 .bf16) : FVec F S2048x256 .bf16 := k0_pay65 B k

/-- The keys, decayed to their chunk's end. -/
def kEnd (B : FVec F S2048x256 .f32) (k : Vec F S2048x256 .bf16) : FVec F S2048x256 .f32 :=
  mulf (k0_pay63 k) (exp (subf (perChunk (row B)) B))

/-- The row numbers of block `c / 4`. -/
def rowAt (l : Fin 32 → FVec F S1x256 .f32) (c : Fin 32) (i : Nat) (hi : i < 4) : FVec F S1x256 .f32 :=
  l ⟨4 * (c.val / 4) + i, by omega⟩

/-- The decay (as a logarithm) from the block's start to chunk `c`'s. -/
def eIn (l : Fin 32 → FVec F S1x256 .f32) (c : Fin 32) : FVec F S1x256 .f32 :=
  match c.val % 4 with
  | 0 => k0_pay92
  | 1 => rowAt l c 0 (by decide)
  | 2 => addf (rowAt l c 0 (by decide)) (rowAt l c 1 (by decide))
  | _ => addf (addf (rowAt l c 0 (by decide)) (rowAt l c 1 (by decide))) (rowAt l c 2 (by decide))

/-- The decay (as a logarithm) from chunk `c`'s end to the block's. -/
def eOut (l : Fin 32 → FVec F S1x256 .f32) (c : Fin 32) : FVec F S1x256 .f32 :=
  match c.val % 4 with
  | 0 => addf (addf (rowAt l c 1 (by decide)) (rowAt l c 2 (by decide))) (rowAt l c 3 (by decide))
  | 1 => addf (rowAt l c 2 (by decide)) (rowAt l c 3 (by decide))
  | 2 => rowAt l c 3 (by decide)
  | _ => k0_pay92

/-- The decay over all of block `b`. -/
def eTot (l : Fin 32 → FVec F S1x256 .f32) (b : Fin 8) : FVec F S1x256 .f32 :=
  exp (addf (addf (addf (l ⟨4 * b.val, by omega⟩) (l ⟨4 * b.val + 1, by omega⟩)) (l ⟨4 * b.val + 2, by omega⟩))
    (l ⟨4 * b.val + 3, by omega⟩))

/-- The scores inside the pair of chunks at row `o` of a block. -/
def pairAtt (o : Nat) (h : S256x256.Slices ![o, 0] S128x256) (qdb kib keb : FVec F S256x256 .bf16) : FVec F S128x128 .f32 :=
  select diagM
    (matmul dot_S128x256_S128x256_S128x128_1_1_0_0_n_n none (extractStridedSlice S128x256 ![o, 0] qdb h)
      (extractStridedSlice S128x256 ![o, 0] kib h) (constant S128x128 .f32 0x00000000#32))
    (select lowM
      (matmul dot_S128x256_S128x256_S128x128_1_1_0_0_n_n none (extractStridedSlice S128x256 ![o, 0] qdb h)
        (extractStridedSlice S128x256 ![o, 0] keb h) (constant S128x128 .f32 0x00000000#32))
      (broadcast S128x128 (Scalar.ofBits .f32 0x00000000#32)))

/-- The queries of the second pair, decayed from that pair's start. -/
def qb (l2 : FVec F S1x256 .f32) (qd : FVec F S256x256 .f32) : FVec F S128x256 .bf16 :=
  truncf .bf16 (concatenate S128x256 0
    [⟨S64x256, extractStridedSlice S64x256 ![128, 0] qd slices_S256x256_o128_0_S64x256⟩,
     ⟨S64x256, mulf (extractStridedSlice S64x256 ![192, 0] qd slices_S256x256_o192_0_S64x256)
        (broadcastTo S64x256 (exp l2) broadcasts_S1x256_S64x256)⟩] concatenates_S64x256_S64x256_S128x256_d0) bitsLt_bf16_f32

/-- The keys of the first pair, decayed to that pair's end. -/
def kb (l1 : FVec F S1x256 .f32) (ke : FVec F S256x256 .f32) : FVec F S128x256 .bf16 :=
  truncf .bf16 (concatenate S128x256 0
    [⟨S64x256, mulf (extractStridedSlice S64x256 ![0, 0] ke slices_S256x256_o0_0_S64x256)
        (broadcastTo S64x256 (exp l1) broadcasts_S1x256_S64x256)⟩,
     ⟨S64x256, extractStridedSlice S64x256 ![64, 0] ke slices_S256x256_o64_0_S64x256⟩]
    concatenates_S64x256_S64x256_S128x256_d0) bitsLt_bf16_f32

/-- The scores of one block. -/
def att (l1 l2 : FVec F S1x256 .f32) (qd ke : FVec F S256x256 .f32) (qdb kib keb : FVec F S256x256 .bf16) :
    FVec F S256x256 .f32 :=
  concatenate S256x256 0
    [⟨S128x256, concatenate S128x256 1
      [⟨S128x128, pairAtt 0 slices_S256x256_o0_0_S128x256 qdb kib keb⟩,
       ⟨S128x128, broadcast S128x128 (Scalar.ofBits .f32 0x00000000#32)⟩] concatenates_S128x128_S128x128_S128x256_d1⟩,
     ⟨S128x256, concatenate S128x256 1
      [⟨S128x128, matmul dot_S128x256_S128x256_S128x128_1_1_0_0_n_n none (qb l2 qd) (kb l1 ke)
          (constant S128x128 .f32 0x00000000#32)⟩,
       ⟨S128x128, pairAtt 128 slices_S256x256_o128_0_S128x256 qdb kib keb⟩]
      concatenates_S128x128_S128x128_S128x256_d1⟩] concatenates_S128x256_S128x256_S256x256_d0

/-- What block `b` adds by itself. -/
def oPart (l : Fin 32 → FVec F S1x256 .f32) (QD KE : FVec F S2048x256 .f32) (KI : FVec F S2048x256 .bf16)
    (v : Fin 8 → Vec F S256x512 .bf16) (b : Fin 8) : FVec F S256x512 .f32 :=
  matmul dot_S256x256_S256x512_S256x512_1_0_0_1_n_n none
    (truncf .bf16 (att (l ⟨4 * b.val + 1, by omega⟩) (l ⟨4 * b.val + 2, by omega⟩) (cut b QD) (cut b KE)
      (cut b (truncf .bf16 QD bitsLt_bf16_f32)) (cut b KI) (cut b (truncf .bf16 KE bitsLt_bf16_f32))) bitsLt_bf16_f32)
    (v b) (constant S256x512 .f32 0x00000000#32)

/-- The queries decayed from their block's start. -/
def qs (l : Fin 32 → FVec F S1x256 .f32) (QD : FVec F S2048x256 .f32) : FVec F S2048x256 .bf16 :=
  truncf .bf16 (mulf QD (perChunk fun c => exp (eIn l c))) bitsLt_bf16_f32

/-- The keys decayed to their block's end. -/
def ke (l : Fin 32 → FVec F S1x256 .f32) (KE : FVec F S2048x256 .f32) : FVec F S2048x256 .bf16 :=
  truncf .bf16 (mulf KE (perChunk fun c => exp (eOut l c))) bitsLt_bf16_f32

/-- The state after block `b` from the state before it. -/
def stStep (l : Fin 32 → FVec F S1x256 .f32) (K : FVec F S2048x256 .bf16) (v : Fin 8 → Vec F S256x512 .bf16) (b : Fin 8)
    (st : FVec F S512x256 .f32) : FVec F S512x256 .f32 :=
  addf (mulf st (broadcastTo S512x256 (eTot l b) broadcasts_S1x256_S512x256))
    (matmul dot_S256x512_S256x256_S512x256_0_0_1_1_n_n none (v b) (cut b K) (constant S512x256 .f32 0x00000000#32))

/-- The state before block `b`. -/
def stAt (l : Fin 32 → FVec F S1x256 .f32) (K : FVec F S2048x256 .bf16) (v : Fin 8 → Vec F S256x512 .bf16)
    (st : FVec F S512x256 .f32) : (b : Nat) → b ≤ 8 → FVec F S512x256 .f32
  | 0, _ => st
  | b + 1, h => stStep l K v ⟨b, h⟩ (stAt l K v st b (Nat.le_of_succ_le h))

/-- The attention of block `b`. -/
def oBlock (l : Fin 32 → FVec F S1x256 .f32) (QD KE : FVec F S2048x256 .f32) (KI : FVec F S2048x256 .bf16)
    (v : Fin 8 → Vec F S256x512 .bf16) (st : FVec F S512x256 .f32) (b : Fin 8) : FVec F S256x512 .f32 :=
  addf (oPart l QD KE KI v b)
    (matmul dot_S256x256_S512x256_S256x512_1_1_0_0_n_n none (cut b (qs l QD))
      (truncf .bf16 (stAt l (ke l KE) v st b.val (Nat.le_of_lt b.isLt)) bitsLt_bf16_f32)
      (constant S256x512 .f32 0x00000000#32))

def oCat (o : Fin 8 → FVec F S256x512 .f32) : FVec F S2048x512 .f32 :=
  concatenate S2048x512 0 [⟨S256x512, o ⟨0, by decide⟩⟩, ⟨S256x512, o ⟨1, by decide⟩⟩, ⟨S256x512, o ⟨2, by decide⟩⟩, ⟨S256x512, o ⟨3, by decide⟩⟩, ⟨S256x512, o ⟨4, by decide⟩⟩, ⟨S256x512, o ⟨5, by decide⟩⟩, ⟨S256x512, o ⟨6, by decide⟩⟩, ⟨S256x512, o ⟨7, by decide⟩⟩]
    concatenates_S256x512_S256x512_S256x512_S256x512_S256x512_S256x512_S256x512_S256x512_S2048x512_d0

/-- The root mean square norm of each row, its scale and the gate. -/
def normGate (O : FVec F S2048x512 .f32) (ng : Vec F S1x512 .f32) (z : Vec F S2048x512 .bf16) : FVec F S2048x512 .bf16 :=
  truncf .bf16
    (mulf
      (mulf
        (mulf O (broadcastTo S2048x512
          (rsqrt (addf (divf (shapeCast S2048x1
              (multiReduction .add [1] S2048 (mulf O O) 0x00000000#32 reduces_S2048x512_S2048 (.inl rfl) rfl)
              shapeCasts_S2048_S2048x1) (broadcast S2048x1 (Scalar.ofBits .f32 0x44000000#32)))
            (broadcast S2048x1 (Scalar.ofBits .f32 0x3727C5AC#32)))) broadcasts_S2048x1_S2048x512))
        (broadcastTo S2048x512 (k0_pay16 ng) broadcasts_S1x512_S2048x512))
      (addf (mulf (broadcast S2048x512 (Scalar.ofBits .f32 0x3F000000#32)) (extf .f32 z bitsLt_bf16_f32))
        (mulf (mulf (broadcast S2048x512 (Scalar.ofBits .f32 0x3F000000#32)) (extf .f32 z bitsLt_bf16_f32))
          (tanh (mulf (broadcast S2048x512 (Scalar.ofBits .f32 0x3F000000#32)) (extf .f32 z bitsLt_bf16_f32))))))
    bitsLt_bf16_f32

/-- The attention of the 2048 rows of one grid point. -/
def attn (q k : Vec F S2048x256 .bf16) (v : Fin 8 → Vec F S256x512 .bf16) (g : Vec F S2048x128 .f32)
    (wg : Vec F S128x256 .f32) (bg : Vec F S1x256 .f32) (st : Vec F S512x256 .f32) : FVec F S2048x512 .f32 :=
  oCat (oBlock (row (bcum (logA wg bg g))) (qDec (bcum (logA wg bg g)) q) (kEnd (bcum (logA wg bg g)) k)
    (kInv (bcum (logA wg bg g)) k) v st)

/-- What the body writes. -/
def out (q k : Vec F S2048x256 .bf16) (v : Fin 8 → Vec F S256x512 .bf16) (g : Vec F S2048x128 .f32)
    (z : Vec F S2048x512 .bf16) (wg : Vec F S128x256 .f32) (bg : Vec F S1x256 .f32) (ng : Vec F S1x512 .f32)
    (st : Vec F S512x256 .f32) : FVec F S2048x512 .bf16 :=
  normGate (attn q k v g wg bg st) ng z

/-- The state the body leaves. -/
def stOut (k : Vec F S2048x256 .bf16) (v : Fin 8 → Vec F S256x512 .bf16) (g : Vec F S2048x128 .f32)
    (wg : Vec F S128x256 .f32) (bg : Vec F S1x256 .f32) (st : Vec F S512x256 .f32) : FVec F S512x256 .f32 :=
  shapeCast S512x256 (stAt (row (bcum (logA wg bg g))) (ke (row (bcum (logA wg bg g))) (kEnd (bcum (logA wg bg g)) k)) v st 8
    (Nat.le_refl 8)) shapeCasts_S512x256_S512x256

end Cert.KernelIdeal.Gla
-- ==== Proof.GlaMatch.lean ====
/- The kernel's body, as it runs at a grid point, is the model of GlaModel. -/
module

public import proofs.«01_k».proof.Proof.GlaModel
public import Idealize.ShloMosaic.Lib.VecWindow

@[expose] public section

set_option maxRecDepth 16384

noncomputable section

open Idealize.ShloMosaic Idealize.ShloMosaic.TcCoe Idealize.SL.Sem

namespace Cert.KernelIdeal.Gla

open Cert.KernelIdeal Cert.KernelIdeal.Gen

variable {F : FTy → Type} [FloatOps F]

/-- Block `b` of the values can be loaded. -/
theorem inbV (b : Fin 8) : ∀ a, (![256 * b.val, 0] : Fin 2 → Nat) a + S256x512.size a ≤ S2048x512.size a := by
  revert b; decide +kernel

/-- Block `b` of the values. -/
def vBlk (x : Vec F S2048x512 .bf16) (b : Fin 8) : Vec F S256x512 .bf16 :=
  View.ld x (Rect.unit (s := S2048x512) ![256 * b.val, 0] S256x512.size (inbV b))

/-- The stored zero state, read back. -/
theorem zero_back (c : Dev nD) (arg12 : Memref sig .tc .vmem S512x256 .f32) :
    kernelRun0_A.sl.v950 (F := F) c arg12 = k0_pay2 := by
  unfold kernelRun0_A.sl.v950 kernelRun0_A.sl.HS0_1
  exact View.readCov_full _ _ _ _ _

/-- What case A leaves in the output block. -/
theorem out0_A_8_eq (c : Dev nD) (i : grid0.Coords) (arg3 : Memref sig .tc .vmem S2048x256 .bf16) (harg3 : arg3.IsWhole) (arg4 : Memref sig .tc .vmem S2048x256 .bf16) (harg4 : arg4.IsWhole) (arg5 : Memref sig .tc .vmem S2048x512 .bf16) (harg5 : arg5.IsWhole) (arg6 : Memref sig .tc .vmem S2048x128 .f32) (harg6 : arg6.IsWhole) (arg7 : Memref sig .tc .vmem S2048x512 .bf16) (harg7 : arg7.IsWhole) (arg8 : Memref sig .tc .vmem S128x256 .f32) (harg8 : arg8.IsWhole) (arg9 : Memref sig .tc .vmem S1x256 .f32) (harg9 : arg9.IsWhole) (arg10 : Memref sig .tc .vmem S1x512 .f32) (harg10 : arg10.IsWhole) (arg11 : Memref sig .tc .vmem S2048x512 .bf16) (harg11 : arg11.IsWhole) (arg12 : Memref sig .tc .vmem S512x256 .f32) (harg12 : arg12.IsWhole) (hc0 : cond0_0 i)
    (x0 : Vec F S2048x256 .bf16) (x1 : Vec F S2048x256 .bf16) (x2 : Vec F S2048x512 .bf16) (x3 : Vec F S2048x128 .f32) (x4 : Vec F S2048x512 .bf16) (x5 : Vec F S128x256 .f32) (x6 : Vec F S1x256 .f32) (x7 : Vec F S1x512 .f32) :
    out0_A_8 c i arg3 harg3 arg4 harg4 arg5 harg5 arg6 harg6 arg7 harg7 arg8 harg8 arg9 harg9 arg10 harg10 arg11 harg11 arg12 harg12 hc0 x0 x1 x2 x3 x4 x5 x6 x7 = out x0 x1 (vBlk x2) x3 x4 x5 x6 x7 k0_pay2 := by
  unfold out0_A_8 kernelRun0_A
  refine (View.read_writes_full _ _ _ _ _).trans ?_
  refine Eq.trans (b := out (View.readAt (Elt F) arg3.view (Rect.unit ![0, 0] S2048x256.size inb_S2048x256_S2048x256_0_0).toLoadRect (harg3.unread x0)) (View.readAt (Elt F) arg4.view (Rect.unit ![0, 0] S2048x256.size inb_S2048x256_S2048x256_0_0).toLoadRect (harg4.unread x1)) (fun b => View.readAt (Elt F) arg5.view (Rect.unit (s := S2048x512) ![256 * b.val, 0] S256x512.size (inbV b)).toLoadRect (harg5.unread x2)) (View.readAt (Elt F) arg6.view (Rect.unit ![0, 0] S2048x128.size inb_S2048x128_S2048x128_0_0).toLoadRect (harg6.unread x3)) (View.readAt (Elt F) arg7.view (Rect.unit ![0, 0] S2048x512.size inb_S2048x512_S2048x512_0_0).toLoadRect (harg7.unread x4)) (View.readAt (Elt F) arg8.view (Rect.unit ![0, 0] S128x256.size inb_S128x256_S128x256_0_0).toLoadRect (harg8.unread x5)) (View.readAt (Elt F) arg9.view (Rect.unit ![0, 0] S1x256.size inb_S1x256_S1x256_0_0).toLoadRect (harg9.unread x6)) (View.readAt (Elt F) arg10.view (Rect.unit ![0, 0] S1x512.size inb_S1x512_S1x512_0_0).toLoadRect (harg10.unread x7)) (kernelRun0_A.sl.v950 c arg12)) (by sl_kernel_rfl) ?_
  rw [zero_back]; simp (disch := decide) only [View.readAt_eq_ld, Memref.IsWhole.read_unread, View.ld_unit_lit']
  try rfl

/-- What case A leaves in the carried state. -/
theorem sout0_A_0_eq (c : Dev nD) (i : grid0.Coords) (arg3 : Memref sig .tc .vmem S2048x256 .bf16) (harg3 : arg3.IsWhole) (arg4 : Memref sig .tc .vmem S2048x256 .bf16) (harg4 : arg4.IsWhole) (arg5 : Memref sig .tc .vmem S2048x512 .bf16) (harg5 : arg5.IsWhole) (arg6 : Memref sig .tc .vmem S2048x128 .f32) (harg6 : arg6.IsWhole) (arg7 : Memref sig .tc .vmem S2048x512 .bf16) (harg7 : arg7.IsWhole) (arg8 : Memref sig .tc .vmem S128x256 .f32) (harg8 : arg8.IsWhole) (arg9 : Memref sig .tc .vmem S1x256 .f32) (harg9 : arg9.IsWhole) (arg10 : Memref sig .tc .vmem S1x512 .f32) (harg10 : arg10.IsWhole) (arg11 : Memref sig .tc .vmem S2048x512 .bf16) (harg11 : arg11.IsWhole) (arg12 : Memref sig .tc .vmem S512x256 .f32) (harg12 : arg12.IsWhole) (hc0 : cond0_0 i)
    (x0 : Vec F S2048x256 .bf16) (x1 : Vec F S2048x256 .bf16) (x2 : Vec F S2048x512 .bf16) (x3 : Vec F S2048x128 .f32) (x4 : Vec F S2048x512 .bf16) (x5 : Vec F S128x256 .f32) (x6 : Vec F S1x256 .f32) (x7 : Vec F S1x512 .f32) :
    sout0_A_0 c i arg3 harg3 arg4 harg4 arg5 harg5 arg6 harg6 arg7 harg7 arg8 harg8 arg9 harg9 arg10 harg10 arg11 harg11 arg12 harg12 hc0 x0 x1 x2 x3 x4 x5 x6 x7 = stOut x1 (vBlk x2) x3 x5 x6 k0_pay2 := by
  unfold sout0_A_0 kernelRun0_A
  refine (View.read_writes_full _ _ _ _ _).trans ?_
  refine Eq.trans (b := stOut (View.readAt (Elt F) arg4.view (Rect.unit ![0, 0] S2048x256.size inb_S2048x256_S2048x256_0_0).toLoadRect (harg4.unread x1)) (fun b => View.readAt (Elt F) arg5.view (Rect.unit (s := S2048x512) ![256 * b.val, 0] S256x512.size (inbV b)).toLoadRect (harg5.unread x2)) (View.readAt (Elt F) arg6.view (Rect.unit ![0, 0] S2048x128.size inb_S2048x128_S2048x128_0_0).toLoadRect (harg6.unread x3)) (View.readAt (Elt F) arg8.view (Rect.unit ![0, 0] S128x256.size inb_S128x256_S128x256_0_0).toLoadRect (harg8.unread x5)) (View.readAt (Elt F) arg9.view (Rect.unit ![0, 0] S1x256.size inb_S1x256_S1x256_0_0).toLoadRect (harg9.unread x6)) (kernelRun0_A.sl.v950 c arg12)) (by sl_kernel_rfl) ?_
  rw [zero_back]; simp (disch := decide) only [View.readAt_eq_ld, Memref.IsWhole.read_unread, View.ld_unit_lit']
  try rfl

/-- What case B leaves in the output block. -/
theorem out0_B_8_eq (c : Dev nD) (i : grid0.Coords) (arg3 : Memref sig .tc .vmem S2048x256 .bf16) (harg3 : arg3.IsWhole) (arg4 : Memref sig .tc .vmem S2048x256 .bf16) (harg4 : arg4.IsWhole) (arg5 : Memref sig .tc .vmem S2048x512 .bf16) (harg5 : arg5.IsWhole) (arg6 : Memref sig .tc .vmem S2048x128 .f32) (harg6 : arg6.IsWhole) (arg7 : Memref sig .tc .vmem S2048x512 .bf16) (harg7 : arg7.IsWhole) (arg8 : Memref sig .tc .vmem S128x256 .f32) (harg8 : arg8.IsWhole) (arg9 : Memref sig .tc .vmem S1x256 .f32) (harg9 : arg9.IsWhole) (arg10 : Memref sig .tc .vmem S1x512 .f32) (harg10 : arg10.IsWhole) (arg11 : Memref sig .tc .vmem S2048x512 .bf16) (harg11 : arg11.IsWhole) (arg12 : Memref sig .tc .vmem S512x256 .f32) (harg12 : arg12.IsWhole) (hc0 : ¬cond0_0 i)
    (x0 : Vec F S2048x256 .bf16) (x1 : Vec F S2048x256 .bf16) (x2 : Vec F S2048x512 .bf16) (x3 : Vec F S2048x128 .f32) (x4 : Vec F S2048x512 .bf16) (x5 : Vec F S128x256 .f32) (x6 : Vec F S1x256 .f32) (x7 : Vec F S1x512 .f32) (xs0 : Vec F S512x256 .f32) :
    out0_B_8 c i arg3 harg3 arg4 harg4 arg5 harg5 arg6 harg6 arg7 harg7 arg8 harg8 arg9 harg9 arg10 harg10 arg11 harg11 arg12 harg12 hc0 x0 x1 x2 x3 x4 x5 x6 x7 xs0 = out x0 x1 (vBlk x2) x3 x4 x5 x6 x7 xs0 := by
  unfold out0_B_8 kernelRun0_B
  refine (View.read_writes_full _ _ _ _ _).trans ?_
  refine Eq.trans (b := out (View.readAt (Elt F) arg3.view (Rect.unit ![0, 0] S2048x256.size inb_S2048x256_S2048x256_0_0).toLoadRect (harg3.unread x0)) (View.readAt (Elt F) arg4.view (Rect.unit ![0, 0] S2048x256.size inb_S2048x256_S2048x256_0_0).toLoadRect (harg4.unread x1)) (fun b => View.readAt (Elt F) arg5.view (Rect.unit (s := S2048x512) ![256 * b.val, 0] S256x512.size (inbV b)).toLoadRect (harg5.unread x2)) (View.readAt (Elt F) arg6.view (Rect.unit ![0, 0] S2048x128.size inb_S2048x128_S2048x128_0_0).toLoadRect (harg6.unread x3)) (View.readAt (Elt F) arg7.view (Rect.unit ![0, 0] S2048x512.size inb_S2048x512_S2048x512_0_0).toLoadRect (harg7.unread x4)) (View.readAt (Elt F) arg8.view (Rect.unit ![0, 0] S128x256.size inb_S128x256_S128x256_0_0).toLoadRect (harg8.unread x5)) (View.readAt (Elt F) arg9.view (Rect.unit ![0, 0] S1x256.size inb_S1x256_S1x256_0_0).toLoadRect (harg9.unread x6)) (View.readAt (Elt F) arg10.view (Rect.unit ![0, 0] S1x512.size inb_S1x512_S1x512_0_0).toLoadRect (harg10.unread x7)) (View.readAt (Elt F) arg12.view (Rect.unit ![0, 0] S512x256.size inb_S512x256_S512x256_0_0).toLoadRect (harg12.unread xs0))) (by sl_kernel_rfl) ?_
  simp (disch := decide) only [View.readAt_eq_ld, Memref.IsWhole.read_unread, View.ld_unit_lit']
  try rfl

/-- What case B leaves in the carried state. -/
theorem sout0_B_0_eq (c : Dev nD) (i : grid0.Coords) (arg3 : Memref sig .tc .vmem S2048x256 .bf16) (harg3 : arg3.IsWhole) (arg4 : Memref sig .tc .vmem S2048x256 .bf16) (harg4 : arg4.IsWhole) (arg5 : Memref sig .tc .vmem S2048x512 .bf16) (harg5 : arg5.IsWhole) (arg6 : Memref sig .tc .vmem S2048x128 .f32) (harg6 : arg6.IsWhole) (arg7 : Memref sig .tc .vmem S2048x512 .bf16) (harg7 : arg7.IsWhole) (arg8 : Memref sig .tc .vmem S128x256 .f32) (harg8 : arg8.IsWhole) (arg9 : Memref sig .tc .vmem S1x256 .f32) (harg9 : arg9.IsWhole) (arg10 : Memref sig .tc .vmem S1x512 .f32) (harg10 : arg10.IsWhole) (arg11 : Memref sig .tc .vmem S2048x512 .bf16) (harg11 : arg11.IsWhole) (arg12 : Memref sig .tc .vmem S512x256 .f32) (harg12 : arg12.IsWhole) (hc0 : ¬cond0_0 i)
    (x0 : Vec F S2048x256 .bf16) (x1 : Vec F S2048x256 .bf16) (x2 : Vec F S2048x512 .bf16) (x3 : Vec F S2048x128 .f32) (x4 : Vec F S2048x512 .bf16) (x5 : Vec F S128x256 .f32) (x6 : Vec F S1x256 .f32) (x7 : Vec F S1x512 .f32) (xs0 : Vec F S512x256 .f32) :
    sout0_B_0 c i arg3 harg3 arg4 harg4 arg5 harg5 arg6 harg6 arg7 harg7 arg8 harg8 arg9 harg9 arg10 harg10 arg11 harg11 arg12 harg12 hc0 x0 x1 x2 x3 x4 x5 x6 x7 xs0 = stOut x1 (vBlk x2) x3 x5 x6 xs0 := by
  unfold sout0_B_0 kernelRun0_B
  refine (View.read_writes_full _ _ _ _ _).trans ?_
  refine Eq.trans (b := stOut (View.readAt (Elt F) arg4.view (Rect.unit ![0, 0] S2048x256.size inb_S2048x256_S2048x256_0_0).toLoadRect (harg4.unread x1)) (fun b => View.readAt (Elt F) arg5.view (Rect.unit (s := S2048x512) ![256 * b.val, 0] S256x512.size (inbV b)).toLoadRect (harg5.unread x2)) (View.readAt (Elt F) arg6.view (Rect.unit ![0, 0] S2048x128.size inb_S2048x128_S2048x128_0_0).toLoadRect (harg6.unread x3)) (View.readAt (Elt F) arg8.view (Rect.unit ![0, 0] S128x256.size inb_S128x256_S128x256_0_0).toLoadRect (harg8.unread x5)) (View.readAt (Elt F) arg9.view (Rect.unit ![0, 0] S1x256.size inb_S1x256_S1x256_0_0).toLoadRect (harg9.unread x6)) (View.readAt (Elt F) arg12.view (Rect.unit ![0, 0] S512x256.size inb_S512x256_S512x256_0_0).toLoadRect (harg12.unread xs0))) (by sl_kernel_rfl) ?_
  simp (disch := decide) only [View.readAt_eq_ld, Memref.IsWhole.read_unread, View.ld_unit_lit']
  try rfl

end Cert.KernelIdeal.Gla
-- ==== Proof.GlaWin.lean ====
/- Where the attention kernel's blocks stand in its arguments. Grid point `t` is half `t mod 2` of the sequence, head
   `t / 2 mod 4`, sequence `t / 8`. -/
module

public import proofs.«01_k».proof.Proof.GlaMatch
public import Idealize.ShloMosaic.Lib.Pointwise
public import Idealize.ShloMosaic.Lib.VecWindow
public import Idealize.ShloMosaic.Lib.Routing.OpsPair
public import Idealize.ShloMosaic.Lib.Routing.OpsSet

@[expose] public section

set_option maxRecDepth 16384

noncomputable section

open Idealize.ShloMosaic Idealize.ShloMosaic.TcCoe Idealize.SL.Sem
open Idealize.ShloMosaic.Pipeline (Dat)

namespace Cert.KernelIdeal.Gla

open Cert.KernelIdeal Cert.KernelIdeal.Gen Cert.KernelIdeal.Value

variable (m : (ℓ : Loc nD τ sig) → Buf (Elt Ideal) ℓ)

/-- Where each window's block stands at grid point `t`. -/
theorem idx : ∀ t : Fin cfg0.N,
    win0_0.index t = ![t.val / 8 * 2 + t.val % 2, t.val / 2 % 4]
    ∧ win0_1.index t = ![t.val / 8 * 2 + t.val % 2, 4 + t.val / 2 % 4]
    ∧ win0_2.index t = ![t.val / 8 * 2 + t.val % 2, 4 + t.val / 2 % 4]
    ∧ win0_3.index t = ![t.val / 8 * 2 + t.val % 2, 0]
    ∧ win0_4.index t = ![t.val / 8 * 2 + t.val % 2, 8 + t.val / 2 % 4]
    ∧ win0_5.index t = ![0, t.val / 2 % 4] ∧ win0_6.index t = ![0, t.val / 2 % 4] ∧ win0_7.index t = ![0, 0]
    ∧ win0_8.index t = ![t.val / 8 * 2 + t.val % 2, t.val / 2 % 4] :=
  (by decide +kernel : ∀ t : Fin grid0.N, _)

theorem w0 (c : Dev nD) (t : Fin cfg0.N) (u : Fin 2048) (k : Fin 256) (ht : t.val < 32) :
    (iblk m c 0 t : FVec Ideal S2048x256 .bf16) (ix2 u k)
      = (m ((c : Thread nD τ).loc main_arg0) : FVec Ideal S16384x10240 .bf16)
          (ix2 ⟨(t.val / 8 * 2 + t.val % 2) * 2048 + u.val, by omega⟩ ⟨t.val / 2 % 4 * 256 + k.val, by omega⟩) := by
  blk_point [iblk, V, idx t]

theorem w1 (c : Dev nD) (t : Fin cfg0.N) (u : Fin 2048) (k : Fin 256) (ht : t.val < 32) :
    (iblk m c 1 t : FVec Ideal S2048x256 .bf16) (ix2 u k)
      = (m ((c : Thread nD τ).loc main_arg0) : FVec Ideal S16384x10240 .bf16)
          (ix2 ⟨(t.val / 8 * 2 + t.val % 2) * 2048 + u.val, by omega⟩ ⟨(4 + t.val / 2 % 4) * 256 + k.val, by omega⟩) := by
  blk_point [iblk, V, idx t]

theorem w2 (c : Dev nD) (t : Fin cfg0.N) (u : Fin 2048) (k : Fin 512) (ht : t.val < 32) :
    (iblk m c 2 t : FVec Ideal S2048x512 .bf16) (ix2 u k)
      = (m ((c : Thread nD τ).loc main_arg0) : FVec Ideal S16384x10240 .bf16)
          (ix2 ⟨(t.val / 8 * 2 + t.val % 2) * 2048 + u.val, by omega⟩ ⟨(4 + t.val / 2 % 4) * 512 + k.val, by omega⟩) := by
  blk_point [iblk, V, idx t]

theorem w3 (c : Dev nD) (t : Fin cfg0.N) (u : Fin 2048) (k : Fin 128) (ht : t.val < 32) :
    (iblk m c 3 t : FVec Ideal S2048x128 .f32) (ix2 u k)
      = (m ((c : Thread nD τ).loc main_arg1) : FVec Ideal S16384x128 .f32)
          (ix2 ⟨(t.val / 8 * 2 + t.val % 2) * 2048 + u.val, by omega⟩ k) := by
  blk_point [iblk, V, idx t]

theorem w4 (c : Dev nD) (t : Fin cfg0.N) (u : Fin 2048) (k : Fin 512) (ht : t.val < 32) :
    (iblk m c 4 t : FVec Ideal S2048x512 .bf16) (ix2 u k)
      = (m ((c : Thread nD τ).loc main_arg0) : FVec Ideal S16384x10240 .bf16)
          (ix2 ⟨(t.val / 8 * 2 + t.val % 2) * 2048 + u.val, by omega⟩ ⟨(8 + t.val / 2 % 4) * 512 + k.val, by omega⟩) := by
  blk_point [iblk, V, idx t]

/-- The padded gate weights: the 16 rows of the argument and zeros under them. -/
theorem pad_apply (w : FVec Ideal S16x1024 .f32) (z : FVec Ideal S128x1024 .f32) (ix : IVec S1 32) (hix : ∀ i, ix i = 0#32)
    (u : Fin 128) (k : Fin 1024) :
    Host.scatter scatter_S128x1024_S1_S16x1024_01_n_0_0 (fun _ b => b) z ix w (ix2 u k)
      = if h : u.val < 16 then w (ix2 ⟨u.val, h⟩ k) else z (ix2 u k) := by
  have hs : ∀ (y : S16x1024.Idx) a, scatter_S128x1024_S1_S16x1024_01_n_0_0.start y ix a = 0 := by
    intro y a
    match a with
    | ⟨0, _⟩ => show (ix _).toInt = 0; rw [hix]; rfl
    | ⟨1, _⟩ => rfl
  have hw : ∀ (y0 : Fin 16) (y1 : Fin 1024), scatter_S128x1024_S1_S16x1024_01_n_0_0.resultIdx? (ix2 y0 y1) ix = some (ix2 u k)
      ↔ y0.val = u.val ∧ y1.val = k.val := by
    intro y0 y1
    rw [Routing.resultIdx?_eq_some]
    constructor
    · intro h
      have h0 := h 0
      have h1 := h 1
      rw [hs] at h0 h1
      have e0 : (0 : Int) + (y0.val : Int) = u.val := h0
      have e1 : (0 : Int) + (y1.val : Int) = k.val := h1
      omega
    · intro h a
      rw [hs]
      match a with
      | ⟨0, _⟩ => show (0 : Int) + (y0.val : Int) = u.val; omega
      | ⟨1, _⟩ => show (0 : Int) + (y1.val : Int) = k.val; omega
  by_cases h : u.val < 16
  · rw [dif_pos h]
    refine Routing.scatter_set_hit _ _ _ _ _ _ (fun y hy => ?_) (ix2 ⟨u.val, h⟩ k) ((hw _ _).2 ⟨rfl, rfl⟩)
    idx_vars y
    obtain ⟨e0, e1⟩ := (hw y0 y1).1 hy
    congr 2
    · exact Fin.ext e0
    · exact Fin.ext e1
  · rw [dif_neg h]
    refine Routing.scatter_set_miss _ _ _ _ _ fun y hy => ?_
    idx_vars y
    have := ((hw y0 y1).1 hy).1
    omega

theorem rows_apply (w : FVec Ideal S1x16x1024 .f32) (u : Fin 16) (k : Fin 1024) :
    shapeCast S16x1024 w shapeCasts_S1x16x1024_S16x1024 (ix2 u k) = w (ix3 0 u k) := by
  pointwise

theorem zero_apply (u : Fin 128) (k : Fin 1024) :
    (broadcastInDim S128x1024 ![] bcast_S_S128x1024 (constant (F := Ideal) S_ .f32 0x00000000#32) : FVec Ideal S128x1024 .f32) (ix2 u k)
      = (0 : EReal) := by
  pointwise

/-- The array behind window 5. -/
theorem v5_apply (c : Dev nD) (u : Fin 128) (k : Fin 1024) :
    (V m c main_v5 : FVec Ideal S128x1024 .f32) (ix2 u k)
      = if h : u.val < 16 then ((m ((c : Thread nD τ).loc main_arg2) : FVec Ideal S1x16x1024 .f32) (ix3 0 ⟨u.val, h⟩ k) : EReal)
        else (0 : EReal) := by
  have e : (V m c main_v5 : FVec Ideal S128x1024 .f32)
      = Host.scatter scatter_S128x1024_S1_S16x1024_01_n_0_0 (fun _ b => b)
          (broadcastInDim S128x1024 ![] bcast_S_S128x1024 (constant (F := Ideal) S_ .f32 0x00000000#32))
          (broadcastInDim S1 ![] bcast_S_S1 (constantI S_ 32 0#32))
          (shapeCast S16x1024 (m ((c : Thread nD τ).loc main_arg2) : FVec Ideal S1x16x1024 .f32) shapeCasts_S1x16x1024_S16x1024) := by
    show StableHlo.after hostOps0 _ main_v5 = _
    unfold_abbrev_sides
    after_results
    rfl
  have hi : ∀ i, (broadcastInDim S1 ![] bcast_S_S1 (constantI S_ 32 0#32) : IVec S1 32) i = 0#32 := fun _ => rfl
  refine (congrFun e (ix2 u k)).trans ((pad_apply _ _ _ hi u k).trans ?_)
  split
  · exact rows_apply _ _ _
  · exact zero_apply _ _

theorem w5 (c : Dev nD) (t : Fin cfg0.N) (u : Fin 128) (k : Fin 256) (ht : t.val < 32) :
    (iblk m c 5 t : FVec Ideal S128x256 .f32) (ix2 u k)
      = if h : u.val < 16 then ((m ((c : Thread nD τ).loc main_arg2) : FVec Ideal S1x16x1024 .f32)
          (ix3 0 ⟨u.val, h⟩ ⟨t.val / 2 % 4 * 256 + k.val, by omega⟩) : EReal) else (0 : EReal) := by
  rw [← v5_apply m c u ⟨t.val / 2 % 4 * 256 + k.val, by omega⟩]
  unfold iblk
  generalize V m c = W
  blk_point [idx t]

theorem w6 (c : Dev nD) (t : Fin cfg0.N) (k : Fin 256) (ht : t.val < 32) :
    (iblk m c 6 t : FVec Ideal S1x256 .f32) (ix2 0 k)
      = (m ((c : Thread nD τ).loc main_arg3) : FVec Ideal S1x1024 .f32) (ix2 0 ⟨t.val / 2 % 4 * 256 + k.val, by omega⟩) := by
  blk_point [iblk, V, idx t]

theorem w7 (c : Dev nD) (t : Fin cfg0.N) (k : Fin 512) :
    (iblk m c 7 t : FVec Ideal S1x512 .f32) (ix2 0 k)
      = (m ((c : Thread nD τ).loc main_arg4) : FVec Ideal S1x512 .f32) (ix2 0 k) := by
  blk_point [iblk, V, idx t]

theorem w8 (t : Fin cfg0.N) (u : Fin 2048) (j : Fin 512) (ht : t.val < 32) :
    ((View.whole main_v8).slice (win0_8.rect t)).emb (ix2 u j)
      = (ix2 ⟨(t.val / 8 * 2 + t.val % 2) * 2048 + u.val, by omega⟩ ⟨t.val / 2 % 4 * 512 + j.val, by omega⟩ : S16384x2048.Idx) := by
  blk_point [idx t]

/-- A block of 256 rows of the values. -/
theorem vBlk_apply (x : Vec Ideal S2048x512 .bf16) (b : Fin 8) (i : Fin 256) (e : Fin 512) :
    vBlk x b (ix2 i e) = x (ix2 ⟨256 * b.val + i.val, by omega⟩ e) := by
  pointwise [vBlk]

end Cert.KernelIdeal.Gla
-- ==== Proof.RealFns.lean ====
/- Facts about the activation functions over the extended reals. The kernels write the sigmoid and
   the SiLU through `tanh`, the references through `exp`; here the two spellings are shown equal:
   the sigmoid's at every extended real, the SiLU's at every real number. -/
module

public import Idealize.ShloMosaic.PureOps.Ideal
public import Idealize.ShloMosaic.Lib.Pointwise
public import Idealize.ShloMosaic.Lib.IdealHost

@[expose] public section

noncomputable section

namespace Cert.RealFns

open Idealize.ShloMosaic

/-- Over the reals, half of one plus `tanh (x / 2)` is the logistic function. -/
theorem half_tanh_real (x : ℝ) : 1 / 2 + 1 / 2 * Real.tanh (1 / 2 * x) = 1 / (1 + Real.exp (-x)) := by
  have h1 : Real.exp (-x) = Real.exp (-(1 / 2 * x)) * Real.exp (-(1 / 2 * x)) := by
    rw [← Real.exp_add]; congr 1; ring
  have h2 : Real.exp (1 / 2 * x) * Real.exp (-(1 / 2 * x)) = 1 := by
    rw [← Real.exp_add]; simp
  rw [Real.tanh_eq_sinh_div_cosh, Real.sinh_eq, Real.cosh_eq, h1]
  have ha := Real.exp_pos (1 / 2 * x)
  have hb := Real.exp_pos (-(1 / 2 * x))
  generalize Real.exp (1 / 2 * x) = a at *
  generalize Real.exp (-(1 / 2 * x)) = b at *
  have : a + b ≠ 0 := by positivity
  have : 1 + b * b ≠ 0 := by positivity
  field_simp
  linear_combination (2 * b) * h2

/-- The f32 word of one half. -/
theorem ofBits_half : Ideal.ofBits .f32 0x3F000000#32 = ((1 / 2 : ℝ) : EReal) := by
  simp [Ideal.ofBits, Ideal.ieee, -EReal.coe_mul]; norm_num

/-- The f32 word of one sixteenth. -/
theorem ofBits_sixteenth : Ideal.ofBits .f32 0x3D800000#32 = ((1 / 16 : ℝ) : EReal) := by
  simp [Ideal.ofBits, Ideal.ieee, -EReal.coe_mul]; norm_num

/-- The f32 word of sixteen. -/
theorem ofBits_sixteen : Ideal.ofBits .f32 0x41800000#32 = ((16 : ℝ) : EReal) := by
  simp [Ideal.ofBits, Ideal.ieee, -EReal.coe_mul]; norm_num

/-- The f32 word of plus infinity. -/
theorem ofBits_inf : Ideal.ofBits .f32 0x7F800000#32 = ⊤ := by
  simp [Ideal.ofBits, Ideal.ieee]

/-- The quotient of two real numbers, the divisor not zero. -/
theorem div_real (x : ℝ) {y : ℝ} (h : y ≠ 0) : Ideal.div (x : EReal) (y : EReal) = ((x / y : ℝ) : EReal) := by
  rw [Ideal.div_coe h, ← EReal.coe_mul]; congr 1; field_simp

/-- The logistic function of a real number, spelt with `exp` and a division. -/
theorem sigmoid_exp_real (x : ℝ) :
    Ideal.div 1 (1 + Ideal.exp (-(x : EReal))) = ((1 / (1 + Real.exp (-x)) : ℝ) : EReal) := by
  rw [← EReal.coe_neg, Ideal.exp_coe, ← EReal.coe_one, ← EReal.coe_add,
    div_real _ (by positivity)]

/-- The sigmoid written with `tanh` is the sigmoid written with `exp`, at every extended real. -/
theorem sigmoid_eq (x : EReal) :
    ((1 / 2 : ℝ) : EReal) + ((1 / 2 : ℝ) : EReal) * Ideal.tanh (((1 / 2 : ℝ) : EReal) * x)
      = Ideal.div 1 (1 + Ideal.exp (-x)) := by
  induction x using EReal.rec with
  | bot =>
    rw [EReal.coe_mul_bot_of_pos (by norm_num), Ideal.tanh_bot, EReal.neg_bot, Ideal.exp_top]
    have : (1 : EReal) + ⊤ = ⊤ := rfl
    rw [this, Ideal.div, if_neg (by simp), EReal.inv_top, mul_zero, mul_neg, mul_one, ← EReal.coe_neg,
      ← EReal.coe_add]
    norm_num
  | top =>
    rw [EReal.coe_mul_top_of_pos (by norm_num), Ideal.tanh_top, EReal.neg_top, Ideal.exp_bot, add_zero,
      Ideal.div, if_neg one_ne_zero, mul_one, one_mul, ← EReal.coe_add, ← EReal.coe_one, ← EReal.coe_inv]
    norm_num
  | coe x =>
    rw [sigmoid_exp_real, ← EReal.coe_mul, Ideal.tanh_coe, ← EReal.coe_mul, ← EReal.coe_add, half_tanh_real]

/-- The SiLU written with `tanh` is the SiLU written with `exp`, at every real number. -/
theorem silu_eq (z : ℝ) :
    ((1 / 2 : ℝ) : EReal) * (z : EReal)
        + ((1 / 2 : ℝ) : EReal) * (z : EReal) * Ideal.tanh (((1 / 2 : ℝ) : EReal) * (z : EReal))
      = (z : EReal) * Ideal.div 1 (1 + Ideal.exp (-(z : EReal))) := by
  rw [sigmoid_exp_real, ← EReal.coe_mul, Ideal.tanh_coe, ← EReal.coe_mul, ← EReal.coe_add, ← EReal.coe_mul,
    ← half_tanh_real]
  congr 1; ring

/-- An extended real that is neither infinity is a real number. -/
theorem exists_real {x : EReal} (h : max x (-x) < ⊤) : ∃ r : ℝ, x = (r : EReal) := by
  induction x using EReal.rec with
  | bot => simp at h
  | top => simp at h
  | coe r => exact ⟨r, rfl⟩

end Cert.RealFns
-- ==== Proof.GlaMask.lean ====
/- What the three constant masks of the attention kernel hold at a row and a column: the one of the running sums, a
   chunk's own scores inside a pair of chunks, and the second chunk's scores against the first. -/
module

public import proofs.«01_k».proof.Proof.GlaModel
public import proofs.«01_k».proof.Proof.RealFns
public import Idealize.ShloMosaic.Lib.Pointwise
public import Idealize.ShloMosaic.Lib.Affine

@[expose] public section

set_option maxRecDepth 16384

noncomputable section

open Idealize.ShloMosaic Idealize.ShloMosaic.TcCoe

namespace Cert.KernelIdeal.Gla

open Cert.KernelIdeal Cert.KernelIdeal.Gen

/-- The sign of a word, as the kernel computes it. -/
def sgn (x : BitVec 32) : BitVec 32 :=
  IntOp.subi (BitVec.setWidth 32 (IntOp.cmpi CmpIPredicate.sgt x 0#32))
    (BitVec.setWidth 32 (IntOp.cmpi CmpIPredicate.slt x 0#32))

/-- The kernel's floor division of a word by 64, the divisor's sign given as `s`. -/
def fdiv (s x : BitVec 32) : BitVec 32 :=
  Scalar.select
    (IntOp.andi (IntOp.cmpi CmpIPredicate.ne (sgn x) s)
      (IntOp.cmpi CmpIPredicate.ne (IntOp.remsi ArithUnit.vector x 64#32) 0#32))
    (IntOp.subi (IntOp.divsi ArithUnit.vector x 64#32) 1#32)
    (IntOp.divsi ArithUnit.vector x 64#32)

theorem fdiv_a : ∀ k : Fin 256,
    fdiv (Scalar.subi (Scalar.extui (Scalar.cmpi CmpIPredicate.sgt 64#32 0#32))
      (Scalar.extui (Scalar.cmpi CmpIPredicate.slt 64#32 0#32))) (BitVec.ofNat 32 k.val) = BitVec.ofNat 32 (k.val / 64) := by
  decide +kernel

theorem fdiv_b : ∀ k : Fin 256,
    fdiv (Scalar.subi 1#32 0#32) (BitVec.ofNat 32 k.val) = BitVec.ofNat 32 (k.val / 64) := by
  decide +kernel

theorem fdiv_c : ∀ k : Fin 128,
    fdiv (Scalar.subi (Scalar.extui (Scalar.cmpi CmpIPredicate.sgt 64#32 0#32))
      (Scalar.extui (Scalar.cmpi CmpIPredicate.slt 64#32 0#32))) (BitVec.ofNat 32 k.val) = BitVec.ofNat 32 (k.val / 64) := by
  decide +kernel

theorem toInt_small {a : Nat} (ha : a < 1024) : (BitVec.ofNat 32 a).toInt = (a : Int) := by
  rw [BitVec.toInt_eq_toNat_of_lt] <;> rw [BitVec.toNat_ofNat, Nat.mod_eq_of_lt (by omega)]
  omega

theorem bit_ite {x : BitVec 1} {p : Prop} [Decidable p] (h : x = 1#1 ↔ p) : x = if p then 1#1 else 0#1 := by
  split_ifs with hp
  · exact h.2 hp
  · have key : ∀ y : BitVec 1, y ≠ 1#1 → y = 0#1 := by decide
    exact key x fun e => hp (h.1 e)

theorem eq_word {a b : Nat} (ha : a < 1024) (hb : b < 1024) :
    IntOp.cmpi CmpIPredicate.eq (BitVec.ofNat 32 a) (BitVec.ofNat 32 b) = if a = b then 1#1 else 0#1 := by
  refine bit_ite ?_
  rw [IntOp.cmpi_eq]
  refine ⟨fun e => ?_, fun e => by rw [e]⟩
  have := congrArg BitVec.toInt e
  rw [toInt_small ha, toInt_small hb] at this
  exact_mod_cast this

theorem sge_word {a b : Nat} (ha : a < 1024) (hb : b < 1024) :
    IntOp.cmpi CmpIPredicate.sge (BitVec.ofNat 32 a) (BitVec.ofNat 32 b) = if b ≤ a then 1#1 else 0#1 := by
  refine bit_ite ?_
  rw [IntOp.cmpi_sge, toInt_small ha, toInt_small hb]; exact Int.ofNat_le

theorem slt_word {a b : Nat} (ha : a < 1024) (hb : b < 1024) :
    IntOp.cmpi CmpIPredicate.slt (BitVec.ofNat 32 a) (BitVec.ofNat 32 b) = if a < b then 1#1 else 0#1 := by
  refine bit_ite ?_
  rw [IntOp.cmpi_slt, toInt_small ha, toInt_small hb]; exact Int.ofNat_lt

theorem andi_ite {p q : Prop} [Decidable p] [Decidable q] :
    IntOp.andi (if p then 1#1 else 0#1) (if q then 1#1 else 0#1) = if p ∧ q then 1#1 else 0#1 := by
  by_cases hp : p <;> by_cases hq : q <;> simp [hp, hq] <;> decide

/-- The mask of the running sums at row `i`, column `j`. -/
theorem trilM_apply (i j : Fin 256) :
    trilM (F := Ideal) (ix2 i j) = if i.val / 64 = j.val / 64 ∧ j.val ≤ i.val then ((1 : ℝ) : EReal) else ((0 : ℝ) : EReal) := by
  have h1 := fdiv_a i
  have h2 := fdiv_b j
  simp only [fdiv, sgn] at h1 h2
  pointwise [trilM, k0_pay6, k0_pay3, k0_pay4, k0_pay5]
  rw [h1, h2, eq_word (by omega) (by omega), sge_word (by omega) (by omega), andi_ite]
  split_ifs
  · show (((BitVec.setWidth 32 (1#1)).toInt : ℝ) : EReal) = _
    norm_num
  · show (((BitVec.setWidth 32 (0#1)).toInt : ℝ) : EReal) = _
    norm_num

/-- The mask of a chunk's own scores. -/
theorem diagM_apply (i j : Fin 128) : diagM (ix2 i j) = if i.val / 64 = j.val / 64 ∧ j.val ≤ i.val then 1#1 else 0#1 := by
  have h1 := fdiv_c i
  have h2 := fdiv_c j
  simp only [fdiv, sgn] at h1 h2
  pointwise [diagM, k0_pay10, k0_pay7, k0_pay8, k0_pay9]
  rw [h1, h2, eq_word (by omega) (by omega), sge_word (by omega) (by omega), andi_ite]

/-- The mask of the second chunk's scores against the first. -/
theorem lowM_apply (i j : Fin 128) : lowM (ix2 i j) = if 64 ≤ i.val ∧ j.val < 64 then 1#1 else 0#1 := by
  pointwise [lowM, k0_pay11]
  rw [show (64#32) = BitVec.ofNat 32 64 from rfl, sge_word (by omega) (by omega), slt_word (by omega) (by omega), andi_ite]

end Cert.KernelIdeal.Gla
-- ==== Proof.GlaReal.lean ====
/- Gated linear attention over the real numbers: the running sums of the logarithms of the decays, the recursion of the
   state from one chunk of 64 rows to the next, and one row of the result. Four chunks are then taken at once: the state
   after them, and each of their results, written from the state before all four. -/
module

public import Mathlib.Analysis.SpecialFunctions.Exp
public import Mathlib.Analysis.SpecialFunctions.Log.Basic
public import Mathlib.Algebra.BigOperators.Fin
public import Mathlib.Tactic.IntervalCases

@[expose] public section

noncomputable section

namespace Cert.GlaReal

/-- The logarithm of a decay, of the gate's value. -/
def decay (x : ℝ) : ℝ := (min x 0 - Real.log (1 + Real.exp (-|x|))) / 16

/-- The queries, keys, values and logarithms of the decays of one head of one sequence, by chunk, row and column. -/
structure Data where
  q : ℕ → Fin 64 → Fin 256 → ℝ
  k : ℕ → Fin 64 → Fin 256 → ℝ
  v : ℕ → Fin 64 → Fin 512 → ℝ
  l : ℕ → Fin 64 → Fin 256 → ℝ

variable (D : Data)

/-- The running sums inside a chunk. -/
def cum (c : ℕ) (u : Fin 64) (d : Fin 256) : ℝ := ∑ w : Fin 64, if w ≤ u then D.l c w d else 0

/-- The sum over a chunk. -/
def tot (c : ℕ) (d : Fin 256) : ℝ := cum D c 63 d

/-- The scaled queries, decayed from their chunk's start. -/
def qd (c : ℕ) (u : Fin 64) (d : Fin 256) : ℝ := D.q c u d * (1 / 16) * Real.exp (cum D c u d)

/-- The keys, with the decay from their chunk's start taken off. -/
def ki (c : ℕ) (u : Fin 64) (d : Fin 256) : ℝ := D.k c u d * Real.exp (-cum D c u d)

/-- The keys, decayed to their chunk's end. -/
def kd (c : ℕ) (u : Fin 64) (d : Fin 256) : ℝ := D.k c u d * Real.exp (tot D c d - cum D c u d)

/-- The state before chunk `c`. -/
def S : ℕ → Fin 256 → Fin 512 → ℝ
  | 0 => fun _ _ => 0
  | c + 1 => fun d e => S c d e * Real.exp (tot D c d) + ∑ w : Fin 64, kd D c w d * D.v c w e

/-- A chunk's scores against itself. -/
def diag (c : ℕ) (u w : Fin 64) : ℝ := if w ≤ u then ∑ d, qd D c u d * ki D c w d else 0

/-- One row of the result. -/
def O (c : ℕ) (u : Fin 64) (e : Fin 512) : ℝ := (∑ w, diag D c u w * D.v c w e) + ∑ d, qd D c u d * S D c d e

/-- The decay from the start of four chunks to the one at `s`. -/
def eIn (n : ℕ) (s : Fin 4) (d : Fin 256) : ℝ :=
  match s with
  | 0 => 0
  | 1 => tot D n d
  | 2 => tot D n d + tot D (n + 1) d
  | 3 => tot D n d + tot D (n + 1) d + tot D (n + 2) d

/-- The decay from the end of the chunk at `s` to the end of the four. -/
def eOut (n : ℕ) (s : Fin 4) (d : Fin 256) : ℝ :=
  match s with
  | 0 => tot D (n + 1) d + tot D (n + 2) d + tot D (n + 3) d
  | 1 => tot D (n + 2) d + tot D (n + 3) d
  | 2 => tot D (n + 3) d
  | 3 => 0

/-- The scores of row `u` of the chunk at `s` against row `w` of the chunk at `t`, of the four from `n`. -/
def att (n : ℕ) (s t : Fin 4) (u w : Fin 64) : ℝ :=
  match s, t with
  | 0, 0 => diag D n u w
  | 1, 0 => ∑ d, qd D (n + 1) u d * kd D n w d
  | 1, 1 => diag D (n + 1) u w
  | 2, 0 => ∑ d, qd D (n + 2) u d * (kd D n w d * Real.exp (tot D (n + 1) d))
  | 2, 1 => ∑ d, qd D (n + 2) u d * kd D (n + 1) w d
  | 2, 2 => diag D (n + 2) u w
  | 3, 0 => ∑ d, (qd D (n + 3) u d * Real.exp (tot D (n + 2) d)) * (kd D n w d * Real.exp (tot D (n + 1) d))
  | 3, 1 => ∑ d, (qd D (n + 3) u d * Real.exp (tot D (n + 2) d)) * kd D (n + 1) w d
  | 3, 2 => ∑ d, qd D (n + 3) u d * kd D (n + 2) w d
  | 3, 3 => diag D (n + 3) u w
  | _, _ => 0

/-- The state after four chunks. -/
theorem S_four (n : ℕ) (d : Fin 256) (e : Fin 512) :
    S D (n + 4) d e
      = S D n d e * Real.exp (tot D n d + tot D (n + 1) d + tot D (n + 2) d + tot D (n + 3) d)
        + ∑ t : Fin 4, ∑ w : Fin 64, D.v (n + t.val) w e * (kd D (n + t.val) w d * Real.exp (eOut D n t d)) := by
  have h : ∀ (c : ℕ) (x : ℝ), (∑ w : Fin 64, D.v c w e * (kd D c w d * x)) = (∑ w : Fin 64, kd D c w d * D.v c w e) * x := by
    intro c x
    rw [Finset.sum_mul]
    exact Finset.sum_congr rfl fun w _ => by ring
  have e4 : S D (n + 4) d e = (((S D n d e * Real.exp (tot D n d) + ∑ w : Fin 64, kd D n w d * D.v n w e)
      * Real.exp (tot D (n + 1) d) + ∑ w : Fin 64, kd D (n + 1) w d * D.v (n + 1) w e)
      * Real.exp (tot D (n + 2) d) + ∑ w : Fin 64, kd D (n + 2) w d * D.v (n + 2) w e)
      * Real.exp (tot D (n + 3) d) + ∑ w : Fin 64, kd D (n + 3) w d * D.v (n + 3) w e := rfl
  have v0 : ((0 : Fin 4) : ℕ) = 0 := rfl
  have v1 : ((1 : Fin 4) : ℕ) = 1 := rfl
  have v2 : ((2 : Fin 4) : ℕ) = 2 := rfl
  have v3 : ((3 : Fin 4) : ℕ) = 3 := rfl
  rw [e4, Fin.sum_univ_four, h, h, h, h, v0, v1, v2, v3, Nat.add_zero]
  simp only [eOut, Real.exp_add, Real.exp_zero]
  ring

/-- A product with a row of scores, the sum over the columns taken first. -/
theorem swap (a : Fin 256 → ℝ) (b : Fin 64 → Fin 256 → ℝ) (v : Fin 64 → ℝ) :
    (∑ w, (∑ d, a d * b w d) * v w) = ∑ d, a d * ∑ w, b w d * v w := by
  simp only [Finset.sum_mul, Finset.mul_sum]
  rw [Finset.sum_comm]
  exact Finset.sum_congr rfl fun d _ => Finset.sum_congr rfl fun w _ => by ring

theorem sum_right (x : ℝ) (b v : Fin 64 → ℝ) : (∑ w, (b w * x) * v w) = (∑ w, b w * v w) * x := by
  rw [Finset.sum_mul]
  exact Finset.sum_congr rfl fun w _ => by ring

/-- A row of the result, from the state before the four chunks. -/
theorem O_four (n : ℕ) (s : Fin 4) (u : Fin 64) (e : Fin 512) :
    (∑ t : Fin 4, ∑ w : Fin 64, att D n s t u w * D.v (n + t.val) w e)
        + ∑ d, (qd D (n + s.val) u d * Real.exp (eIn D n s d)) * S D n d e
      = O D (n + s.val) u e := by
  have v0 : ((0 : Fin 4) : ℕ) = 0 := rfl
  have v1 : ((1 : Fin 4) : ℕ) = 1 := rfl
  have v2 : ((2 : Fin 4) : ℕ) = 2 := rfl
  have v3 : ((3 : Fin 4) : ℕ) = 3 := rfl
  have z : ∀ c : ℕ, (∑ w : Fin 64, (0 : ℝ) * D.v c w e) = 0 := fun c => by simp
  have e1 : ∀ d, S D (n + 1) d e = S D n d e * Real.exp (tot D n d) + ∑ w : Fin 64, kd D n w d * D.v n w e :=
    fun _ => rfl
  have e2 : ∀ d, S D (n + 2) d e = S D (n + 1) d e * Real.exp (tot D (n + 1) d)
      + ∑ w : Fin 64, kd D (n + 1) w d * D.v (n + 1) w e := fun _ => rfl
  have e3 : ∀ d, S D (n + 3) d e = S D (n + 2) d e * Real.exp (tot D (n + 2) d)
      + ∑ w : Fin 64, kd D (n + 2) w d * D.v (n + 2) w e := fun _ => rfl
  rw [Fin.sum_univ_four, v0, v1, v2, v3]
  obtain ⟨s, hs⟩ := s
  interval_cases s
  · show (∑ w, diag D n u w * D.v n w e) + (∑ w, (0 : ℝ) * D.v (n + 1) w e) + (∑ w, (0 : ℝ) * D.v (n + 2) w e)
      + (∑ w, (0 : ℝ) * D.v (n + 3) w e) + (∑ d, (qd D n u d * Real.exp 0) * S D n d e) = O D n u e
    rw [z, z, z, O, Real.exp_zero]
    simp
  · show (∑ w, (∑ d, qd D (n + 1) u d * kd D n w d) * D.v n w e) + (∑ w, diag D (n + 1) u w * D.v (n + 1) w e)
      + (∑ w, (0 : ℝ) * D.v (n + 2) w e)
      + (∑ w, (0 : ℝ) * D.v (n + 3) w e) + (∑ d, (qd D (n + 1) u d * Real.exp (tot D n d)) * S D n d e) = O D (n + 1) u e
    rw [z, z, O, swap]
    have : (∑ d, qd D (n + 1) u d * S D (n + 1) d e) = (∑ d, qd D (n + 1) u d * ∑ w, kd D n w d * D.v n w e)
        + ∑ d, (qd D (n + 1) u d * Real.exp (tot D n d)) * S D n d e := by
      rw [← Finset.sum_add_distrib]
      exact Finset.sum_congr rfl fun d _ => by rw [e1]; ring
    rw [this]; ring
  · show (∑ w, (∑ d, qd D (n + 2) u d * (kd D n w d * Real.exp (tot D (n + 1) d))) * D.v n w e)
      + (∑ w, (∑ d, qd D (n + 2) u d * kd D (n + 1) w d) * D.v (n + 1) w e)
      + (∑ w, diag D (n + 2) u w * D.v (n + 2) w e)
      + (∑ w, (0 : ℝ) * D.v (n + 3) w e)
      + (∑ d, (qd D (n + 2) u d * Real.exp (tot D n d + tot D (n + 1) d)) * S D n d e) = O D (n + 2) u e
    rw [z, O, swap, swap]
    have : (∑ d, qd D (n + 2) u d * S D (n + 2) d e)
        = (∑ d, qd D (n + 2) u d * ∑ w, (kd D n w d * Real.exp (tot D (n + 1) d)) * D.v n w e)
        + (∑ d, qd D (n + 2) u d * ∑ w, kd D (n + 1) w d * D.v (n + 1) w e)
        + ∑ d, (qd D (n + 2) u d * Real.exp (tot D n d + tot D (n + 1) d)) * S D n d e := by
      rw [← Finset.sum_add_distrib, ← Finset.sum_add_distrib]
      exact Finset.sum_congr rfl fun d _ => by rw [e2, e1, sum_right, Real.exp_add]; ring
    rw [this]; ring
  · show (∑ w, (∑ d, (qd D (n + 3) u d * Real.exp (tot D (n + 2) d)) * (kd D n w d * Real.exp (tot D (n + 1) d))) * D.v n w e)
      + (∑ w, (∑ d, (qd D (n + 3) u d * Real.exp (tot D (n + 2) d)) * kd D (n + 1) w d) * D.v (n + 1) w e)
      + (∑ w, (∑ d, qd D (n + 3) u d * kd D (n + 2) w d) * D.v (n + 2) w e)
      + (∑ w, diag D (n + 3) u w * D.v (n + 3) w e)
      + (∑ d, (qd D (n + 3) u d * Real.exp (tot D n d + tot D (n + 1) d + tot D (n + 2) d)) * S D n d e) = O D (n + 3) u e
    rw [O, swap (fun d => qd D (n + 3) u d * Real.exp (tot D (n + 2) d)),
      swap (fun d => qd D (n + 3) u d * Real.exp (tot D (n + 2) d)), swap]
    have : (∑ d, qd D (n + 3) u d * S D (n + 3) d e)
        = (∑ d, (qd D (n + 3) u d * Real.exp (tot D (n + 2) d)) * ∑ w, (kd D n w d * Real.exp (tot D (n + 1) d)) * D.v n w e)
        + (∑ d, (qd D (n + 3) u d * Real.exp (tot D (n + 2) d)) * ∑ w, kd D (n + 1) w d * D.v (n + 1) w e)
        + (∑ d, qd D (n + 3) u d * ∑ w, kd D (n + 2) w d * D.v (n + 2) w e)
        + ∑ d, (qd D (n + 3) u d * Real.exp (tot D n d + tot D (n + 1) d + tot D (n + 2) d)) * S D n d e := by
      rw [← Finset.sum_add_distrib, ← Finset.sum_add_distrib, ← Finset.sum_add_distrib]
      exact Finset.sum_congr rfl fun d _ => by rw [e3, e2, e1, sum_right, Real.exp_add, Real.exp_add]; ring
    rw [this]; ring

end Cert.GlaReal
-- ==== Proof.GlaPoint.lean ====
/- The parts of the attention kernel read at a row and a column, where their inputs are real numbers. A row of the 2048
   of one grid point is named by its block of 256 rows, its chunk of 64 inside the block and its place in the chunk. -/
module

public import proofs.«01_k».proof.Proof.GlaMask
public import proofs.«01_k».proof.Proof.GlaReal

@[expose] public section

set_option maxRecDepth 16384

noncomputable section

open Idealize.ShloMosaic Idealize.ShloMosaic.TcCoe

namespace Cert.KernelIdeal.Gla

open Cert.KernelIdeal Cert.KernelIdeal.Gen Cert.GlaReal

/-- Row `u` of chunk `s` of block `b`. -/
def rr (b : Fin 8) (s : Fin 4) (u : Fin 64) : Fin 2048 := ⟨256 * b.val + 64 * s.val + u.val, by omega⟩

/-- Row `u` of chunk `s` inside a block. -/
def ri (s : Fin 4) (u : Fin 64) : Fin 256 := ⟨64 * s.val + u.val, by omega⟩

/-- A sum of real numbers, taken in the extended reals. -/
theorem coe_sum {n : Nat} (f : Fin n → ℝ) : (∑ k, ((f k : ℝ) : EReal)) = ((∑ k, f k : ℝ) : EReal) := by
  induction n with
  | zero => simp
  | succ n ih => rw [Fin.sum_univ_succ, Fin.sum_univ_succ, ih, EReal.coe_add]

/-- The product of two rows of real numbers. -/
theorem coe_dot {n : Nat} (x y : Fin n → EReal) (f g : Fin n → ℝ) (hx : ∀ k, x k = (f k : EReal))
    (hy : ∀ k, y k = (g k : EReal)) : (∑ k, x k * y k) = ((∑ k, f k * g k : ℝ) : EReal) := by
  rw [← coe_sum]
  exact Finset.sum_congr rfl fun k _ => by rw [hx, hy, EReal.coe_mul]

/-- A sum over the rows of a block, chunk by chunk. -/
theorem sum_block {α : Type} [AddCommMonoid α] (f : Fin 256 → α) : (∑ k, f k) = ∑ s : Fin 4, ∑ u : Fin 64, f (ri s u) := by
  rw [← Fintype.sum_prod_type', ← (finProdFinEquiv (m := 4) (n := 64)).sum_comp]
  refine Finset.sum_congr rfl fun p _ => congrArg f (Fin.ext ?_)
  simp [ri, finProdFinEquiv, Nat.add_comm]

variable (B : FVec Ideal S2048x256 .f32)

theorem row_apply (c : Fin 32) (d : Fin 256) : row B c (ix2 0 d) = B (ix2 ⟨64 * c.val + 63, by omega⟩ d) := by
  pointwise [row]

theorem cut_apply {α : Type} (X : S2048x256.Idx → α) (b : Fin 8) (i d : Fin 256) :
    cut b X (ix2 i d) = X (ix2 ⟨256 * b.val + i.val, by omega⟩ d) := by
  pointwise [cut]

/-- The second coordinate of an index is the only one besides the first. -/
theorem other_axis {s t : Shape} (h : s.rank = 2) (hr : s.rank = t.rank) (a : Fin t.rank) (ha : a.val = 0) (b : Fin s.rank)
    (hb : b.cast hr ≠ a) : b.val = 1 := by
  have : b.val ≠ 0 := fun e => hb (Fin.ext (by simp [e, ha]))
  omega

theorem perChunk_apply (r : Fin 32 → FVec Ideal S1x256 .f32) (i : Fin 2048) (d : Fin 256) :
    perChunk r (ix2 i d) = r ⟨i.val / 64, by omega⟩ (ix2 0 d) := by
  refine (concatenate_ofFn_apply (t := S2048x256) (s₁ := S64x256) 0 (N := 32) (fun c => bc (r c)) _ rfl 64 rfl (ix2 i d)
    ⟨i.val / 64, by omega⟩ rfl (ix2 ⟨i.val % 64, by omega⟩ d) rfl ?_).trans ?_
  · intro b hb
    match b, hb with
    | 0, hb => exact absurd rfl hb
    | 1, _ => rfl
  · pointwise [bc]

theorem concat8_apply (f g : Fin 8 → FVec Ideal S256x256 .bf16) (i : Fin 2048) (d : Fin 256) :
    concat8 f g (ix2 i d) = tri (f ⟨i.val / 256, by omega⟩) (g ⟨i.val / 256, by omega⟩) (ix2 ⟨i.val % 256, by omega⟩ d) := by
  refine (concatenate_ofFn_apply (t := S2048x256) (s₁ := S256x256) 0 (N := 8) (fun c => tri (f c) (g c)) _ rfl 256 rfl (ix2 i d)
    ⟨i.val / 256, by omega⟩ rfl (ix2 ⟨i.val % 256, by omega⟩ d) rfl ?_)
  · intro b hb
    match b, hb with
    | 0, hb => exact absurd rfl hb
    | 1, _ => rfl

theorem oCat_apply (o : Fin 8 → FVec Ideal S256x512 .f32) (i : Fin 2048) (d : Fin 512) :
    oCat o (ix2 i d) = o ⟨i.val / 256, by omega⟩ (ix2 ⟨i.val % 256, by omega⟩ d) := by
  refine (concatenate_ofFn_apply (t := S2048x512) (s₁ := S256x512) 0 (N := 8) (fun c => o c) _ rfl 256 rfl (ix2 i d)
    ⟨i.val / 256, by omega⟩ rfl (ix2 ⟨i.val % 256, by omega⟩ d) rfl ?_)
  · intro b hb
    match b, hb with
    | 0, hb => exact absurd rfl hb
    | 1, _ => rfl

theorem perChunk_rr (r : Fin 32 → FVec Ideal S1x256 .f32) (b : Fin 8) (s : Fin 4) (u : Fin 64) (d : Fin 256) :
    perChunk r (ix2 (rr b s u) d) = r ⟨4 * b.val + s.val, by omega⟩ (ix2 0 d) := by
  have e : (⟨(rr b s u).val / 64, by omega⟩ : Fin 32) = ⟨4 * b.val + s.val, by omega⟩ := Fin.ext (by simp only [rr]; omega)
  rw [perChunk_apply, e]

theorem concat8_rr (f g : Fin 8 → FVec Ideal S256x256 .bf16) (b : Fin 8) (s : Fin 4) (u : Fin 64) (d : Fin 256) :
    concat8 f g (ix2 (rr b s u) d) = tri (f b) (g b) (ix2 (ri s u) d) := by
  have e : (⟨(rr b s u).val / 256, by omega⟩ : Fin 8) = b := Fin.ext (by simp only [rr]; omega)
  have e' : (⟨(rr b s u).val % 256, by omega⟩ : Fin 256) = ri s u := Fin.ext (by simp only [rr, ri]; omega)
  rw [concat8_apply, e, e']

theorem oCat_rr (o : Fin 8 → FVec Ideal S256x512 .f32) (b : Fin 8) (s : Fin 4) (u : Fin 64) (d : Fin 512) :
    oCat o (ix2 (rr b s u) d) = o b (ix2 (ri s u) d) := by
  have e : (⟨(rr b s u).val / 256, by omega⟩ : Fin 8) = b := Fin.ext (by simp only [rr]; omega)
  have e' : (⟨(rr b s u).val % 256, by omega⟩ : Fin 256) = ri s u := Fin.ext (by simp only [rr, ri]; omega)
  rw [oCat_apply, e, e']

theorem cut_ri {α : Type} (X : S2048x256.Idx → α) (b : Fin 8) (s : Fin 4) (u : Fin 64) (d : Fin 256) :
    cut b X (ix2 (ri s u) d) = X (ix2 (rr b s u) d) := by
  have e : (⟨256 * b.val + (ri s u).val, by omega⟩ : Fin 2048) = rr b s u := Fin.ext (by simp only [rr, ri]; omega)
  rw [cut_apply, e]

/-- The running sums of a block: the sums inside each chunk, the rounding's remainder being zero. -/
theorem tri_ri (x y : FVec Ideal S256x256 .bf16) (f : Fin 4 → Fin 64 → Fin 256 → ℝ)
    (hx : ∀ s u d, x (ix2 (ri s u) d) = (f s u d : EReal)) (hy : ∀ s u d, y (ix2 (ri s u) d) = ((0 : ℝ) : EReal))
    (s : Fin 4) (u : Fin 64) (d : Fin 256) :
    tri x y (ix2 (ri s u) d) = ((∑ w : Fin 64, if w ≤ u then f s w d else 0 : ℝ) : EReal) := by
  have e1 : tri x y (ix2 (ri s u) d) = (∑ k, trilM (F := Ideal) (ix2 (ri s u) k) * x (ix2 k d))
      + ∑ k, trilM (F := Ideal) (ix2 (ri s u) k) * y (ix2 k d) := by
    pointwise [tri]
  have ht : ∀ t w, trilM (F := Ideal) (ix2 (ri s u) (ri t w)) = ((if s = t ∧ w ≤ u then 1 else 0 : ℝ) : EReal) := by
    intro t w
    rw [trilM_apply]
    have : ((ri s u).val / 64 = (ri t w).val / 64 ∧ (ri t w).val ≤ (ri s u).val) ↔ (s = t ∧ w ≤ u) := by
      simp only [ri, Fin.ext_iff, Fin.le_def]; omega
    simp only [this]
    split_ifs <;> rfl
  have e2 : (∑ k, trilM (F := Ideal) (ix2 (ri s u) k) * y (ix2 k d)) = ((0 : ℝ) : EReal) := by
    rw [sum_block]
    refine Finset.sum_eq_zero fun t _ => Finset.sum_eq_zero fun w _ => ?_
    rw [hy, ht, ← EReal.coe_mul, mul_zero]
    rfl
  have e3 : (∑ k, trilM (F := Ideal) (ix2 (ri s u) k) * x (ix2 k d))
      = ((∑ w : Fin 64, if w ≤ u then f s w d else 0 : ℝ) : EReal) := by
    rw [sum_block, Finset.sum_eq_single s]
    · rw [← coe_sum]
      refine Finset.sum_congr rfl fun w _ => ?_
      rw [hx, ht, ← EReal.coe_mul]
      congr 1
      by_cases h : w ≤ u <;> simp [h]
    · intro t _ h
      refine Finset.sum_eq_zero fun w _ => ?_
      rw [hx, ht, if_neg (fun h' => h h'.1.symm), ← EReal.coe_mul, zero_mul]
      rfl
    · intro h; exact absurd (Finset.mem_univ s) h
  rw [e1, e2, e3, ← EReal.coe_add, add_zero]

/-- The running sums of the logarithms of the decays. -/
theorem bcum_rr (L : FVec Ideal S2048x256 .f32) (D : Data) (n : ℕ)
    (hL : ∀ b s u d, L (ix2 (rr b s u) d) = (D.l (n + 4 * b.val + s.val) u d : EReal)) (b : Fin 8) (s : Fin 4) (u : Fin 64)
    (d : Fin 256) : bcum L (ix2 (rr b s u) d) = (cum D (n + 4 * b.val + s.val) u d : EReal) := by
  rw [bcum, concat8_rr, cum]
  refine tri_ri _ _ (fun s u d => D.l (n + 4 * b.val + s.val) u d) (fun s u d => ?_) (fun s u d => ?_) s u d
  · rw [cut_ri]; exact hL b s u d
  · rw [cut_ri]
    show L (ix2 (rr b s u) d) - L (ix2 (rr b s u) d) = _
    rw [hL, ← EReal.coe_sub, sub_self]

/-- The gate's logarithm of a decay, at a real value of the gate. -/
theorem decay_eq (x : ℝ) :
    (min (x : EReal) 0 - Ideal.log (1 + Ideal.exp (0 - max (x : EReal) (-(x : EReal))))) * ((1 / 16 : ℝ) : EReal)
      = (decay x : EReal) := by
  have hmin : min (x : EReal) 0 = ((min x 0 : ℝ) : EReal) := by
    rw [← EReal.coe_zero]; exact (Monotone.map_min (fun a b h => EReal.coe_le_coe_iff.2 h)).symm
  have hmax : max (x : EReal) (-(x : EReal)) = ((|x| : ℝ) : EReal) := by
    rw [← EReal.coe_neg, abs_eq_max_neg]; exact (Monotone.map_max (fun a b h => EReal.coe_le_coe_iff.2 h)).symm
  have hpos : ¬ (1 + Real.exp (0 - |x|) ≤ 0) := not_le.2 (by positivity)
  rw [hmin, hmax, ← EReal.coe_zero, ← EReal.coe_sub, Ideal.exp_coe, ← EReal.coe_one, ← EReal.coe_add, Ideal.log_coe,
    if_neg hpos, ← EReal.coe_sub, ← EReal.coe_mul, decay, zero_sub]
  congr 1; ring

/-- The logarithm of a decay, of real numbers. -/
theorem logA_apply (wg : Vec Ideal S128x256 .f32) (bg : Vec Ideal S1x256 .f32) (g : Vec Ideal S2048x128 .f32)
    (i : Fin 2048) (d : Fin 256) (gr : Fin 128 → ℝ) (wr : Fin 128 → ℝ) (br : ℝ) (hg : ∀ k, g (ix2 i k) = (gr k : EReal))
    (hw : ∀ k, wg (ix2 k d) = (wr k : EReal)) (hb : bg (ix2 0 d) = (br : EReal)) :
    logA (F := Ideal) wg bg g (ix2 i d) = (decay ((∑ k, gr k * wr k) + br) : EReal) := by
  have e1 : (∑ k, g (ix2 i k) * wg (ix2 k d)) = ((∑ k, gr k * wr k : ℝ) : EReal) := coe_dot _ _ _ _ hg hw
  have e2 : (∑ k, (g (ix2 i k) - g (ix2 i k)) * wg (ix2 k d)) = ((0 : ℝ) : EReal) :=
    Finset.sum_eq_zero fun k _ => by rw [hg, ← EReal.coe_sub, sub_self, EReal.coe_zero, zero_mul]
  have e3 : (∑ k, g (ix2 i k) * (wg (ix2 k d) - wg (ix2 k d))) = ((0 : ℝ) : EReal) :=
    Finset.sum_eq_zero fun k _ => by rw [hw, ← EReal.coe_sub, sub_self, EReal.coe_zero, mul_zero]
  pointwise [logA, k0_pay20, k0_pay14, k0_pay12, k0_pay13, k0_pay15, k0_pay17, k0_pay18, k0_pay19]
  rw [e1, e2, e3, hb, RealFns.ofBits_sixteenth, ← EReal.coe_add, ← EReal.coe_add, ← EReal.coe_add, add_zero, add_zero]
  exact decay_eq _

section Parts

variable (D : Data) (n : ℕ) (hB : ∀ b s u d, B (ix2 (rr b s u) d) = (cum D (n + 4 * b.val + s.val) u d : EReal))

include hB

/-- The last running sum of a chunk. -/
theorem row_rr (b : Fin 8) (s : Fin 4) (d : Fin 256) :
    row B ⟨4 * b.val + s.val, by omega⟩ (ix2 0 d) = (tot D (n + 4 * b.val + s.val) d : EReal) := by
  have e : (⟨64 * (⟨4 * b.val + s.val, by omega⟩ : Fin 32).val + 63, by dsimp only; omega⟩ : Fin 2048) = rr b s 63 :=
    Fin.ext (by simp only [rr]; have : ((63 : Fin 64) : ℕ) = 63 := rfl; omega)
  rw [row_apply, e, hB, tot]

theorem qDec_rr (q : Vec Ideal S2048x256 .bf16) (hq : ∀ b s u d, q (ix2 (rr b s u) d) = (D.q (n + 4 * b.val + s.val) u d : EReal))
    (b : Fin 8) (s : Fin 4) (u : Fin 64) (d : Fin 256) :
    qDec (F := Ideal) B q (ix2 (rr b s u) d) = (qd D (n + 4 * b.val + s.val) u d : EReal) := by
  have e : qDec (F := Ideal) B q (ix2 (rr b s u) d)
      = q (ix2 (rr b s u) d) * Ideal.ofBits FTy.f32 0x3D800000#32 * Ideal.exp (B (ix2 (rr b s u) d)) := by
    generalize rr b s u = i
    pointwise [qDec, k0_pay64, k0_pay62]
  rw [e, hq, hB, RealFns.ofBits_sixteenth, Ideal.exp_coe, ← EReal.coe_mul, ← EReal.coe_mul, qd]

theorem kInv_rr (k : Vec Ideal S2048x256 .bf16) (hk : ∀ b s u d, k (ix2 (rr b s u) d) = (D.k (n + 4 * b.val + s.val) u d : EReal))
    (b : Fin 8) (s : Fin 4) (u : Fin 64) (d : Fin 256) :
    kInv (F := Ideal) B k (ix2 (rr b s u) d) = (ki D (n + 4 * b.val + s.val) u d : EReal) := by
  have e : kInv (F := Ideal) B k (ix2 (rr b s u) d)
      = k (ix2 (rr b s u) d) * Ideal.exp (0 - B (ix2 (rr b s u) d)) := by
    generalize rr b s u = i
    pointwise [kInv, k0_pay65, k0_pay63]
  rw [e, hk, hB, ← EReal.coe_zero, ← EReal.coe_sub, zero_sub, Ideal.exp_coe, ← EReal.coe_mul, ki]

theorem kEnd_rr (k : Vec Ideal S2048x256 .bf16) (hk : ∀ b s u d, k (ix2 (rr b s u) d) = (D.k (n + 4 * b.val + s.val) u d : EReal))
    (b : Fin 8) (s : Fin 4) (u : Fin 64) (d : Fin 256) :
    kEnd (F := Ideal) B k (ix2 (rr b s u) d) = (kd D (n + 4 * b.val + s.val) u d : EReal) := by
  have e : kEnd (F := Ideal) B k (ix2 (rr b s u) d)
      = k (ix2 (rr b s u) d) * Ideal.exp (perChunk (row B) (ix2 (rr b s u) d) - B (ix2 (rr b s u) d)) := by
    generalize rr b s u = i
    pointwise [kEnd, k0_pay63]
  rw [e, perChunk_rr, row_rr B D n hB, hk, hB, ← EReal.coe_sub, Ideal.exp_coe, ← EReal.coe_mul, kd]

end Parts

end Cert.KernelIdeal.Gla
-- ==== Proof.GlaScore.lean ====
/- The scores of one block of four chunks, read at two rows, where the queries and keys are real numbers. -/
module

public import proofs.«01_k».proof.Proof.GlaPoint

@[expose] public section

set_option maxRecDepth 16384

noncomputable section

open Idealize.ShloMosaic Idealize.ShloMosaic.TcCoe

namespace Cert.KernelIdeal.Gla

open Cert.KernelIdeal Cert.KernelIdeal.Gen Cert.GlaReal

/-- Row `u` of chunk `s` inside a pair of chunks. -/
def rp (s : Fin 2) (u : Fin 64) : Fin 128 := ⟨64 * s.val + u.val, by omega⟩

/-- The scores of a block, by halves. -/
theorem att_apply (l1 l2 : FVec Ideal S1x256 .f32) (qd ke : FVec Ideal S256x256 .f32) (qdb kib keb : FVec Ideal S256x256 .bf16)
    (i j : Fin 256) :
    att l1 l2 qd ke qdb kib keb (ix2 i j)
      = if h : i.val < 128 then
          if h' : j.val < 128 then pairAtt 0 slices_S256x256_o0_0_S128x256 qdb kib keb (ix2 ⟨i.val, by omega⟩ ⟨j.val, by omega⟩)
          else 0
        else
          if h' : j.val < 128 then ∑ x, qb l2 qd (ix2 ⟨i.val - 128, by omega⟩ x) * kb l1 ke (ix2 ⟨j.val, by omega⟩ x)
          else pairAtt 128 slices_S256x256_o128_0_S128x256 qdb kib keb
            (ix2 ⟨i.val - 128, by omega⟩ ⟨j.val - 128, by omega⟩) := by
  pointwise [att]

theorem pairAtt_apply (o : Nat) (h : S256x256.Slices ![o, 0] S128x256) (ho : o + 128 ≤ 256)
    (qdb kib keb : FVec Ideal S256x256 .bf16) (i j : Fin 128) :
    pairAtt o h qdb kib keb (ix2 i j)
      = Scalar.select (diagM (ix2 i j))
          (∑ x, qdb (ix2 ⟨o + i.val, by omega⟩ x) * kib (ix2 ⟨o + j.val, by omega⟩ x))
          (Scalar.select (lowM (ix2 i j))
            (∑ x, qdb (ix2 ⟨o + i.val, by omega⟩ x) * keb (ix2 ⟨o + j.val, by omega⟩ x)) (0 : EReal)) := by
  pointwise [pairAtt]

theorem qb_apply (l2 : FVec Ideal S1x256 .f32) (qd : FVec Ideal S256x256 .f32) (i : Fin 128) (d : Fin 256) :
    qb l2 qd (ix2 i d)
      = if h : i.val < 64 then qd (ix2 ⟨128 + i.val, by omega⟩ d)
        else qd (ix2 ⟨192 + (i.val - 64), by omega⟩ d) * Ideal.exp (l2 (ix2 0 d)) := by
  pointwise [qb]

theorem kb_apply (l1 : FVec Ideal S1x256 .f32) (ke : FVec Ideal S256x256 .f32) (i : Fin 128) (d : Fin 256) :
    kb l1 ke (ix2 i d)
      = if h : i.val < 64 then ke (ix2 ⟨i.val, by omega⟩ d) * Ideal.exp (l1 (ix2 0 d))
        else ke (ix2 ⟨64 + (i.val - 64), by omega⟩ d) := by
  pointwise [kb]

theorem select_ite {α : Type} {p : Prop} [Decidable p] (x y : α) :
    Scalar.select (if p then 1#1 else 0#1) x y = if p then x else y := by
  by_cases h : p <;> simp [h, Scalar.select]

/-- The scores of a pair of chunks of real rows. -/
theorem pairAtt_rp (o : Nat) (h : S256x256.Slices ![o, 0] S128x256) (ho : o + 128 ≤ 256)
    (qdb kib keb : FVec Ideal S256x256 .bf16) (Q K E : Fin 128 → Fin 256 → ℝ)
    (hq : ∀ (i : Fin 128) d, qdb (ix2 ⟨o + i.val, by omega⟩ d) = (Q i d : EReal))
    (hk : ∀ (i : Fin 128) d, kib (ix2 ⟨o + i.val, by omega⟩ d) = (K i d : EReal))
    (he : ∀ (i : Fin 128) d, keb (ix2 ⟨o + i.val, by omega⟩ d) = (E i d : EReal)) (a b : Fin 2) (u w : Fin 64) :
    pairAtt o h qdb kib keb (ix2 (rp a u) (rp b w))
      = ((if a = b then (if w ≤ u then ∑ d, Q (rp a u) d * K (rp b w) d else 0)
          else if b < a then ∑ d, Q (rp a u) d * E (rp b w) d else 0 : ℝ) : EReal) := by
  have hd : ((rp a u).val / 64 = (rp b w).val / 64 ∧ (rp b w).val ≤ (rp a u).val) ↔ (a = b ∧ w ≤ u) := by
    simp only [rp, Fin.ext_iff, Fin.le_def]; omega
  have hl : (64 ≤ (rp a u).val ∧ (rp b w).val < 64) ↔ b < a := by
    simp only [rp, Fin.lt_def]; omega
  rw [pairAtt_apply o h ho, diagM_apply, lowM_apply, select_ite, select_ite,
    coe_dot _ _ _ _ (hq (rp a u)) (hk (rp b w)), coe_dot _ _ _ _ (hq (rp a u)) (he (rp b w))]
  simp only [hd, hl]
  by_cases h1 : a = b
  · subst h1
    by_cases h2 : w ≤ u <;> simp [h2]
  · by_cases h2 : b < a <;> simp [h1, h2]

section Real

variable (D : Data) (n : ℕ) (l1 l2 : FVec Ideal S1x256 .f32) (q e : FVec Ideal S256x256 .f32)
  (qdb kib keb : FVec Ideal S256x256 .bf16)
  (h1 : ∀ d, l1 (ix2 0 d) = (tot D (n + 1) d : EReal)) (h2 : ∀ d, l2 (ix2 0 d) = (tot D (n + 2) d : EReal))
  (hq : ∀ s u d, q (ix2 (ri s u) d) = (qd D (n + s.val) u d : EReal))
  (he : ∀ s u d, e (ix2 (ri s u) d) = (kd D (n + s.val) u d : EReal))
  (hqb : ∀ s u d, qdb (ix2 (ri s u) d) = (qd D (n + s.val) u d : EReal))
  (hkb : ∀ s u d, kib (ix2 (ri s u) d) = (ki D (n + s.val) u d : EReal))
  (heb : ∀ s u d, keb (ix2 (ri s u) d) = (kd D (n + s.val) u d : EReal))

include h2 hq in
theorem qb_rp (a : Fin 2) (u : Fin 64) (d : Fin 256) :
    qb l2 q (ix2 (rp a u) d)
      = ((if a = 0 then qd D (n + 2) u d else qd D (n + 3) u d * Real.exp (tot D (n + 2) d) : ℝ) : EReal) := by
  rw [qb_apply]
  match a with
  | 0 =>
    have e1 : (⟨128 + (rp 0 u).val, by omega⟩ : Fin 256) = ri 2 u := Fin.ext (by simp [rp, ri])
    rw [dif_pos (by simp [rp]), e1, hq]; rfl
  | 1 =>
    have e1 : (⟨192 + ((rp 1 u).val - 64), by omega⟩ : Fin 256) = ri 3 u := Fin.ext (by simp [rp, ri])
    rw [dif_neg (by simp [rp]), e1, hq, h2, Ideal.exp_coe, ← EReal.coe_mul]; rfl

include h1 he in
theorem kb_rp (a : Fin 2) (u : Fin 64) (d : Fin 256) :
    kb l1 e (ix2 (rp a u) d)
      = ((if a = 0 then kd D n u d * Real.exp (tot D (n + 1) d) else kd D (n + 1) u d : ℝ) : EReal) := by
  rw [kb_apply]
  match a with
  | 0 =>
    have e1 : (⟨(rp 0 u).val, by omega⟩ : Fin 256) = ri 0 u := Fin.ext (by simp [rp, ri])
    rw [dif_pos (by simp [rp]), e1, he, h1, Ideal.exp_coe, ← EReal.coe_mul]; rfl
  | 1 =>
    have e1 : (⟨64 + ((rp 1 u).val - 64), by omega⟩ : Fin 256) = ri 1 u := Fin.ext (by simp [rp, ri])
    rw [dif_neg (by simp [rp]), e1, he]; rfl

/-- The row of a pair at `o` is the row of the block. -/
theorem rp_lo (a : Fin 2) (u : Fin 64) : (⟨0 + (rp a u).val, by omega⟩ : Fin 256) = ri ⟨a.val, by omega⟩ u :=
  Fin.ext (by simp [rp, ri])

theorem rp_hi (a : Fin 2) (u : Fin 64) : (⟨128 + (rp a u).val, by omega⟩ : Fin 256) = ri ⟨2 + a.val, by omega⟩ u :=
  Fin.ext (by simp only [rp, ri]; omega)

theorem att_lo_lo (a b : Fin 2) (u w : Fin 64) :
    Gla.att l1 l2 q e qdb kib keb (ix2 (ri ⟨a.val, by omega⟩ u) (ri ⟨b.val, by omega⟩ w))
      = pairAtt 0 slices_S256x256_o0_0_S128x256 qdb kib keb (ix2 (rp a u) (rp b w)) := by
  rw [att_apply, dif_pos (by simp only [ri]; omega), dif_pos (by simp only [ri]; omega)]; rfl

theorem att_lo_hi (a b : Fin 2) (u w : Fin 64) :
    Gla.att l1 l2 q e qdb kib keb (ix2 (ri ⟨a.val, by omega⟩ u) (ri ⟨2 + b.val, by omega⟩ w)) = 0 := by
  rw [att_apply, dif_pos (by simp only [ri]; omega), dif_neg (by simp only [ri]; omega)]

theorem att_hi_lo (a b : Fin 2) (u w : Fin 64) :
    Gla.att l1 l2 q e qdb kib keb (ix2 (ri ⟨2 + a.val, by omega⟩ u) (ri ⟨b.val, by omega⟩ w))
      = ∑ x, qb l2 q (ix2 (rp a u) x) * kb l1 e (ix2 (rp b w) x) := by
  have e1 : (⟨(ri ⟨2 + a.val, by omega⟩ u).val - 128, by simp only [ri]; omega⟩ : Fin 128) = rp a u :=
    Fin.ext (by simp only [ri, rp]; omega)
  rw [att_apply, dif_neg (by simp only [ri]; omega), dif_pos (by simp only [ri]; omega), e1]; rfl

theorem att_hi_hi (a b : Fin 2) (u w : Fin 64) :
    Gla.att l1 l2 q e qdb kib keb (ix2 (ri ⟨2 + a.val, by omega⟩ u) (ri ⟨2 + b.val, by omega⟩ w))
      = pairAtt 128 slices_S256x256_o128_0_S128x256 qdb kib keb (ix2 (rp a u) (rp b w)) := by
  have e1 : (⟨(ri ⟨2 + a.val, by omega⟩ u).val - 128, by simp only [ri]; omega⟩ : Fin 128) = rp a u :=
    Fin.ext (by simp only [ri, rp]; omega)
  have e2 : (⟨(ri ⟨2 + b.val, by omega⟩ w).val - 128, by simp only [ri]; omega⟩ : Fin 128) = rp b w :=
    Fin.ext (by simp only [ri, rp]; omega)
  rw [att_apply, dif_neg (by simp only [ri]; omega), dif_neg (by simp only [ri]; omega), e1, e2]

include hqb hkb heb in
theorem pair_lo (a b : Fin 2) (u w : Fin 64) :
    pairAtt 0 slices_S256x256_o0_0_S128x256 qdb kib keb (ix2 (rp a u) (rp b w))
      = ((if a = b then (if w ≤ u then ∑ d, qd D (n + a.val) u d * ki D (n + b.val) w d else 0)
          else if b < a then ∑ d, qd D (n + a.val) u d * kd D (n + b.val) w d else 0 : ℝ) : EReal) := by
  have hi : ∀ i : Fin 128, (⟨0 + i.val, by omega⟩ : Fin 256) = ri ⟨i.val / 64, by omega⟩ ⟨i.val % 64, by omega⟩ :=
    fun i => Fin.ext (by simp only [ri]; omega)
  have key := pairAtt_rp 0 slices_S256x256_o0_0_S128x256 (by omega) qdb kib keb
    (fun i d => qd D (n + i.val / 64) ⟨i.val % 64, by omega⟩ d) (fun i d => ki D (n + i.val / 64) ⟨i.val % 64, by omega⟩ d)
    (fun i d => kd D (n + i.val / 64) ⟨i.val % 64, by omega⟩ d) (fun i d => by rw [hi, hqb]) (fun i d => by rw [hi, hkb])
    (fun i d => by rw [hi, heb]) a b u w
  have f1 : ∀ (a : Fin 2) (u : Fin 64), (rp a u).val / 64 = a.val := fun a u => by simp only [rp]; omega
  have f2 : ∀ (a : Fin 2) (u : Fin 64), (⟨(rp a u).val % 64, by omega⟩ : Fin 64) = u := fun a u =>
    Fin.ext (by simp only [rp]; omega)
  rw [key]
  simp only [f1, f2]

include hqb hkb heb in
theorem pair_hi (a b : Fin 2) (u w : Fin 64) :
    pairAtt 128 slices_S256x256_o128_0_S128x256 qdb kib keb (ix2 (rp a u) (rp b w))
      = ((if a = b then (if w ≤ u then ∑ d, qd D (n + (2 + a.val)) u d * ki D (n + (2 + b.val)) w d else 0)
          else if b < a then ∑ d, qd D (n + (2 + a.val)) u d * kd D (n + (2 + b.val)) w d else 0 : ℝ) : EReal) := by
  have hi : ∀ i : Fin 128, (⟨128 + i.val, by omega⟩ : Fin 256) = ri ⟨2 + i.val / 64, by omega⟩ ⟨i.val % 64, by omega⟩ :=
    fun i => Fin.ext (by simp only [ri]; omega)
  have key := pairAtt_rp 128 slices_S256x256_o128_0_S128x256 (by omega) qdb kib keb
    (fun i d => qd D (n + (2 + i.val / 64)) ⟨i.val % 64, by omega⟩ d)
    (fun i d => ki D (n + (2 + i.val / 64)) ⟨i.val % 64, by omega⟩ d)
    (fun i d => kd D (n + (2 + i.val / 64)) ⟨i.val % 64, by omega⟩ d) (fun i d => by rw [hi, hqb]) (fun i d => by rw [hi, hkb])
    (fun i d => by rw [hi, heb]) a b u w
  have f1 : ∀ (a : Fin 2) (u : Fin 64), (rp a u).val / 64 = a.val := fun a u => by simp only [rp]; omega
  have f2 : ∀ (a : Fin 2) (u : Fin 64), (⟨(rp a u).val % 64, by omega⟩ : Fin 64) = u := fun a u =>
    Fin.ext (by simp only [rp]; omega)
  rw [key]
  simp only [f1, f2]

include h1 h2 hq he in
theorem pair_far (a b : Fin 2) (u w : Fin 64) :
    (∑ x, qb l2 q (ix2 (rp a u) x) * kb l1 e (ix2 (rp b w) x))
      = ((∑ d, (if a = 0 then qd D (n + 2) u d else qd D (n + 3) u d * Real.exp (tot D (n + 2) d))
          * (if b = 0 then kd D n w d * Real.exp (tot D (n + 1) d) else kd D (n + 1) w d) : ℝ) : EReal) :=
  coe_dot _ _ _ _ (fun d => qb_rp D n l2 q h2 hq a u d) (fun d => kb_rp D n l1 e h1 he b w d)

include h1 h2 hq he hqb hkb heb in
/-- The scores of a block. -/
theorem att_ri (s t : Fin 4) (u w : Fin 64) :
    Gla.att l1 l2 q e qdb kib keb (ix2 (ri s u) (ri t w)) = (GlaReal.att D n s t u w : EReal) := by
  have lo := fun a b : Fin 2 => (att_lo_lo l1 l2 q e qdb kib keb a b u w).trans (pair_lo D n qdb kib keb hqb hkb heb a b u w)
  have hi := fun a b : Fin 2 => (att_hi_hi l1 l2 q e qdb kib keb a b u w).trans (pair_hi D n qdb kib keb hqb hkb heb a b u w)
  have far := fun a b : Fin 2 => (att_hi_lo l1 l2 q e qdb kib keb a b u w).trans (pair_far D n l1 l2 q e h1 h2 hq he a b u w)
  have zr := fun a b : Fin 2 => att_lo_hi l1 l2 q e qdb kib keb a b u w
  match s, t with
  | 0, 0 => exact (lo 0 0).trans (by simp [GlaReal.att, diag])
  | 0, 1 => exact (lo 0 1).trans (by simp [GlaReal.att, diag])
  | 0, 2 => exact (zr 0 0).trans (by simp [GlaReal.att, diag])
  | 0, 3 => exact (zr 0 1).trans (by simp [GlaReal.att, diag])
  | 1, 0 => exact (lo 1 0).trans (by simp [GlaReal.att, diag])
  | 1, 1 => exact (lo 1 1).trans (by simp [GlaReal.att, diag])
  | 1, 2 => exact (zr 1 0).trans (by simp [GlaReal.att, diag])
  | 1, 3 => exact (zr 1 1).trans (by simp [GlaReal.att, diag])
  | 2, 0 => exact (far 0 0).trans (by simp [GlaReal.att, diag])
  | 2, 1 => exact (far 0 1).trans (by simp [GlaReal.att, diag])
  | 2, 2 => exact (hi 0 0).trans (by simp [GlaReal.att, diag])
  | 2, 3 => exact (hi 0 1).trans (by simp [GlaReal.att, diag])
  | 3, 0 => exact (far 1 0).trans (by simp [GlaReal.att, diag])
  | 3, 1 => exact (far 1 1).trans (by simp [GlaReal.att, diag])
  | 3, 2 => exact (hi 1 0).trans (by simp [GlaReal.att, diag])
  | 3, 3 => exact (hi 1 1).trans (by simp [GlaReal.att, diag])

end Real

end Cert.KernelIdeal.Gla
-- ==== Proof.GlaBlock.lean ====
/- The attention of one grid point over real numbers: each block of four chunks gives the rows of the recursion, from the
   state before the block, and hands on the state after it. -/
module

public import proofs.«01_k».proof.Proof.GlaScore

@[expose] public section

set_option maxRecDepth 16384

noncomputable section

open Idealize.ShloMosaic Idealize.ShloMosaic.TcCoe

namespace Cert.KernelIdeal.Gla

open Cert.KernelIdeal Cert.KernelIdeal.Gen Cert.GlaReal

variable (D : Data) (n : ℕ) (l : Fin 32 → FVec Ideal S1x256 .f32)
  (hl : ∀ (b : Fin 8) (s : Fin 4) d, l ⟨4 * b.val + s.val, by omega⟩ (ix2 0 d) = (tot D (n + 4 * b.val + s.val) d : EReal))

theorem add_apply (x y : FVec Ideal S1x256 .f32) (d : Fin 256) : addf x y (ix2 0 d) = x (ix2 0 d) + y (ix2 0 d) := rfl

theorem zero_row (d : Fin 256) : k0_pay92 (F := Ideal) (ix2 0 d) = ((0 : ℝ) : EReal) := by
  pointwise [k0_pay92]
  rfl

include hl in
theorem rowAt_apply (b : Fin 8) (s : Fin 4) (i : Nat) (hi : i < 4) (d : Fin 256) :
    rowAt l ⟨4 * b.val + s.val, by omega⟩ i hi (ix2 0 d) = (tot D (n + 4 * b.val + i) d : EReal) := by
  have e : (⟨4 * ((⟨4 * b.val + s.val, by omega⟩ : Fin 32).val / 4) + i, by dsimp only; omega⟩ : Fin 32)
      = ⟨4 * b.val + (⟨i, hi⟩ : Fin 4).val, by dsimp only; omega⟩ := Fin.ext (by dsimp only; omega)
  rw [rowAt, e, hl]

include hl in
theorem eIn_apply (b : Fin 8) (s : Fin 4) (d : Fin 256) :
    Gla.eIn l ⟨4 * b.val + s.val, by omega⟩ (ix2 0 d) = (GlaReal.eIn D (n + 4 * b.val) s d : EReal) := by
  have r := fun i hi => rowAt_apply D n l hl b s i hi d
  have hm : (⟨4 * b.val + s.val, by omega⟩ : Fin 32).val % 4 = s.val := by dsimp only; omega
  unfold Gla.eIn
  rw [hm]
  match s, r with
  | 0, r => exact zero_row d
  | 1, r => exact r 0 (by decide)
  | 2, r =>
    show addf _ _ (ix2 0 d) = _
    rw [add_apply, r, r, ← EReal.coe_add]; rfl
  | 3, r =>
    show addf (addf _ _) _ (ix2 0 d) = _
    rw [add_apply, add_apply, r, r, r, ← EReal.coe_add, ← EReal.coe_add]; rfl

include hl in
theorem eOut_apply (b : Fin 8) (s : Fin 4) (d : Fin 256) :
    Gla.eOut l ⟨4 * b.val + s.val, by omega⟩ (ix2 0 d) = (GlaReal.eOut D (n + 4 * b.val) s d : EReal) := by
  have r := fun i hi => rowAt_apply D n l hl b s i hi d
  have hm : (⟨4 * b.val + s.val, by omega⟩ : Fin 32).val % 4 = s.val := by dsimp only; omega
  unfold Gla.eOut
  rw [hm]
  match s, r with
  | 3, r => exact zero_row d
  | 2, r => exact r 3 (by decide)
  | 1, r =>
    show addf _ _ (ix2 0 d) = _
    rw [add_apply, r, r, ← EReal.coe_add]; rfl
  | 0, r =>
    show addf (addf _ _) _ (ix2 0 d) = _
    rw [add_apply, add_apply, r, r, r, ← EReal.coe_add, ← EReal.coe_add]; rfl

include hl in
theorem eTot_apply (b : Fin 8) (d : Fin 256) :
    eTot l b (ix2 0 d)
      = ((Real.exp (tot D (n + 4 * b.val) d + tot D (n + 4 * b.val + 1) d + tot D (n + 4 * b.val + 2) d
          + tot D (n + 4 * b.val + 3) d) : ℝ) : EReal) := by
  have e : eTot l b (ix2 0 d) = Ideal.exp (l ⟨4 * b.val, by omega⟩ (ix2 0 d) + l ⟨4 * b.val + 1, by omega⟩ (ix2 0 d)
      + l ⟨4 * b.val + 2, by omega⟩ (ix2 0 d) + l ⟨4 * b.val + 3, by omega⟩ (ix2 0 d)) := rfl
  have r0 : l ⟨4 * b.val, by omega⟩ (ix2 0 d) = (tot D (n + 4 * b.val) d : EReal) := hl b 0 d
  have r1 : l ⟨4 * b.val + 1, by omega⟩ (ix2 0 d) = (tot D (n + 4 * b.val + 1) d : EReal) := hl b 1 d
  have r2 : l ⟨4 * b.val + 2, by omega⟩ (ix2 0 d) = (tot D (n + 4 * b.val + 2) d : EReal) := hl b 2 d
  have r3 : l ⟨4 * b.val + 3, by omega⟩ (ix2 0 d) = (tot D (n + 4 * b.val + 3) d : EReal) := hl b 3 d
  rw [e, r0, r1, r2, r3, ← EReal.coe_add, ← EReal.coe_add, ← EReal.coe_add, Ideal.exp_coe]

variable (QD KE : FVec Ideal S2048x256 .f32) (KI : FVec Ideal S2048x256 .bf16) (v : Fin 8 → Vec Ideal S256x512 .bf16)
  (hq : ∀ b s u d, QD (ix2 (rr b s u) d) = (qd D (n + 4 * b.val + s.val) u d : EReal))
  (he : ∀ b s u d, KE (ix2 (rr b s u) d) = (kd D (n + 4 * b.val + s.val) u d : EReal))
  (hk : ∀ b s u d, KI (ix2 (rr b s u) d) = (ki D (n + 4 * b.val + s.val) u d : EReal))
  (hv : ∀ b s u d, v b (ix2 (ri s u) d) = (D.v (n + 4 * b.val + s.val) u d : EReal))

/-- A double sum of products of real numbers. -/
theorem coe_dot2 (x y : Fin 256 → EReal) (f g : Fin 4 → Fin 64 → ℝ) (hx : ∀ s u, x (ri s u) = (f s u : EReal))
    (hy : ∀ s u, y (ri s u) = (g s u : EReal)) : (∑ k, x k * y k) = ((∑ s, ∑ u, f s u * g s u : ℝ) : EReal) := by
  rw [sum_block, ← coe_sum]
  exact Finset.sum_congr rfl fun s _ => coe_dot _ _ _ _ (hx s) (hy s)

include hl hq he hk hv in
/-- What a block adds by itself. -/
theorem oPart_ri (b : Fin 8) (s : Fin 4) (u : Fin 64) (e : Fin 512) :
    oPart l QD KE KI v b (ix2 (ri s u) e)
      = ((∑ t : Fin 4, ∑ w : Fin 64, GlaReal.att D (n + 4 * b.val) s t u w * D.v (n + 4 * b.val + t.val) w e : ℝ) : EReal) := by
  have e1 : oPart l QD KE KI v b (ix2 (ri s u) e)
      = ∑ x, Gla.att (l ⟨4 * b.val + 1, by omega⟩) (l ⟨4 * b.val + 2, by omega⟩) (cut b QD) (cut b KE)
          (cut b (truncf (F := Ideal) .bf16 QD bitsLt_bf16_f32)) (cut b KI)
          (cut b (truncf (F := Ideal) .bf16 KE bitsLt_bf16_f32)) (ix2 (ri s u) x) * v b (ix2 x e) := by
    generalize ri s u = i
    pointwise [oPart]
  rw [e1]
  refine coe_dot2 _ _ (fun t w => GlaReal.att D (n + 4 * b.val) s t u w) (fun t w => D.v (n + 4 * b.val + t.val) w e)
    (fun t w => ?_) (fun t w => hv b t w e)
  refine att_ri D (n + 4 * b.val) _ _ _ _ _ _ _ (fun d => hl b 1 d) (fun d => hl b 2 d) ?_ ?_ ?_ ?_ ?_ s t u w
  · intro s u d; rw [cut_ri]; exact hq b s u d
  · intro s u d; rw [cut_ri]; exact he b s u d
  · intro s u d; rw [cut_ri]; exact hq b s u d
  · intro s u d; rw [cut_ri]; exact hk b s u d
  · intro s u d; rw [cut_ri]; exact he b s u d

include hl hq in
theorem qs_rr (b : Fin 8) (s : Fin 4) (u : Fin 64) (d : Fin 256) :
    qs l QD (ix2 (rr b s u) d)
      = ((qd D (n + 4 * b.val + s.val) u d * Real.exp (GlaReal.eIn D (n + 4 * b.val) s d) : ℝ) : EReal) := by
  have e : qs l QD (ix2 (rr b s u) d) = QD (ix2 (rr b s u) d) * perChunk (fun c => exp (Gla.eIn l c)) (ix2 (rr b s u) d) := rfl
  have e2 : exp (F := Ideal) (Gla.eIn l ⟨4 * b.val + s.val, by omega⟩) (ix2 0 d)
      = Ideal.exp (Gla.eIn l ⟨4 * b.val + s.val, by omega⟩ (ix2 0 d)) := rfl
  rw [e, perChunk_rr, hq, e2, eIn_apply D n l hl, Ideal.exp_coe, ← EReal.coe_mul]

include hl he in
theorem ke_rr (b : Fin 8) (s : Fin 4) (u : Fin 64) (d : Fin 256) :
    ke l KE (ix2 (rr b s u) d)
      = ((kd D (n + 4 * b.val + s.val) u d * Real.exp (GlaReal.eOut D (n + 4 * b.val) s d) : ℝ) : EReal) := by
  have e : ke l KE (ix2 (rr b s u) d) = KE (ix2 (rr b s u) d) * perChunk (fun c => exp (Gla.eOut l c)) (ix2 (rr b s u) d) := rfl
  have e2 : exp (F := Ideal) (Gla.eOut l ⟨4 * b.val + s.val, by omega⟩) (ix2 0 d)
      = Ideal.exp (Gla.eOut l ⟨4 * b.val + s.val, by omega⟩ (ix2 0 d)) := rfl
  rw [e, perChunk_rr, he, e2, eOut_apply D n l hl, Ideal.exp_coe, ← EReal.coe_mul]

include hl he hv in
/-- The state after a block. -/
theorem stStep_real (b : Fin 8) (st : FVec Ideal S512x256 .f32)
    (hst : ∀ e d, st (ix2 e d) = (S D (n + 4 * b.val) d e : EReal)) (e : Fin 512) (d : Fin 256) :
    stStep l (ke l KE) v b st (ix2 e d) = (S D (n + 4 * b.val + 4) d e : EReal) := by
  have e1 : stStep l (ke l KE) v b st (ix2 e d)
      = st (ix2 e d) * eTot l b (ix2 0 d) + ∑ x, v b (ix2 x e) * cut b (ke l KE) (ix2 x d) := by
    generalize ke l KE = K
    pointwise [stStep]
  rw [e1, hst, eTot_apply D n l hl, ← EReal.coe_mul,
    coe_dot2 _ _ (fun t w => D.v (n + 4 * b.val + t.val) w e)
      (fun t w => kd D (n + 4 * b.val + t.val) w d * Real.exp (GlaReal.eOut D (n + 4 * b.val) t d)) (fun t w => hv b t w e)
      (fun t w => by rw [cut_ri]; exact ke_rr D n l hl KE he b t w d),
    ← EReal.coe_add, S_four]

include hl he hv in
/-- The state before each block. -/
theorem stAt_real (st : FVec Ideal S512x256 .f32) (hst : ∀ e d, st (ix2 e d) = (S D n d e : EReal)) :
    ∀ (b : ℕ) (h : b ≤ 8) (e : Fin 512) (d : Fin 256),
      stAt l (ke l KE) v st b h (ix2 e d) = (S D (n + 4 * b) d e : EReal)
  | 0, _, e, d => hst e d
  | b + 1, h, e, d =>
    stStep_real D n l hl KE v he hv ⟨b, h⟩ _ (fun e d => stAt_real st hst b (Nat.le_of_succ_le h) e d) e d

include hl hq he hk hv in
/-- The attention of a block. -/
theorem oBlock_ri (st : FVec Ideal S512x256 .f32) (hst : ∀ e d, st (ix2 e d) = (S D n d e : EReal)) (b : Fin 8) (s : Fin 4)
    (u : Fin 64) (e : Fin 512) :
    oBlock l QD KE KI v st b (ix2 (ri s u) e) = (O D (n + 4 * b.val + s.val) u e : EReal) := by
  have e1 : oBlock l QD KE KI v st b (ix2 (ri s u) e)
      = oPart l QD KE KI v b (ix2 (ri s u) e)
        + ∑ x, cut b (qs l QD) (ix2 (ri s u) x) * stAt l (ke l KE) v st b.val (Nat.le_of_lt b.isLt) (ix2 e x) := by
    generalize ri s u = i
    pointwise [oBlock]
  rw [e1, oPart_ri D n l hl QD KE KI v hq he hk hv,
    coe_dot _ _ (fun d => qd D (n + 4 * b.val + s.val) u d * Real.exp (GlaReal.eIn D (n + 4 * b.val) s d))
      (fun d => S D (n + 4 * b.val) d e)
      (fun d => by rw [cut_ri]; exact qs_rr D n l hl QD hq b s u d)
      (fun d => stAt_real D n l hl KE v he hv st hst b.val (Nat.le_of_lt b.isLt) e d),
    ← EReal.coe_add, O_four]

/-- The norm, the scale and the gate of one row, from the row of the attention. -/
def rowNorm (O : Fin 512 → EReal) (g z : EReal) (e : Fin 512) : EReal :=
  O e * Ideal.rsqrt (Ideal.div (∑ k, O k * O k) (Ideal.ofBits .f32 0x44000000#32) + Ideal.ofBits .f32 0x3727C5AC#32) * g
    * (z * Ideal.div 1 (1 + Ideal.exp (-z)))

/-- The body's closing lines, at a real value of the gate. -/
theorem normGate_apply (O : FVec Ideal S2048x512 .f32) (ng : Vec Ideal S1x512 .f32) (z : Vec Ideal S2048x512 .bf16)
    (i : Fin 2048) (e : Fin 512) (zr : ℝ) (hz : z (ix2 i e) = (zr : EReal)) :
    normGate O ng z (ix2 i e) = rowNorm (fun k => O (ix2 i k)) (ng (ix2 0 e)) (z (ix2 i e)) e := by
  unfold rowNorm
  pointwise [normGate, k0_pay16]
  rw [hz, RealFns.ofBits_half, RealFns.silu_eq]

section Point

variable (q k : Vec Ideal S2048x256 .bf16) (v : Fin 8 → Vec Ideal S256x512 .bf16) (g : Vec Ideal S2048x128 .f32)
  (wg : Vec Ideal S128x256 .f32) (bg : Vec Ideal S1x256 .f32) (st : Vec Ideal S512x256 .f32)
  (pq : ∀ b s u d, q (ix2 (rr b s u) d) = (D.q (n + 4 * b.val + s.val) u d : EReal))
  (pk : ∀ b s u d, k (ix2 (rr b s u) d) = (D.k (n + 4 * b.val + s.val) u d : EReal))
  (pv : ∀ b s u d, v b (ix2 (ri s u) d) = (D.v (n + 4 * b.val + s.val) u d : EReal))
  (hL : ∀ b s u d, logA (F := Ideal) wg bg g (ix2 (rr b s u) d) = (D.l (n + 4 * b.val + s.val) u d : EReal))
  (hst : ∀ e d, st (ix2 e d) = (S D n d e : EReal))

include pq pk pv hL hst in
/-- The attention of a grid point is the recursion's. -/
theorem attn_rr (b : Fin 8) (s : Fin 4) (u : Fin 64) (e : Fin 512) :
    attn q k v g wg bg st (ix2 (rr b s u) e) = (O D (n + 4 * b.val + s.val) u e : EReal) := by
  have hB := bcum_rr _ D n hL
  rw [attn, oCat_rr]
  exact oBlock_ri D n _ (row_rr _ D n hB) _ _ _ v (qDec_rr _ D n hB q pq) (kEnd_rr _ D n hB k pk) (kInv_rr _ D n hB k pk) pv st hst
    b s u e

include pk pv hL hst in
/-- The state a grid point leaves is the recursion's. -/
theorem stOut_real (e : Fin 512) (d : Fin 256) :
    stOut k v g wg bg st (ix2 e d) = (S D (n + 32) d e : EReal) := by
  have hB := bcum_rr _ D n hL
  have key := stAt_real D n _ (row_rr _ D n hB) _ v (kEnd_rr _ D n hB k pk) pv st hst 8 (Nat.le_refl 8) e d
  rw [← key]
  generalize hx : stAt (row (bcum (logA wg bg g))) (ke (row (bcum (logA wg bg g))) (kEnd (bcum (logA wg bg g)) k)) v st 8
    (Nat.le_refl 8) = X
  have : stOut k v g wg bg st = shapeCast S512x256 X shapeCasts_S512x256_S512x256 := by rw [← hx]; rfl
  rw [this]
  pointwise

end Point

end Cert.KernelIdeal.Gla
-- ==== Proof.GlaRefSum.lean ====
/- The reference's running sum over the 64 rows of a chunk, read at one element, and the rows of its causal mask. -/
module

public import proofs.«01_k».proof.Proof.GlaReal
public import proofs.«01_k».proof.Proof.GlaPoint
public import proofs.«01_k».proof.Proof.Gen.ReferenceIdeal.Step
public import Idealize.ShloMosaic.Lib.Pointwise

@[expose] public section

set_option maxRecDepth 16384

noncomputable section

open Idealize.ShloMosaic

namespace Cert.ReferenceIdeal.GlaStep

open Cert.ReferenceIdeal Cert.ReferenceIdeal.Gen

/-- A left fold that adds is the sum. -/
theorem foldl_add {ι : Type} (g : ι → EReal) (l : List ι) (v : EReal) : l.foldl (fun r n => r + g n) v = v + (l.map g).sum := by
  induction l generalizing v with
  | nil => simp
  | cons a l ih => rw [List.foldl_cons, ih, List.map_cons, List.sum_cons, add_assoc]

/-- The positions of the window: 64 rows. -/
theorem window_sum (g : (⟨4, ![1, 1, 64, 1]⟩ : Shape).Idx → EReal) : ∑ i, g i = ∑ w : Fin 64, g (ix4 0 0 w 0) := by
  refine (Fintype.sum_bijective (fun w : Fin 64 => (ix4 0 0 w 0 : (⟨4, ![1, 1, 64, 1]⟩ : Shape).Idx)) ⟨?_, ?_⟩ _ _ fun _ => rfl).symm
  · intro a b h
    exact congrFun h 2
  · intro y
    refine ⟨y 2, ?_⟩
    funext a
    match a with
    | ⟨0, _⟩ => exact (Subsingleton.elim (α := Fin 1) _ _)
    | ⟨1, _⟩ => exact (Subsingleton.elim (α := Fin 1) _ _)
    | ⟨2, _⟩ => rfl
    | ⟨3, _⟩ => exact (Subsingleton.elim (α := Fin 1) _ _)

/-- What position `w` of the window at row `u` holds: the row that far below, or nothing above the first row. -/
def G (x : FVec Ideal S4x4x64x256 .f32) (a b : Fin 4) (u : Fin 64) (d : Fin 256) (w : Fin 64) : EReal :=
  if h : 63 ≤ u.val + w.val then x (ix4 a b ⟨u.val + w.val - 63, by omega⟩ d) else 0

/-- Row `u` of the running sum is the sum of the rows up to `u`. -/
theorem cumsum_apply (x : FVec Ideal S4x4x64x256 .f32) (z : FVec Ideal S_ .f32) (hz : ∀ i, z i = 0)
    (a b : Fin 4) (u : Fin 64) (d : Fin 256) :
    Host.reduceWindowAdd ![1, 1, 64, 1] ![1, 1, 1, 1] ![0, 0, 63, 0] ![0, 0, 0, 0] x z
        reduceWindows_S4x4x64x256_S4x4x64x256_w1s1p0_0_w1s1p0_0_w64s1p63_0_w1s1p0_0 h_S_ (ix4 a b u d)
      = ∑ w : Fin 64, if w ≤ u then x (ix4 a b w d) else 0 := by
  show Host.reduceWindow (· + ·) ![1, 1, 64, 1] ![1, 1, 1, 1] ![0, 0, 63, 0] ![0, 0, 0, 0] x
    (fun _ : (⟨0, ![]⟩ : Shape).Idx => z (Shape.Idx.first h_S_))
    reduceWindows_S4x4x64x256_S4x4x64x256_w1s1p0_0_w1s1p0_0_w64s1p63_0_w1s1p0_0 (by decide) (ix4 a b u d) = _
  unfold Host.reduceWindow
  dsimp only
  rw [foldl_add, hz, zero_add, ← Fin.sum_univ_def]
  have ha := a.isLt
  have hb := b.isLt
  have hd := d.isLt
  refine Eq.trans (Finset.sum_congr rfl fun n _ => ?_) ((Equiv.sum_comp (Equiv.symm (Shape.rowMajor ⟨4, ![1, 1, 64, 1]⟩))
    (fun i => G x a b u d (i 2))).trans ((window_sum (fun i => G x a b u d (i 2))).trans ?_))
  · have e0 : ((Shape.rowMajor ⟨4, ![1, 1, 64, 1]⟩).symm n 0).val = 0 := by have := ((Shape.rowMajor ⟨4, ![1, 1, 64, 1]⟩).symm n 0).isLt; change ((Shape.rowMajor ⟨4, ![1, 1, 64, 1]⟩).symm n 0).val < 1 at this; omega
    have e1 : ((Shape.rowMajor ⟨4, ![1, 1, 64, 1]⟩).symm n 1).val = 0 := by have := ((Shape.rowMajor ⟨4, ![1, 1, 64, 1]⟩).symm n 1).isLt; change ((Shape.rowMajor ⟨4, ![1, 1, 64, 1]⟩).symm n 1).val < 1 at this; omega
    have e3 : ((Shape.rowMajor ⟨4, ![1, 1, 64, 1]⟩).symm n 3).val = 0 := by have := ((Shape.rowMajor ⟨4, ![1, 1, 64, 1]⟩).symm n 3).isLt; change ((Shape.rowMajor ⟨4, ![1, 1, 64, 1]⟩).symm n 3).val < 1 at this; omega
    have e2 : ((Shape.rowMajor ⟨4, ![1, 1, 64, 1]⟩).symm n 2).val < 64 := ((Shape.rowMajor ⟨4, ![1, 1, 64, 1]⟩).symm n 2).isLt
    unfold G
    by_cases h : 63 ≤ u.val + ((Shape.rowMajor ⟨4, ![1, 1, 64, 1]⟩).symm n 2).val
    · rw [dif_pos, dif_pos h]
      · refine congrArg x (funext fun t => Fin.ext ?_)
        match t with
        | ⟨0, _⟩ => show a.val * 1 + ((Shape.rowMajor ⟨4, ![1, 1, 64, 1]⟩).symm n 0).val - 0 = a.val; omega
        | ⟨1, _⟩ => show b.val * 1 + ((Shape.rowMajor ⟨4, ![1, 1, 64, 1]⟩).symm n 1).val - 0 = b.val; omega
        | ⟨2, _⟩ => show u.val * 1 + ((Shape.rowMajor ⟨4, ![1, 1, 64, 1]⟩).symm n 2).val - 63 = u.val + ((Shape.rowMajor ⟨4, ![1, 1, 64, 1]⟩).symm n 2).val - 63; omega
        | ⟨3, _⟩ => show d.val * 1 + ((Shape.rowMajor ⟨4, ![1, 1, 64, 1]⟩).symm n 3).val - 0 = d.val; omega
      · intro t
        match t with
        | ⟨0, _⟩ => show 0 ≤ a.val * 1 + ((Shape.rowMajor ⟨4, ![1, 1, 64, 1]⟩).symm n 0).val ∧ a.val * 1 + ((Shape.rowMajor ⟨4, ![1, 1, 64, 1]⟩).symm n 0).val - 0 < 4; omega
        | ⟨1, _⟩ => show 0 ≤ b.val * 1 + ((Shape.rowMajor ⟨4, ![1, 1, 64, 1]⟩).symm n 1).val ∧ b.val * 1 + ((Shape.rowMajor ⟨4, ![1, 1, 64, 1]⟩).symm n 1).val - 0 < 4; omega
        | ⟨2, _⟩ => show 63 ≤ u.val * 1 + ((Shape.rowMajor ⟨4, ![1, 1, 64, 1]⟩).symm n 2).val ∧ u.val * 1 + ((Shape.rowMajor ⟨4, ![1, 1, 64, 1]⟩).symm n 2).val - 63 < 64; omega
        | ⟨3, _⟩ => show 0 ≤ d.val * 1 + ((Shape.rowMajor ⟨4, ![1, 1, 64, 1]⟩).symm n 3).val ∧ d.val * 1 + ((Shape.rowMajor ⟨4, ![1, 1, 64, 1]⟩).symm n 3).val - 0 < 256; omega
    · rw [dif_neg, dif_neg h]
      intro q
      have q2 : 63 ≤ u.val * 1 + ((Shape.rowMajor ⟨4, ![1, 1, 64, 1]⟩).symm n 2).val ∧ u.val * 1 + ((Shape.rowMajor ⟨4, ![1, 1, 64, 1]⟩).symm n 2).val - 63 < 64 := q 2
      omega
  · refine Fintype.sum_equiv (Equiv.addRight (u + 1)) _ _ fun w => ?_
    have hv : (Equiv.addRight (u + 1) w).val = (w.val + u.val + 1) % 64 := by
      show (w + (u + 1)).val = _
      rw [Fin.val_add, Fin.val_add]
      simp only [Fin.val_one]
      omega
    show G x a b u d w = _
    unfold G
    by_cases h : 63 ≤ u.val + w.val
    · rw [dif_pos h, if_pos (by rw [Fin.le_def, hv]; omega)]
      refine congrArg (fun r => x (ix4 a b r d)) (Fin.ext ?_)
      rw [hv]
      show u.val + w.val - 63 = _
      omega
    · rw [dif_neg h, if_neg (by rw [Fin.le_def, hv]; omega)]

end Cert.ReferenceIdeal.GlaStep
-- ==== Proof.GlaRefStep.lean ====
/- One trip of the reference's loop, element by element over the reals: chunk `j`'s outputs and the state after it. -/
module

public import proofs.«01_k».proof.Proof.GlaReal
public import proofs.«01_k».proof.Proof.GlaPoint
public import proofs.«01_k».proof.Proof.Gen.ReferenceIdeal.Step
public import Idealize.ShloMosaic.Lib.Pointwise
public import proofs.«01_k».proof.Proof.GlaRefSum
public import proofs.«01_k».proof.Proof.GlaMask

@[expose] public section

set_option maxRecDepth 16384

noncomputable section

open Idealize.ShloMosaic

namespace Cert.ReferenceIdeal.GlaStep

open Cert.ReferenceIdeal Cert.ReferenceIdeal.Gen Cert.ReferenceIdeal.Step Cert.GlaReal
open Cert.KernelIdeal.Gla (coe_sum coe_dot)

/-- A trip's number as a signed word. -/
theorem word_toInt (j : ℕ) (hj : j < 64) : (BitVec.ofNat 32 j).toInt = (j : Int) :=
  Cert.KernelIdeal.Gla.toInt_small (by omega)

theorem ix5_ext {n0 n1 n2 n3 n4 : ℕ} {a a' : Fin n0} {b b' : Fin n1} {c c' : Fin n2} {d d' : Fin n3} {e e' : Fin n4}
    (h0 : a.val = a'.val) (h1 : b.val = b'.val) (h2 : c.val = c'.val) (h3 : d.val = d'.val) (h4 : e.val = e'.val) :
    (ix5 a b c d e : (⟨5, ![n0, n1, n2, n3, n4]⟩ : Shape).Idx) = ix5 a' b' c' d' e' := by
  rw [Fin.ext h0, Fin.ext h1, Fin.ext h2, Fin.ext h3, Fin.ext h4]

theorem cut256 (x : FVec Ideal S64x4x4x64x256 .f32) (st : Fin 5 → Int) (j : ℕ) (hj : j < 64) (h0 : st 0 = (j : Int))
    (h1 : st 1 = ((0 : ℕ) : Int)) (h2 : st 2 = ((0 : ℕ) : Int)) (h3 : st 3 = ((0 : ℕ) : Int)) (h4 : st 4 = ((0 : ℕ) : Int)) (a b : Fin 4) (u : Fin 64) (d : Fin 256) :
    Host.dynamicSlice S1x4x4x64x256 x st sliceFits_S64x4x4x64x256_S1x4x4x64x256 (ix5 0 a b u d) = x (ix5 ⟨j, hj⟩ a b u d) := by
  pointwise
  refine congrArg x (ix5_ext ?_ ?_ ?_ ?_ ?_)
  · exact Host.clampedStart_of_le (s := S64x4x4x64x256) (t := S1x4x4x64x256) rfl st 0 j h0 (by show j + 1 ≤ 64; omega)
  · exact (congrArg (· + a.val) (Host.clampedStart_of_le _ _ _ 0 h1 (by decide))).trans (Nat.zero_add _)
  · exact (congrArg (· + b.val) (Host.clampedStart_of_le _ _ _ 0 h2 (by decide))).trans (Nat.zero_add _)
  · exact (congrArg (· + u.val) (Host.clampedStart_of_le _ _ _ 0 h3 (by decide))).trans (Nat.zero_add _)
  · exact (congrArg (· + d.val) (Host.clampedStart_of_le _ _ _ 0 h4 (by decide))).trans (Nat.zero_add _)

theorem cut512 (x : FVec Ideal S64x4x4x64x512 .f32) (st : Fin 5 → Int) (j : ℕ) (hj : j < 64) (h0 : st 0 = (j : Int))
    (h1 : st 1 = ((0 : ℕ) : Int)) (h2 : st 2 = ((0 : ℕ) : Int)) (h3 : st 3 = ((0 : ℕ) : Int)) (h4 : st 4 = ((0 : ℕ) : Int)) (a b : Fin 4) (u : Fin 64) (d : Fin 512) :
    Host.dynamicSlice S1x4x4x64x512 x st sliceFits_S64x4x4x64x512_S1x4x4x64x512 (ix5 0 a b u d) = x (ix5 ⟨j, hj⟩ a b u d) := by
  pointwise
  refine congrArg x (ix5_ext ?_ ?_ ?_ ?_ ?_)
  · exact Host.clampedStart_of_le (s := S64x4x4x64x512) (t := S1x4x4x64x512) rfl st 0 j h0 (by show j + 1 ≤ 64; omega)
  · exact (congrArg (· + a.val) (Host.clampedStart_of_le _ _ _ 0 h1 (by decide))).trans (Nat.zero_add _)
  · exact (congrArg (· + b.val) (Host.clampedStart_of_le _ _ _ 0 h2 (by decide))).trans (Nat.zero_add _)
  · exact (congrArg (· + u.val) (Host.clampedStart_of_le _ _ _ 0 h3 (by decide))).trans (Nat.zero_add _)
  · exact (congrArg (· + d.val) (Host.clampedStart_of_le _ _ _ 0 h4 (by decide))).trans (Nat.zero_add _)

theorem put512 (x : FVec Ideal S64x4x4x64x512 .f32) (y : FVec Ideal S1x4x4x64x512 .f32) (st : Fin 5 → Int) (j : ℕ) (hj : j < 64) (h0 : st 0 = (j : Int))
    (h1 : st 1 = ((0 : ℕ) : Int)) (h2 : st 2 = ((0 : ℕ) : Int)) (h3 : st 3 = ((0 : ℕ) : Int)) (h4 : st 4 = ((0 : ℕ) : Int)) (c : Fin 64) (a b : Fin 4) (u : Fin 64)
    (d : Fin 512) :
    Host.dynamicUpdateSlice x y st updateFits_S64x4x4x64x512_S1x4x4x64x512 (ix5 c a b u d)
      = if c.val = j then y (ix5 0 a b u d) else x (ix5 c a b u d) := by
  have c0 : Host.clampedStart S64x4x4x64x512 S1x4x4x64x512 rfl st 0 = j := Host.clampedStart_of_le _ _ _ j h0 (by show j + 1 ≤ 64; omega)
  have c1 : Host.clampedStart S64x4x4x64x512 S1x4x4x64x512 rfl st 1 = 0 := Host.clampedStart_of_le _ _ _ 0 h1 (by decide)
  have c2 : Host.clampedStart S64x4x4x64x512 S1x4x4x64x512 rfl st 2 = 0 := Host.clampedStart_of_le _ _ _ 0 h2 (by decide)
  have c3 : Host.clampedStart S64x4x4x64x512 S1x4x4x64x512 rfl st 3 = 0 := Host.clampedStart_of_le _ _ _ 0 h3 (by decide)
  have c4 : Host.clampedStart S64x4x4x64x512 S1x4x4x64x512 rfl st 4 = 0 := Host.clampedStart_of_le _ _ _ 0 h4 (by decide)
  have hc := c.isLt
  have ha := a.isLt
  have hb := b.isLt
  have hu := u.isLt
  have hd := d.isLt
  rw [Host.dynamicUpdateSlice_apply]
  by_cases h : c.val = j
  · rw [if_pos h, dif_pos]
    · refine congrArg y (funext fun t => Fin.ext ?_)
      match t with
      | ⟨0, _⟩ => show c.val - Host.clampedStart S64x4x4x64x512 S1x4x4x64x512 rfl st 0 = 0; rw [c0]; omega
      | ⟨1, _⟩ => show a.val - Host.clampedStart S64x4x4x64x512 S1x4x4x64x512 rfl st 1 = a.val; rw [c1]; omega
      | ⟨2, _⟩ => show b.val - Host.clampedStart S64x4x4x64x512 S1x4x4x64x512 rfl st 2 = b.val; rw [c2]; omega
      | ⟨3, _⟩ => show u.val - Host.clampedStart S64x4x4x64x512 S1x4x4x64x512 rfl st 3 = u.val; rw [c3]; omega
      | ⟨4, _⟩ => show d.val - Host.clampedStart S64x4x4x64x512 S1x4x4x64x512 rfl st 4 = d.val; rw [c4]; omega
    · intro t
      match t with
      | ⟨0, _⟩ => show Host.clampedStart S64x4x4x64x512 S1x4x4x64x512 rfl st 0 ≤ c.val ∧ c.val < Host.clampedStart S64x4x4x64x512 S1x4x4x64x512 rfl st 0 + 1; rw [c0]; omega
      | ⟨1, _⟩ => show Host.clampedStart S64x4x4x64x512 S1x4x4x64x512 rfl st 1 ≤ a.val ∧ a.val < Host.clampedStart S64x4x4x64x512 S1x4x4x64x512 rfl st 1 + 4; rw [c1]; omega
      | ⟨2, _⟩ => show Host.clampedStart S64x4x4x64x512 S1x4x4x64x512 rfl st 2 ≤ b.val ∧ b.val < Host.clampedStart S64x4x4x64x512 S1x4x4x64x512 rfl st 2 + 4; rw [c2]; omega
      | ⟨3, _⟩ => show Host.clampedStart S64x4x4x64x512 S1x4x4x64x512 rfl st 3 ≤ u.val ∧ u.val < Host.clampedStart S64x4x4x64x512 S1x4x4x64x512 rfl st 3 + 64; rw [c3]; omega
      | ⟨4, _⟩ => show Host.clampedStart S64x4x4x64x512 S1x4x4x64x512 rfl st 4 ≤ d.val ∧ d.val < Host.clampedStart S64x4x4x64x512 S1x4x4x64x512 rfl st 4 + 512; rw [c4]; omega
  · rw [if_neg h, dif_neg]
    intro q
    have q0 : Host.clampedStart S64x4x4x64x512 S1x4x4x64x512 rfl st 0 ≤ c.val ∧ c.val < Host.clampedStart S64x4x4x64x512 S1x4x4x64x512 rfl st 0 + 1 := q 0
    rw [c0] at q0
    omega

section Cut

variable (j : ℕ) (hj : j < 64) (s : State Ideal) (a b : Fin 4) (u : Fin 64)

include hj

theorem b5_apply (d : Fin 256) : (b5 j s : FVec Ideal S4x4x64x256 .f32) (ix4 a b u d)
    = (s.main_v36_0 : FVec Ideal S64x4x4x64x256 .f32) (ix5 ⟨j, hj⟩ a b u d) := by
  pointwise [b5]
  unfold b4
  exact cut256 _ _ j hj (word_toInt j hj) rfl rfl rfl rfl a b u d

theorem b11_apply (d : Fin 256) : (b11 j s : FVec Ideal S4x4x64x256 .f32) (ix4 a b u d)
    = (s.main_v36_1 : FVec Ideal S64x4x4x64x256 .f32) (ix5 ⟨j, hj⟩ a b u d) := by
  pointwise [b11]
  unfold b10
  exact cut256 _ _ j hj (word_toInt j hj) rfl rfl rfl rfl a b u d

theorem b17_apply (d : Fin 512) : (b17 j s : FVec Ideal S4x4x64x512 .f32) (ix4 a b u d)
    = (s.main_v36_2 : FVec Ideal S64x4x4x64x512 .f32) (ix5 ⟨j, hj⟩ a b u d) := by
  pointwise [b17]
  unfold b16
  exact cut512 _ _ j hj (word_toInt j hj) rfl rfl rfl rfl a b u d

theorem b23_apply (d : Fin 256) : (b23 j s : FVec Ideal S4x4x64x256 .f32) (ix4 a b u d)
    = (s.main_v36_3 : FVec Ideal S64x4x4x64x256 .f32) (ix5 ⟨j, hj⟩ a b u d) := by
  pointwise [b23]
  unfold b22
  exact cut256 _ _ j hj (word_toInt j hj) rfl rfl rfl rfl a b u d

end Cut

/-- The state of the loop before chunk `j` holds real numbers: the four arrays of chunks, and the attention's state. -/
structure Real (D : Fin 4 → Fin 4 → Data) (j : ℕ) (s : State Ideal) : Prop where
  q : ∀ (c : Fin 64) a b u d, (s.main_v36_0 : FVec Ideal S64x4x4x64x256 .f32) (ix5 c a b u d) = (((D a b).q c.val u d * (1 / 16) : ℝ) : EReal)
  k : ∀ (c : Fin 64) a b u d, (s.main_v36_1 : FVec Ideal S64x4x4x64x256 .f32) (ix5 c a b u d) = (((D a b).k c.val u d : ℝ) : EReal)
  v : ∀ (c : Fin 64) a b u d, (s.main_v36_2 : FVec Ideal S64x4x4x64x512 .f32) (ix5 c a b u d) = (((D a b).v c.val u d : ℝ) : EReal)
  l : ∀ (c : Fin 64) a b u d, (s.main_v36_3 : FVec Ideal S64x4x4x64x256 .f32) (ix5 c a b u d) = (((D a b).l c.val u d : ℝ) : EReal)
  st : ∀ a b d e, (s.main_v36_6 : FVec Ideal S4x4x256x512 .f32) (ix4 a b d e) = ((S (D a b) j d e : ℝ) : EReal)
  out : ∀ (c : Fin 64) a b u e, c.val < j → (s.main_v36_7 : FVec Ideal S64x4x4x64x512 .f32) (ix5 c a b u e) = ((O (D a b) c.val u e : ℝ) : EReal)

section Trip

variable (D : Fin 4 → Fin 4 → Data) (j : ℕ) (hj : j < 64) (s : State Ideal) (h : Real D j s) (a b : Fin 4) (u : Fin 64)

include hj h

theorem b26_apply (d : Fin 256) : (b26 j s : FVec Ideal S4x4x64x256 .f32) (ix4 a b u d) = ((cum (D a b) j u d : ℝ) : EReal) := by
  unfold b26
  have hz : ∀ i, (b25 j s : FVec Ideal S_ .f32) i = 0 := by
    intro i
    pointwise [b25, b24]
  refine (cumsum_apply _ _ hz a b u d).trans ?_
  unfold cum
  rw [← coe_sum]
  refine Finset.sum_congr rfl fun w _ => ?_
  by_cases hw : w ≤ u
  · rw [if_pos hw, if_pos hw, b23_apply j hj, h.l]
  · rw [if_neg hw, if_neg hw, EReal.coe_zero]

theorem b29_apply (d : Fin 256) : (b29 j s : FVec Ideal S4x4x64x256 .f32) (ix4 a b u d) = ((qd (D a b) j u d : ℝ) : EReal) := by
  have e := b26_apply D j hj s h a b u d
  have e' := b5_apply j hj s a b u d
  rw [h.q] at e'
  unfold qd
  pointwise [b29, b28]
  rw [e, e', Ideal.exp_coe, ← EReal.coe_mul]

theorem b32_apply (d : Fin 256) : (b32 j s : FVec Ideal S4x4x64x256 .f32) (ix4 a b u d) = ((ki (D a b) j u d : ℝ) : EReal) := by
  have e := b26_apply D j hj s h a b u d
  have e' := b11_apply j hj s a b u d
  rw [h.k] at e'
  unfold ki
  pointwise [b32, b31, b30]
  rw [e, e', ← EReal.coe_neg, Ideal.exp_coe, ← EReal.coe_mul]

theorem b27_apply (d : Fin 256) : (b27 j s : FVec Ideal S4x4x1x256 .f32) (ix4 a b 0 d) = ((tot (D a b) j d : ℝ) : EReal) := by
  have e := b26_apply D j hj s h a b 63 d
  unfold tot
  pointwise [b27]
  exact e

theorem b45_apply (d : Fin 256) : (b45 j s : FVec Ideal S4x4x64x256 .f32) (ix4 a b u d) = ((kd (D a b) j u d : ℝ) : EReal) := by
  have e := b26_apply D j hj s h a b u d
  have e0 := b27_apply D j hj s h a b d
  have e' := b11_apply j hj s a b u d
  rw [h.k] at e'
  unfold kd
  pointwise [b45, b44, b43, b42]
  rw [e, e', e0, ← EReal.coe_sub, Ideal.exp_coe, ← EReal.coe_mul]

theorem b38_apply (w : Fin 64) : (b38 j s : FVec Ideal S4x4x64x64 .f32) (ix4 a b u w) = ((diag (D a b) j u w : ℝ) : EReal) := by
  have e := coe_dot _ _ _ _ (b29_apply D j hj s h a b u) (b32_apply D j hj s h a b w)
  unfold diag
  pointwise [b38, b36, b33, b37, b35, b34, K_main_v33, K_main_v32, K_main_c, K_main_call1_v0, K_main_call1_v1, K_main_call1_v2, K_main_call1_v3, K_main_call1_v4, K_main_call1_v5, K_main_call1_c, K_main_call1_c_0]
  have hu := u.isLt
  have hw := w.isLt
  rw [e, show IntOp.addi (BitVec.ofNat 32 u.val) 0#32 = BitVec.ofNat 32 u.val from BitVec.add_zero _,
    Cert.KernelIdeal.Gla.sge_word (by omega) (by omega)]
  by_cases hc : w ≤ u
  · rw [if_pos (Fin.le_def.1 hc), if_pos hc]
    rfl
  · rw [if_neg (fun q => hc (Fin.le_def.2 q)), if_neg hc]
    rfl

theorem b41_apply (e : Fin 512) : (b41 j s : FVec Ideal S4x4x64x512 .f32) (ix4 a b u e) = ((O (D a b) j u e : ℝ) : EReal) := by
  have hv : ∀ w, (b17 j s : FVec Ideal S4x4x64x512 .f32) (ix4 a b w e) = (((D a b).v j w e : ℝ) : EReal) := fun w => by
    rw [b17_apply j hj, h.v]
  have e1 := coe_dot _ _ _ _ (b38_apply D j hj s h a b u) hv
  have e2 := coe_dot _ _ _ _ (b29_apply D j hj s h a b u) (fun d => h.st a b d e)
  unfold O
  pointwise [b41, b39, b40]
  rw [e1, e2, ← EReal.coe_add]

theorem b52_apply (d : Fin 256) (e : Fin 512) : (b52 j s : FVec Ideal S4x4x256x512 .f32) (ix4 a b d e) = ((S (D a b) (j + 1) d e : ℝ) : EReal) := by
  have hv : ∀ w, (b17 j s : FVec Ideal S4x4x64x512 .f32) (ix4 a b w e) = (((D a b).v j w e : ℝ) : EReal) := fun w => by
    rw [b17_apply j hj, h.v]
  have e1 := coe_dot _ _ _ _ (fun w => b45_apply D j hj s h a b w d) hv
  have e2 := b27_apply D j hj s h a b d
  have e3 := h.st a b d e
  show _ = ((S (D a b) j d e * Real.exp (tot (D a b) j d) + ∑ w : Fin 64, kd (D a b) j w d * (D a b).v j w e : ℝ) : EReal)
  pointwise [b52, b50, b51, b49, b48, b47, b46]
  rw [e1, e2, e3, Ideal.exp_coe, ← EReal.coe_mul, ← EReal.coe_add]

theorem b58_apply (c : Fin 64) (e : Fin 512) : (b58 j s : FVec Ideal S64x4x4x64x512 .f32) (ix5 c a b u e)
    = if c.val = j then (b41 j s : FVec Ideal S4x4x64x512 .f32) (ix4 a b u e)
      else (s.main_v36_7 : FVec Ideal S64x4x4x64x512 .f32) (ix5 c a b u e) := by
  unfold b58
  refine (put512 _ _ _ j hj (word_toInt j hj) rfl rfl rfl rfl c a b u e).trans ?_
  have hb : (b53 j s : FVec Ideal S1x4x4x64x512 .f32) (ix5 0 a b u e) = (b41 j s : FVec Ideal S4x4x64x512 .f32) (ix4 a b u e) := by
    unfold b53
    generalize (b41 j s : FVec Ideal S4x4x64x512 .f32) = y
    pointwise
  rw [hb]

/-- A trip takes the state before chunk `j` to the state before chunk `j + 1`. -/
theorem step_real : Real D (j + 1) (step j s) where
  q := h.q
  k := h.k
  v := h.v
  l := h.l
  st a b d e := b52_apply D j hj s h a b d e
  out c a b u e hc := by
    refine (b58_apply D j hj s h a b u c e).trans ?_
    by_cases q : c.val = j
    · rw [if_pos q, b41_apply D j hj s h, q]
    · rw [if_neg q]
      exact h.out c a b u e (by omega)

end Trip

/-- After all 64 chunks. -/
theorem trips_real (D : Fin 4 → Fin 4 → Data) (it : ℕ → State Ideal) (h0 : Real D 0 (it 0)) (hs : ∀ n, it (n + 1) = step n (it n)) :
    ∀ n, n ≤ 64 → Real D n (it n) := by
  intro n
  induction n with
  | zero => exact fun _ => h0
  | succ n ih => exact fun hn => by rw [hs]; exact step_real D n (by omega) _ (ih (by omega))

end Cert.ReferenceIdeal.GlaStep
-- ==== Proof.GlaData.lean ====
/- The queries, keys, values and decays of one head of one sequence, of the arguments, as real numbers; and the reference's
   loop at its start and at its end in terms of them. -/
module

public import proofs.«01_k».proof.Proof.GlaReal
public import proofs.«01_k».proof.Proof.GlaPoint
public import proofs.«01_k».proof.Proof.Gen.ReferenceIdeal.Step
public import Idealize.ShloMosaic.Lib.Pointwise
public import proofs.«01_k».proof.Proof.GlaRefStep
public import proofs.«01_k».proof.Proof.RealFns

@[expose] public section

set_option maxRecDepth 16384

noncomputable section

open Idealize.ShloMosaic

namespace Cert.ReferenceIdeal.GlaStep

open Cert.ReferenceIdeal Cert.ReferenceIdeal.Gen Cert.ReferenceIdeal.Step Cert.GlaReal
open Cert.KernelIdeal.Gla (coe_sum coe_dot)

/-- Row `u` of chunk `c` of sequence `a`. -/
def row (a : Fin 4) (c : ℕ) (u : Fin 64) : Fin 16384 := ⟨(4096 * a.val + 64 * c + u.val) % 16384, Nat.mod_lt _ (by decide)⟩

theorem ix2_ext {n0 n1 : ℕ} {a a' : Fin n0} {b b' : Fin n1} (h0 : a.val = a'.val) (h1 : b.val = b'.val) :
    (ix2 a b : (⟨2, ![n0, n1]⟩ : Shape).Idx) = ix2 a' b' := by
  rw [Fin.ext h0, Fin.ext h1]

/-- The logarithm of a decay through the softplus, at a real number. -/
theorem softplus_eq (x : ℝ) :
    Ideal.div (-(max (-(x : EReal)) 0 + Ideal.log1p (Ideal.exp (-FloatOps.absf (F := Ideal) (φ := .f32) (-(x : EReal))))))
        (Ideal.ofBits .f32 0x41800000#32) = ((decay x : ℝ) : EReal) := by
  have hmax : max (-(x : EReal)) 0 = ((max (-x) 0 : ℝ) : EReal) := by
    rw [← EReal.coe_zero, ← EReal.coe_neg]; exact (Monotone.map_max (fun a b h => EReal.coe_le_coe_iff.2 h)).symm
  have habs : FloatOps.absf (F := Ideal) (φ := .f32) (-(x : EReal)) = ((|x| : ℝ) : EReal) := by
    show max (-(x : EReal)) (-(-(x : EReal))) = _
    rw [← EReal.coe_neg, ← EReal.coe_neg, neg_neg, abs_eq_max_neg, max_comm]
    exact (Monotone.map_max (fun a b h => EReal.coe_le_coe_iff.2 h)).symm
  have hpos : ¬ (1 + Real.exp (-|x|) ≤ 0) := not_le.2 (by positivity)
  have hlog : Ideal.log1p (Ideal.exp (-((|x| : ℝ) : EReal))) = ((Real.log (1 + Real.exp (-|x|)) : ℝ) : EReal) := by
    show Ideal.log (1 + Ideal.exp (-((|x| : ℝ) : EReal))) = _
    rw [← EReal.coe_neg, Ideal.exp_coe, ← EReal.coe_one, ← EReal.coe_add, Ideal.log_coe, if_neg hpos]
  rw [hmax, habs, hlog, RealFns.ofBits_sixteen, ← EReal.coe_add, ← EReal.coe_neg, RealFns.div_real _ (by norm_num), decay]
  congr 2
  have : max (-x) 0 = -(min x 0) := by rw [← neg_zero, max_neg_neg, neg_zero]
  rw [this]
  ring

section Args

variable (p : FVec Ideal S16384x10240 .bf16) (g : FVec Ideal S16384x128 .f32) (w : FVec Ideal S1x16x1024 .f32) (bg : FVec Ideal S1x1024 .f32)

/-- The gate's value at a row and a column. -/
def gate (r : Fin 16384) (n : Fin 1024) : ℝ :=
  (∑ k : Fin 16, EReal.toReal (g (ix2 r ⟨k.val, by omega⟩)) * EReal.toReal (w (ix3 0 k n))) + EReal.toReal (bg (ix2 0 n))

/-- Head `b` of sequence `a`. -/
def data (a b : Fin 4) : Data where
  q c u d := EReal.toReal (p (ix2 (row a c u) ⟨256 * b.val + d.val, by omega⟩))
  k c u d := EReal.toReal (p (ix2 (row a c u) ⟨1024 + (256 * b.val + d.val), by omega⟩))
  v c u e := EReal.toReal (p (ix2 (row a c u) ⟨2048 + (512 * b.val + e.val), by omega⟩))
  l c u d := decay (gate g w bg (row a c u) ⟨256 * b.val + d.val, by omega⟩)

variable (hp : ∀ i, ∃ r : ℝ, p i = (r : EReal)) (hg : ∀ i, ∃ r : ℝ, g i = (r : EReal)) (hw : ∀ i, ∃ r : ℝ, w i = (r : EReal))
  (hb : ∀ i, ∃ r : ℝ, bg i = (r : EReal))

theorem toReal_of {x : EReal} (h : ∃ r : ℝ, x = (r : EReal)) : x = ((EReal.toReal x : ℝ) : EReal) := by
  obtain ⟨r, rfl⟩ := h
  rw [EReal.toReal_coe]

theorem q_at (c : Fin 64) (a b : Fin 4) (u : Fin 64) (d : Fin 256) :
    (A_main_v25 (F := Ideal) p g w bg : FVec Ideal S64x4x4x64x256 .f32) (ix5 c a b u d)
      = p (ix2 (row a c.val u) ⟨256 * b.val + d.val, by omega⟩) * Ideal.ofBits .f32 0x3D800000#32 := by
  pointwise [A_main_v25, A_main_v24, A_main_v8, A_main_v6, A_main_v1, A_main_v0, K_main_v7, K_main_cst]
  refine congrArg (p · * _) (ix2_ext ?_ ?_)
  · simp only [row]; omega
  · dsimp only; omega

theorem k_at (c : Fin 64) (a b : Fin 4) (u : Fin 64) (d : Fin 256) :
    (A_main_v27 (F := Ideal) p g w bg : FVec Ideal S64x4x4x64x256 .f32) (ix5 c a b u d)
      = p (ix2 (row a c.val u) ⟨1024 + (256 * b.val + d.val), by omega⟩) := by
  pointwise [A_main_v27, A_main_v26, A_main_v9, A_main_v3, A_main_v2]
  refine congrArg p (ix2_ext ?_ ?_)
  · simp only [row]; omega
  · dsimp only; omega

theorem v_at (c : Fin 64) (a b : Fin 4) (u : Fin 64) (d : Fin 512) :
    (A_main_v29 (F := Ideal) p g w bg : FVec Ideal S64x4x4x64x512 .f32) (ix5 c a b u d)
      = p (ix2 (row a c.val u) ⟨2048 + (512 * b.val + d.val), by omega⟩) := by
  pointwise [A_main_v29, A_main_v28, A_main_v10, A_main_v5, A_main_v4]
  refine congrArg p (ix2_ext ?_ ?_)
  · simp only [row]; omega
  · dsimp only; omega

theorem l_at (c : Fin 64) (a b : Fin 4) (u : Fin 64) (d : Fin 256) :
    (A_main_v31 (F := Ideal) p g w bg : FVec Ideal S64x4x4x64x256 .f32) (ix5 c a b u d)
      = (A_main_v22 (F := Ideal) p g w bg : FVec Ideal S16384x1024 .f32) (ix2 (row a c.val u) ⟨256 * b.val + d.val, by omega⟩) := by
  unfold A_main_v31 A_main_v30 A_main_v23
  generalize (A_main_v22 (F := Ideal) p g w bg : FVec Ideal S16384x1024 .f32) = x
  pointwise
  refine congrArg x (ix2_ext ?_ ?_)
  · simp only [row]; omega
  · dsimp only; omega

include hg hw hb in
theorem v22_apply (r : Fin 16384) (n : Fin 1024) :
    (A_main_v22 (F := Ideal) p g w bg : FVec Ideal S16384x1024 .f32) (ix2 r n) = ((decay (gate g w bg r n) : ℝ) : EReal) := by
  have e1 : (∑ k : Fin 16, g (ix2 r ⟨k.val, by omega⟩) * w (ix3 0 k n))
      = ((∑ k : Fin 16, EReal.toReal (g (ix2 r ⟨k.val, by omega⟩)) * EReal.toReal (w (ix3 0 k n)) : ℝ) : EReal) :=
    coe_dot _ _ _ _ (fun k => toReal_of (hg _)) (fun k => toReal_of (hw _))
  have e2 := toReal_of (hb (ix2 0 n))
  unfold gate
  pointwise [A_main_v22, A_main_v20, A_main_v19, A_main_v18, A_main_v17, A_main_v16, A_main_v15, A_main_v14, A_main_v13, A_main_v12, A_main_v11, A_main_call0_v1, A_main_call0_v3, A_main_call0_v4, A_main_call0_v6, A_main_call0_v7, A_main_call0_v8, A_main_call0_v9, A_main_call0_v10, A_main_call0_v11, K_main_v21, K_main_cst_0, K_main_call0_v0, K_main_call0_v2, K_main_call0_v5, K_main_call0_cst]
  rw [if_neg (fun h => h rfl), e1, e2, ← EReal.coe_add]
  exact softplus_eq _

include hp hg hw hb in
/-- The loop's state before the first chunk. -/
theorem init_real : Real (data p g w bg) 0 (init (F := Ideal) p g w bg) where
  q c a b u d := by
    refine (q_at p g w bg c a b u d).trans ?_
    rw [toReal_of (hp _), RealFns.ofBits_sixteenth, ← EReal.coe_mul]
    rfl
  k c a b u d := (k_at p g w bg c a b u d).trans (toReal_of (hp _))
  v c a b u d := (v_at p g w bg c a b u d).trans (toReal_of (hp _))
  l c a b u d := (l_at p g w bg c a b u d).trans (v22_apply p g w bg hg hw hb _ _)
  st a b d e := by
    show (K_main_v34 (F := Ideal) : FVec Ideal S4x4x256x512 .f32) (ix4 a b d e) = ((0 : ℝ) : EReal)
    rw [EReal.coe_zero]
    pointwise [K_main_v34, K_main_cst_1]
  out c a b u e hc := absurd hc (Nat.not_lt_zero _)

end Args

end Cert.ReferenceIdeal.GlaStep
-- ==== Proof.GlaRefEnd.lean ====
/- What the reference makes of the loop's outputs, read at one element: each row of each head over the root of its mean
   square, times the norm's scale and the gate. -/
module

public import proofs.«01_k».proof.Proof.GlaReal
public import proofs.«01_k».proof.Proof.GlaPoint
public import proofs.«01_k».proof.Proof.Gen.ReferenceIdeal.Step
public import Idealize.ShloMosaic.Lib.Pointwise
public import proofs.«01_k».proof.Proof.GlaRefStep
public import proofs.«01_k».proof.Proof.GlaData
public import proofs.«01_k».proof.Proof.GlaBlock

@[expose] public section

set_option maxRecDepth 16384

noncomputable section

open Idealize.ShloMosaic

namespace Cert.ReferenceIdeal.GlaStep

open Cert.ReferenceIdeal Cert.ReferenceIdeal.Gen Cert.ReferenceIdeal.Step Cert.GlaReal
open Cert.KernelIdeal.Gla (rowNorm)

/-- The reference's result at row `u` of chunk `c` of sequence `a`, column `e` of head `b`. -/
theorem end_apply (s : State Ideal) (p : FVec Ideal S16384x10240 .bf16) (ng : FVec Ideal S1x512 .f32)
    (c : Fin 64) (a b : Fin 4) (u : Fin 64) (e : Fin 512) (i : Fin 16384) (j : Fin 2048) (hi : i.val = 4096 * a.val + 64 * c.val + u.val)
    (hj : j.val = 512 * b.val + e.val) :
    (R_main_v58 (F := Ideal) s p ng : FVec Ideal S16384x2048 .bf16) (ix2 i j)
      = rowNorm (fun k => (s.main_v36_7 : FVec Ideal S64x4x4x64x512 .f32) (ix5 c a b u k)) (ng (ix2 0 e))
          (p (ix2 i ⟨4096 + j.val, by omega⟩)) e := by
  obtain ⟨x, hx⟩ : ∃ x, x = (s.main_v36_7 : FVec Ideal S64x4x4x64x512 .f32) := ⟨_, rfl⟩
  unfold R_main_v58
  rw [← hx]
  clear hx
  unfold rowNorm
  pointwise
  have e0 : (⟨i.val % 4096 / 64, by omega⟩ : Fin 64) = c := Fin.ext (by show i.val % 4096 / 64 = c.val; omega)
  have e1 : (⟨i.val / 4096, by omega⟩ : Fin 4) = a := Fin.ext (by show i.val / 4096 = a.val; omega)
  have e2 : (⟨j.val / 512, by omega⟩ : Fin 4) = b := Fin.ext (by show j.val / 512 = b.val; omega)
  have e3 : (⟨i.val % 4096 % 64, by omega⟩ : Fin 64) = u := Fin.ext (by show i.val % 4096 % 64 = u.val; omega)
  have e4 : (⟨j.val % 512, by omega⟩ : Fin 512) = e := Fin.ext (by show j.val % 512 = e.val; omega)
  simp only [e0, e1, e2, e3, e4]

end Cert.ReferenceIdeal.GlaStep
-- ==== Proof.GlaRefRun.lean ====
/-
  The reference's loop over the 64 chunks, as one state handed from chunk to chunk.

  The generated module `Step` names every value of one trip of the loop as a function of the trip's number and of the
  state it is handed. Here those values are shown to be what the loop's body leaves (`al_k` one after another, in the
  body's order, then `step_6` and `step_7` for the two fields a trip changes), so that every result of the reference is
  a function of state 64 of any sequence that starts at the initial state and goes on by `step` (`run_iter`).
-/
module

public import proofs.«01_k».proof.Proof.Gen.ReferenceIdeal.Run
public import proofs.«01_k».proof.Proof.Gen.ReferenceIdeal.Step

@[expose] public section

noncomputable section

namespace Cert.ReferenceIdeal.Trips

open Idealize.ShloMosaic Idealize.ShloMosaic.TcCoe Idealize.SL.Sem Idealize.ShloMosaic.StableHlo
open Cert.ReferenceIdeal Cert.ReferenceIdeal.Gen Cert.ReferenceIdeal.Value
open Cert.ReferenceIdeal.Step (State step init)

variable {F : FTy → Type} [FloatOps F]

variable (V0 : Valuation τ sig (Elt F)) (s : State F) (j : ℕ)

/-- The valuation holds the state, the set-up values and the trip's number. -/
structure Holds : Prop where
  f_6 : V0 (Proc.devRef .tc main_v36_6) = s.main_v36_6
  f_7 : V0 (Proc.devRef .tc main_v36_7) = s.main_v36_7
  f_0 : V0 (Proc.devRef .tc main_v36_0) = s.main_v36_0
  f_1 : V0 (Proc.devRef .tc main_v36_1) = s.main_v36_1
  f_2 : V0 (Proc.devRef .tc main_v36_2) = s.main_v36_2
  f_3 : V0 (Proc.devRef .tc main_v36_3) = s.main_v36_3
  n_5 : V0 (Proc.devRef .tc main_v36_5) = constantI S_ 32 (BitVec.ofNat 32 j)
  k_4 : V0 (Proc.devRef .tc main_v36_4) = Cert.ReferenceIdeal.Step.K_main_v33 (F := F)

variable {V0 s j}

set_option maxRecDepth 8192 in
theorem al_0 (h : Holds V0 s j) : (constantI S_ 32 0#32 : (Proc.devRef .tc main_while0b_call2_c : DevRef τ sig).ty.Contents (Elt F)) = Cert.ReferenceIdeal.Step.b0 j s := by
  unfold Cert.ReferenceIdeal.Step.b0
  rfl
set_option maxRecDepth 8192 in
theorem al_1 (h : Holds V0 s j) : (constantI S_ 32 0#32 : (Proc.devRef .tc main_while0b_call2_c_0 : DevRef τ sig).ty.Contents (Elt F)) = Cert.ReferenceIdeal.Step.b1 j s := by
  unfold Cert.ReferenceIdeal.Step.b1
  rfl
set_option maxRecDepth 8192 in
theorem al_2 (h : Holds V0 s j) : (constantI S_ 32 0#32 : (Proc.devRef .tc main_while0b_call2_c_1 : DevRef τ sig).ty.Contents (Elt F)) = Cert.ReferenceIdeal.Step.b2 j s := by
  unfold Cert.ReferenceIdeal.Step.b2
  rfl
set_option maxRecDepth 8192 in
theorem al_3 (h : Holds V0 s j) : (constantI S_ 32 0#32 : (Proc.devRef .tc main_while0b_call2_c_2 : DevRef τ sig).ty.Contents (Elt F)) = Cert.ReferenceIdeal.Step.b3 j s := by
  unfold Cert.ReferenceIdeal.Step.b3
  rfl
set_option maxRecDepth 8192 in
theorem al_4 (h : Holds V0 s j) : (Host.dynamicSlice S1x4x4x64x256 (V0 (Proc.devRef .tc main_v36_0)) (fun k => (((![V0 (Proc.devRef .tc main_v36_5), constantI S_ 32 0#32, constantI S_ 32 0#32, constantI S_ 32 0#32, constantI S_ 32 0#32] : Fin 5 → (⟨S_, .i32⟩ : BufTy).Contents (Elt F))) k (Shape.Idx.first h_S_)).toInt) sliceFits_S64x4x4x64x256_S1x4x4x64x256 : (Proc.devRef .tc main_while0b_call2_v0 : DevRef τ sig).ty.Contents (Elt F)) = Cert.ReferenceIdeal.Step.b4 j s := by
  unfold Cert.ReferenceIdeal.Step.b4
  rw [← al_0 h, ← al_1 h, ← al_2 h, ← al_3 h, h.f_0, h.n_5]
  try rfl
set_option maxRecDepth 8192 in
theorem al_5 (h : Holds V0 s j) : (shapeCast S4x4x64x256 (Host.dynamicSlice S1x4x4x64x256 (V0 (Proc.devRef .tc main_v36_0)) (fun k => (((![V0 (Proc.devRef .tc main_v36_5), constantI S_ 32 0#32, constantI S_ 32 0#32, constantI S_ 32 0#32, constantI S_ 32 0#32] : Fin 5 → (⟨S_, .i32⟩ : BufTy).Contents (Elt F))) k (Shape.Idx.first h_S_)).toInt) sliceFits_S64x4x4x64x256_S1x4x4x64x256) shapeCasts_S1x4x4x64x256_S4x4x64x256 : (Proc.devRef .tc main_while0b_v59 : DevRef τ sig).ty.Contents (Elt F)) = Cert.ReferenceIdeal.Step.b5 j s := by
  unfold Cert.ReferenceIdeal.Step.b5
  rw [← al_4 h]
  try rfl
set_option maxRecDepth 8192 in
theorem al_6 (h : Holds V0 s j) : (constantI S_ 32 0#32 : (Proc.devRef .tc main_while0b_call3_c : DevRef τ sig).ty.Contents (Elt F)) = Cert.ReferenceIdeal.Step.b6 j s := by
  unfold Cert.ReferenceIdeal.Step.b6
  rfl
set_option maxRecDepth 8192 in
theorem al_7 (h : Holds V0 s j) : (constantI S_ 32 0#32 : (Proc.devRef .tc main_while0b_call3_c_0 : DevRef τ sig).ty.Contents (Elt F)) = Cert.ReferenceIdeal.Step.b7 j s := by
  unfold Cert.ReferenceIdeal.Step.b7
  rfl
set_option maxRecDepth 8192 in
theorem al_8 (h : Holds V0 s j) : (constantI S_ 32 0#32 : (Proc.devRef .tc main_while0b_call3_c_1 : DevRef τ sig).ty.Contents (Elt F)) = Cert.ReferenceIdeal.Step.b8 j s := by
  unfold Cert.ReferenceIdeal.Step.b8
  rfl
set_option maxRecDepth 8192 in
theorem al_9 (h : Holds V0 s j) : (constantI S_ 32 0#32 : (Proc.devRef .tc main_while0b_call3_c_2 : DevRef τ sig).ty.Contents (Elt F)) = Cert.ReferenceIdeal.Step.b9 j s := by
  unfold Cert.ReferenceIdeal.Step.b9
  rfl
set_option maxRecDepth 8192 in
theorem al_10 (h : Holds V0 s j) : (Host.dynamicSlice S1x4x4x64x256 (V0 (Proc.devRef .tc main_v36_1)) (fun k => (((![V0 (Proc.devRef .tc main_v36_5), constantI S_ 32 0#32, constantI S_ 32 0#32, constantI S_ 32 0#32, constantI S_ 32 0#32] : Fin 5 → (⟨S_, .i32⟩ : BufTy).Contents (Elt F))) k (Shape.Idx.first h_S_)).toInt) sliceFits_S64x4x4x64x256_S1x4x4x64x256 : (Proc.devRef .tc main_while0b_call3_v0 : DevRef τ sig).ty.Contents (Elt F)) = Cert.ReferenceIdeal.Step.b10 j s := by
  unfold Cert.ReferenceIdeal.Step.b10
  rw [← al_6 h, ← al_7 h, ← al_8 h, ← al_9 h, h.f_1, h.n_5]
  try rfl
set_option maxRecDepth 8192 in
theorem al_11 (h : Holds V0 s j) : (res_main_while0b_v60 V0 : (Proc.devRef .tc main_while0b_v60 : DevRef τ sig).ty.Contents (Elt F)) = Cert.ReferenceIdeal.Step.b11 j s := by
  unfold res_main_while0b_v60 Cert.ReferenceIdeal.Step.b11
  rw [← al_10 h]
  try rfl
set_option maxRecDepth 8192 in
theorem al_12 (h : Holds V0 s j) : (constantI S_ 32 0#32 : (Proc.devRef .tc main_while0b_call4_c : DevRef τ sig).ty.Contents (Elt F)) = Cert.ReferenceIdeal.Step.b12 j s := by
  unfold Cert.ReferenceIdeal.Step.b12
  rfl
set_option maxRecDepth 8192 in
theorem al_13 (h : Holds V0 s j) : (constantI S_ 32 0#32 : (Proc.devRef .tc main_while0b_call4_c_0 : DevRef τ sig).ty.Contents (Elt F)) = Cert.ReferenceIdeal.Step.b13 j s := by
  unfold Cert.ReferenceIdeal.Step.b13
  rfl
set_option maxRecDepth 8192 in
theorem al_14 (h : Holds V0 s j) : (constantI S_ 32 0#32 : (Proc.devRef .tc main_while0b_call4_c_1 : DevRef τ sig).ty.Contents (Elt F)) = Cert.ReferenceIdeal.Step.b14 j s := by
  unfold Cert.ReferenceIdeal.Step.b14
  rfl
set_option maxRecDepth 8192 in
theorem al_15 (h : Holds V0 s j) : (constantI S_ 32 0#32 : (Proc.devRef .tc main_while0b_call4_c_2 : DevRef τ sig).ty.Contents (Elt F)) = Cert.ReferenceIdeal.Step.b15 j s := by
  unfold Cert.ReferenceIdeal.Step.b15
  rfl
set_option maxRecDepth 8192 in
theorem al_16 (h : Holds V0 s j) : (Host.dynamicSlice S1x4x4x64x512 (V0 (Proc.devRef .tc main_v36_2)) (fun k => (((![V0 (Proc.devRef .tc main_v36_5), constantI S_ 32 0#32, constantI S_ 32 0#32, constantI S_ 32 0#32, constantI S_ 32 0#32] : Fin 5 → (⟨S_, .i32⟩ : BufTy).Contents (Elt F))) k (Shape.Idx.first h_S_)).toInt) sliceFits_S64x4x4x64x512_S1x4x4x64x512 : (Proc.devRef .tc main_while0b_call4_v0 : DevRef τ sig).ty.Contents (Elt F)) = Cert.ReferenceIdeal.Step.b16 j s := by
  unfold Cert.ReferenceIdeal.Step.b16
  rw [← al_12 h, ← al_13 h, ← al_14 h, ← al_15 h, h.f_2, h.n_5]
  try rfl
set_option maxRecDepth 8192 in
theorem al_17 (h : Holds V0 s j) : (res_main_while0b_v61 V0 : (Proc.devRef .tc main_while0b_v61 : DevRef τ sig).ty.Contents (Elt F)) = Cert.ReferenceIdeal.Step.b17 j s := by
  unfold res_main_while0b_v61 Cert.ReferenceIdeal.Step.b17
  rw [← al_16 h]
  try rfl
set_option maxRecDepth 8192 in
theorem al_18 (h : Holds V0 s j) : (constantI S_ 32 0#32 : (Proc.devRef .tc main_while0b_call5_c : DevRef τ sig).ty.Contents (Elt F)) = Cert.ReferenceIdeal.Step.b18 j s := by
  unfold Cert.ReferenceIdeal.Step.b18
  rfl
set_option maxRecDepth 8192 in
theorem al_19 (h : Holds V0 s j) : (constantI S_ 32 0#32 : (Proc.devRef .tc main_while0b_call5_c_0 : DevRef τ sig).ty.Contents (Elt F)) = Cert.ReferenceIdeal.Step.b19 j s := by
  unfold Cert.ReferenceIdeal.Step.b19
  rfl
set_option maxRecDepth 8192 in
theorem al_20 (h : Holds V0 s j) : (constantI S_ 32 0#32 : (Proc.devRef .tc main_while0b_call5_c_1 : DevRef τ sig).ty.Contents (Elt F)) = Cert.ReferenceIdeal.Step.b20 j s := by
  unfold Cert.ReferenceIdeal.Step.b20
  rfl
set_option maxRecDepth 8192 in
theorem al_21 (h : Holds V0 s j) : (constantI S_ 32 0#32 : (Proc.devRef .tc main_while0b_call5_c_2 : DevRef τ sig).ty.Contents (Elt F)) = Cert.ReferenceIdeal.Step.b21 j s := by
  unfold Cert.ReferenceIdeal.Step.b21
  rfl
set_option maxRecDepth 8192 in
theorem al_22 (h : Holds V0 s j) : (Host.dynamicSlice S1x4x4x64x256 (V0 (Proc.devRef .tc main_v36_3)) (fun k => (((![V0 (Proc.devRef .tc main_v36_5), constantI S_ 32 0#32, constantI S_ 32 0#32, constantI S_ 32 0#32, constantI S_ 32 0#32] : Fin 5 → (⟨S_, .i32⟩ : BufTy).Contents (Elt F))) k (Shape.Idx.first h_S_)).toInt) sliceFits_S64x4x4x64x256_S1x4x4x64x256 : (Proc.devRef .tc main_while0b_call5_v0 : DevRef τ sig).ty.Contents (Elt F)) = Cert.ReferenceIdeal.Step.b22 j s := by
  unfold Cert.ReferenceIdeal.Step.b22
  rw [← al_18 h, ← al_19 h, ← al_20 h, ← al_21 h, h.f_3, h.n_5]
  try rfl
set_option maxRecDepth 8192 in
theorem al_23 (h : Holds V0 s j) : (shapeCast S4x4x64x256 (Host.dynamicSlice S1x4x4x64x256 (V0 (Proc.devRef .tc main_v36_3)) (fun k => (((![V0 (Proc.devRef .tc main_v36_5), constantI S_ 32 0#32, constantI S_ 32 0#32, constantI S_ 32 0#32, constantI S_ 32 0#32] : Fin 5 → (⟨S_, .i32⟩ : BufTy).Contents (Elt F))) k (Shape.Idx.first h_S_)).toInt) sliceFits_S64x4x4x64x256_S1x4x4x64x256) shapeCasts_S1x4x4x64x256_S4x4x64x256 : (Proc.devRef .tc main_while0b_v62 : DevRef τ sig).ty.Contents (Elt F)) = Cert.ReferenceIdeal.Step.b23 j s := by
  unfold Cert.ReferenceIdeal.Step.b23
  rw [← al_22 h]
  try rfl
set_option maxRecDepth 8192 in
theorem al_24 (h : Holds V0 s j) : (constant S_ .f32 0x00000000#32 : (Proc.devRef .tc main_while0b_call6_call0_cst : DevRef τ sig).ty.Contents (Elt F)) = Cert.ReferenceIdeal.Step.b24 j s := by
  unfold Cert.ReferenceIdeal.Step.b24
  rfl
set_option maxRecDepth 8192 in
theorem al_25 (h : Holds V0 s j) : (broadcastInDim S_ ![] bcast_S_S_ (constant S_ .f32 0x00000000#32) : (Proc.devRef .tc main_while0b_call6_call0_v0 : DevRef τ sig).ty.Contents (Elt F)) = Cert.ReferenceIdeal.Step.b25 j s := by
  unfold Cert.ReferenceIdeal.Step.b25
  rw [← al_24 h]
  try rfl
set_option maxRecDepth 8192 in
theorem al_26 (h : Holds V0 s j) : (res_main_while0b_v63 V0 : (Proc.devRef .tc main_while0b_v63 : DevRef τ sig).ty.Contents (Elt F)) = Cert.ReferenceIdeal.Step.b26 j s := by
  unfold res_main_while0b_v63 Cert.ReferenceIdeal.Step.b26
  rw [← al_23 h, ← al_25 h]
  try rfl
set_option maxRecDepth 8192 in
theorem al_27 (h : Holds V0 s j) : (res_main_while0b_v64 V0 : (Proc.devRef .tc main_while0b_v64 : DevRef τ sig).ty.Contents (Elt F)) = Cert.ReferenceIdeal.Step.b27 j s := by
  unfold res_main_while0b_v64 Cert.ReferenceIdeal.Step.b27
  rw [← al_26 h]
  try rfl
set_option maxRecDepth 8192 in
theorem al_28 (h : Holds V0 s j) : (Host.exp (res_main_while0b_v63 V0) : (Proc.devRef .tc main_while0b_v65 : DevRef τ sig).ty.Contents (Elt F)) = Cert.ReferenceIdeal.Step.b28 j s := by
  unfold Cert.ReferenceIdeal.Step.b28
  rw [← al_26 h]
  try rfl
set_option maxRecDepth 8192 in
theorem al_29 (h : Holds V0 s j) : (res_main_while0b_v66 V0 : (Proc.devRef .tc main_while0b_v66 : DevRef τ sig).ty.Contents (Elt F)) = Cert.ReferenceIdeal.Step.b29 j s := by
  unfold res_main_while0b_v66 Cert.ReferenceIdeal.Step.b29
  rw [← al_5 h, ← al_28 h]
  try rfl
set_option maxRecDepth 8192 in
theorem al_30 (h : Holds V0 s j) : (Host.negf (res_main_while0b_v63 V0) : (Proc.devRef .tc main_while0b_v67 : DevRef τ sig).ty.Contents (Elt F)) = Cert.ReferenceIdeal.Step.b30 j s := by
  unfold Cert.ReferenceIdeal.Step.b30
  rw [← al_26 h]
  try rfl
set_option maxRecDepth 8192 in
theorem al_31 (h : Holds V0 s j) : (Host.exp (Host.negf (res_main_while0b_v63 V0)) : (Proc.devRef .tc main_while0b_v68 : DevRef τ sig).ty.Contents (Elt F)) = Cert.ReferenceIdeal.Step.b31 j s := by
  unfold Cert.ReferenceIdeal.Step.b31
  rw [← al_30 h]
  try rfl
set_option maxRecDepth 8192 in
theorem al_32 (h : Holds V0 s j) : (mulf (res_main_while0b_v60 V0) (Host.exp (Host.negf (res_main_while0b_v63 V0))) : (Proc.devRef .tc main_while0b_v69 : DevRef τ sig).ty.Contents (Elt F)) = Cert.ReferenceIdeal.Step.b32 j s := by
  unfold Cert.ReferenceIdeal.Step.b32
  rw [← al_11 h, ← al_31 h]
  try rfl
set_option maxRecDepth 8192 in
theorem al_33 (h : Holds V0 s j) : (Host.dotGeneral dot_S4x4x64x256_S4x4x64x256_S4x4x64x64_3_3_2_2_01_01 none (res_main_while0b_v66 V0) (mulf (res_main_while0b_v60 V0) (Host.exp (Host.negf (res_main_while0b_v63 V0)))) : (Proc.devRef .tc main_while0b_v70 : DevRef τ sig).ty.Contents (Elt F)) = Cert.ReferenceIdeal.Step.b33 j s := by
  unfold Cert.ReferenceIdeal.Step.b33
  rw [← al_29 h, ← al_32 h]
  try rfl
set_option maxRecDepth 8192 in
theorem al_34 (h : Holds V0 s j) : (constant S_ .f32 0x00000000#32 : (Proc.devRef .tc main_while0b_cst_14 : DevRef τ sig).ty.Contents (Elt F)) = Cert.ReferenceIdeal.Step.b34 j s := by
  unfold Cert.ReferenceIdeal.Step.b34
  rfl
set_option maxRecDepth 8192 in
theorem al_35 (h : Holds V0 s j) : (id (constant S_ .f32 0x00000000#32) : (Proc.devRef .tc main_while0b_call7_v0 : DevRef τ sig).ty.Contents (Elt F)) = Cert.ReferenceIdeal.Step.b35 j s := by
  unfold Cert.ReferenceIdeal.Step.b35
  rw [← al_34 h]
  try rfl
set_option maxRecDepth 8192 in
theorem al_36 (h : Holds V0 s j) : (broadcastInDim S4x4x64x64 ![2, 3] bcast_S64x64_S4x4x64x64_2_3 (V0 (Proc.devRef .tc main_v36_4)) : (Proc.devRef .tc main_while0b_call7_v1 : DevRef τ sig).ty.Contents (Elt F)) = Cert.ReferenceIdeal.Step.b36 j s := by
  unfold Cert.ReferenceIdeal.Step.b36
  rw [h.k_4]
  try rfl
set_option maxRecDepth 8192 in
theorem al_37 (h : Holds V0 s j) : (broadcastInDim S4x4x64x64 ![] bcast_S_S4x4x64x64 (id (constant S_ .f32 0x00000000#32)) : (Proc.devRef .tc main_while0b_call7_v2 : DevRef τ sig).ty.Contents (Elt F)) = Cert.ReferenceIdeal.Step.b37 j s := by
  unfold Cert.ReferenceIdeal.Step.b37
  rw [← al_35 h]
  try rfl
set_option maxRecDepth 8192 in
theorem al_38 (h : Holds V0 s j) : (select (broadcastInDim S4x4x64x64 ![2, 3] bcast_S64x64_S4x4x64x64_2_3 (V0 (Proc.devRef .tc main_v36_4))) (Host.dotGeneral dot_S4x4x64x256_S4x4x64x256_S4x4x64x64_3_3_2_2_01_01 none (res_main_while0b_v66 V0) (mulf (res_main_while0b_v60 V0) (Host.exp (Host.negf (res_main_while0b_v63 V0))))) (broadcastInDim S4x4x64x64 ![] bcast_S_S4x4x64x64 (id (constant S_ .f32 0x00000000#32))) : (Proc.devRef .tc main_while0b_v71 : DevRef τ sig).ty.Contents (Elt F)) = Cert.ReferenceIdeal.Step.b38 j s := by
  unfold Cert.ReferenceIdeal.Step.b38
  rw [← al_36 h, ← al_33 h, ← al_37 h]
  try rfl
set_option maxRecDepth 8192 in
theorem al_39 (h : Holds V0 s j) : (Host.dotGeneral dot_S4x4x64x64_S4x4x64x512_S4x4x64x512_3_2_2_3_01_01 none (select (broadcastInDim S4x4x64x64 ![2, 3] bcast_S64x64_S4x4x64x64_2_3 (V0 (Proc.devRef .tc main_v36_4))) (Host.dotGeneral dot_S4x4x64x256_S4x4x64x256_S4x4x64x64_3_3_2_2_01_01 none (res_main_while0b_v66 V0) (mulf (res_main_while0b_v60 V0) (Host.exp (Host.negf (res_main_while0b_v63 V0))))) (broadcastInDim S4x4x64x64 ![] bcast_S_S4x4x64x64 (id (constant S_ .f32 0x00000000#32)))) (res_main_while0b_v61 V0) : (Proc.devRef .tc main_while0b_v72 : DevRef τ sig).ty.Contents (Elt F)) = Cert.ReferenceIdeal.Step.b39 j s := by
  unfold Cert.ReferenceIdeal.Step.b39
  rw [← al_38 h, ← al_17 h]
  try rfl
set_option maxRecDepth 8192 in
theorem al_40 (h : Holds V0 s j) : (Host.dotGeneral dot_S4x4x64x256_S4x4x256x512_S4x4x64x512_3_2_2_3_01_01 none (res_main_while0b_v66 V0) (V0 (Proc.devRef .tc main_v36_6)) : (Proc.devRef .tc main_while0b_v73 : DevRef τ sig).ty.Contents (Elt F)) = Cert.ReferenceIdeal.Step.b40 j s := by
  unfold Cert.ReferenceIdeal.Step.b40
  rw [← al_29 h, h.f_6]
  try rfl
set_option maxRecDepth 8192 in
theorem al_41 (h : Holds V0 s j) : (addf (Host.dotGeneral dot_S4x4x64x64_S4x4x64x512_S4x4x64x512_3_2_2_3_01_01 none (select (broadcastInDim S4x4x64x64 ![2, 3] bcast_S64x64_S4x4x64x64_2_3 (V0 (Proc.devRef .tc main_v36_4))) (Host.dotGeneral dot_S4x4x64x256_S4x4x64x256_S4x4x64x64_3_3_2_2_01_01 none (res_main_while0b_v66 V0) (mulf (res_main_while0b_v60 V0) (Host.exp (Host.negf (res_main_while0b_v63 V0))))) (broadcastInDim S4x4x64x64 ![] bcast_S_S4x4x64x64 (id (constant S_ .f32 0x00000000#32)))) (res_main_while0b_v61 V0)) (Host.dotGeneral dot_S4x4x64x256_S4x4x256x512_S4x4x64x512_3_2_2_3_01_01 none (res_main_while0b_v66 V0) (V0 (Proc.devRef .tc main_v36_6))) : (Proc.devRef .tc main_while0b_v74 : DevRef τ sig).ty.Contents (Elt F)) = Cert.ReferenceIdeal.Step.b41 j s := by
  unfold Cert.ReferenceIdeal.Step.b41
  rw [← al_39 h, ← al_40 h]
  try rfl
set_option maxRecDepth 8192 in
theorem al_42 (h : Holds V0 s j) : (broadcastInDim S4x4x64x256 ![0, 1, 2, 3] bcast_S4x4x1x256_S4x4x64x256_0_1_2_3 (res_main_while0b_v64 V0) : (Proc.devRef .tc main_while0b_v75 : DevRef τ sig).ty.Contents (Elt F)) = Cert.ReferenceIdeal.Step.b42 j s := by
  unfold Cert.ReferenceIdeal.Step.b42
  rw [← al_27 h]
  try rfl
set_option maxRecDepth 8192 in
theorem al_43 (h : Holds V0 s j) : (subf (broadcastInDim S4x4x64x256 ![0, 1, 2, 3] bcast_S4x4x1x256_S4x4x64x256_0_1_2_3 (res_main_while0b_v64 V0)) (res_main_while0b_v63 V0) : (Proc.devRef .tc main_while0b_v76 : DevRef τ sig).ty.Contents (Elt F)) = Cert.ReferenceIdeal.Step.b43 j s := by
  unfold Cert.ReferenceIdeal.Step.b43
  rw [← al_42 h, ← al_26 h]
  try rfl
set_option maxRecDepth 8192 in
theorem al_44 (h : Holds V0 s j) : (Host.exp (subf (broadcastInDim S4x4x64x256 ![0, 1, 2, 3] bcast_S4x4x1x256_S4x4x64x256_0_1_2_3 (res_main_while0b_v64 V0)) (res_main_while0b_v63 V0)) : (Proc.devRef .tc main_while0b_v77 : DevRef τ sig).ty.Contents (Elt F)) = Cert.ReferenceIdeal.Step.b44 j s := by
  unfold Cert.ReferenceIdeal.Step.b44
  rw [← al_43 h]
  try rfl
set_option maxRecDepth 8192 in
theorem al_45 (h : Holds V0 s j) : (mulf (res_main_while0b_v60 V0) (Host.exp (subf (broadcastInDim S4x4x64x256 ![0, 1, 2, 3] bcast_S4x4x1x256_S4x4x64x256_0_1_2_3 (res_main_while0b_v64 V0)) (res_main_while0b_v63 V0))) : (Proc.devRef .tc main_while0b_v78 : DevRef τ sig).ty.Contents (Elt F)) = Cert.ReferenceIdeal.Step.b45 j s := by
  unfold Cert.ReferenceIdeal.Step.b45
  rw [← al_11 h, ← al_44 h]
  try rfl
set_option maxRecDepth 8192 in
theorem al_46 (h : Holds V0 s j) : (shapeCast S4x4x256 (res_main_while0b_v64 V0) shapeCasts_S4x4x1x256_S4x4x256 : (Proc.devRef .tc main_while0b_v79 : DevRef τ sig).ty.Contents (Elt F)) = Cert.ReferenceIdeal.Step.b46 j s := by
  unfold Cert.ReferenceIdeal.Step.b46
  rw [← al_27 h]
  try rfl
set_option maxRecDepth 8192 in
theorem al_47 (h : Holds V0 s j) : (Host.exp (shapeCast S4x4x256 (res_main_while0b_v64 V0) shapeCasts_S4x4x1x256_S4x4x256) : (Proc.devRef .tc main_while0b_v80 : DevRef τ sig).ty.Contents (Elt F)) = Cert.ReferenceIdeal.Step.b47 j s := by
  unfold Cert.ReferenceIdeal.Step.b47
  rw [← al_46 h]
  try rfl
set_option maxRecDepth 8192 in
theorem al_48 (h : Holds V0 s j) : (broadcastInDim S4x4x256x1 ![0, 1, 2] bcast_S4x4x256_S4x4x256x1_0_1_2 (Host.exp (shapeCast S4x4x256 (res_main_while0b_v64 V0) shapeCasts_S4x4x1x256_S4x4x256)) : (Proc.devRef .tc main_while0b_v81 : DevRef τ sig).ty.Contents (Elt F)) = Cert.ReferenceIdeal.Step.b48 j s := by
  unfold Cert.ReferenceIdeal.Step.b48
  rw [← al_47 h]
  try rfl
set_option maxRecDepth 8192 in
theorem al_49 (h : Holds V0 s j) : (broadcastInDim S4x4x256x512 ![0, 1, 2, 3] bcast_S4x4x256x1_S4x4x256x512_0_1_2_3 (broadcastInDim S4x4x256x1 ![0, 1, 2] bcast_S4x4x256_S4x4x256x1_0_1_2 (Host.exp (shapeCast S4x4x256 (res_main_while0b_v64 V0) shapeCasts_S4x4x1x256_S4x4x256))) : (Proc.devRef .tc main_while0b_v82 : DevRef τ sig).ty.Contents (Elt F)) = Cert.ReferenceIdeal.Step.b49 j s := by
  unfold Cert.ReferenceIdeal.Step.b49
  rw [← al_48 h]
  try rfl
set_option maxRecDepth 8192 in
theorem al_50 (h : Holds V0 s j) : (mulf (V0 (Proc.devRef .tc main_v36_6)) (broadcastInDim S4x4x256x512 ![0, 1, 2, 3] bcast_S4x4x256x1_S4x4x256x512_0_1_2_3 (broadcastInDim S4x4x256x1 ![0, 1, 2] bcast_S4x4x256_S4x4x256x1_0_1_2 (Host.exp (shapeCast S4x4x256 (res_main_while0b_v64 V0) shapeCasts_S4x4x1x256_S4x4x256)))) : (Proc.devRef .tc main_while0b_v83 : DevRef τ sig).ty.Contents (Elt F)) = Cert.ReferenceIdeal.Step.b50 j s := by
  unfold Cert.ReferenceIdeal.Step.b50
  rw [← al_49 h, h.f_6]
  try rfl
set_option maxRecDepth 8192 in
theorem al_51 (h : Holds V0 s j) : (Host.dotGeneral dot_S4x4x64x256_S4x4x64x512_S4x4x256x512_2_2_3_3_01_01 none (mulf (res_main_while0b_v60 V0) (Host.exp (subf (broadcastInDim S4x4x64x256 ![0, 1, 2, 3] bcast_S4x4x1x256_S4x4x64x256_0_1_2_3 (res_main_while0b_v64 V0)) (res_main_while0b_v63 V0)))) (res_main_while0b_v61 V0) : (Proc.devRef .tc main_while0b_v84 : DevRef τ sig).ty.Contents (Elt F)) = Cert.ReferenceIdeal.Step.b51 j s := by
  unfold Cert.ReferenceIdeal.Step.b51
  rw [← al_45 h, ← al_17 h]
  try rfl
set_option maxRecDepth 8192 in
theorem al_52 (h : Holds V0 s j) : (addf (mulf (V0 (Proc.devRef .tc main_v36_6)) (broadcastInDim S4x4x256x512 ![0, 1, 2, 3] bcast_S4x4x256x1_S4x4x256x512_0_1_2_3 (broadcastInDim S4x4x256x1 ![0, 1, 2] bcast_S4x4x256_S4x4x256x1_0_1_2 (Host.exp (shapeCast S4x4x256 (res_main_while0b_v64 V0) shapeCasts_S4x4x1x256_S4x4x256))))) (Host.dotGeneral dot_S4x4x64x256_S4x4x64x512_S4x4x256x512_2_2_3_3_01_01 none (mulf (res_main_while0b_v60 V0) (Host.exp (subf (broadcastInDim S4x4x64x256 ![0, 1, 2, 3] bcast_S4x4x1x256_S4x4x64x256_0_1_2_3 (res_main_while0b_v64 V0)) (res_main_while0b_v63 V0)))) (res_main_while0b_v61 V0)) : (Proc.devRef .tc main_while0b_v85 : DevRef τ sig).ty.Contents (Elt F)) = Cert.ReferenceIdeal.Step.b52 j s := by
  unfold Cert.ReferenceIdeal.Step.b52
  rw [← al_50 h, ← al_51 h]
  try rfl
set_option maxRecDepth 8192 in
theorem al_53 (h : Holds V0 s j) : (broadcastInDim S1x4x4x64x512 ![1, 2, 3, 4] bcast_S4x4x64x512_S1x4x4x64x512_1_2_3_4 (addf (Host.dotGeneral dot_S4x4x64x64_S4x4x64x512_S4x4x64x512_3_2_2_3_01_01 none (select (broadcastInDim S4x4x64x64 ![2, 3] bcast_S64x64_S4x4x64x64_2_3 (V0 (Proc.devRef .tc main_v36_4))) (Host.dotGeneral dot_S4x4x64x256_S4x4x64x256_S4x4x64x64_3_3_2_2_01_01 none (res_main_while0b_v66 V0) (mulf (res_main_while0b_v60 V0) (Host.exp (Host.negf (res_main_while0b_v63 V0))))) (broadcastInDim S4x4x64x64 ![] bcast_S_S4x4x64x64 (id (constant S_ .f32 0x00000000#32)))) (res_main_while0b_v61 V0)) (Host.dotGeneral dot_S4x4x64x256_S4x4x256x512_S4x4x64x512_3_2_2_3_01_01 none (res_main_while0b_v66 V0) (V0 (Proc.devRef .tc main_v36_6)))) : (Proc.devRef .tc main_while0b_call8_v0 : DevRef τ sig).ty.Contents (Elt F)) = Cert.ReferenceIdeal.Step.b53 j s := by
  unfold Cert.ReferenceIdeal.Step.b53
  rw [← al_41 h]
  try rfl
set_option maxRecDepth 8192 in
theorem al_54 (h : Holds V0 s j) : (constantI S_ 32 0#32 : (Proc.devRef .tc main_while0b_call8_c : DevRef τ sig).ty.Contents (Elt F)) = Cert.ReferenceIdeal.Step.b54 j s := by
  unfold Cert.ReferenceIdeal.Step.b54
  rfl
set_option maxRecDepth 8192 in
theorem al_55 (h : Holds V0 s j) : (constantI S_ 32 0#32 : (Proc.devRef .tc main_while0b_call8_c_0 : DevRef τ sig).ty.Contents (Elt F)) = Cert.ReferenceIdeal.Step.b55 j s := by
  unfold Cert.ReferenceIdeal.Step.b55
  rfl
set_option maxRecDepth 8192 in
theorem al_56 (h : Holds V0 s j) : (constantI S_ 32 0#32 : (Proc.devRef .tc main_while0b_call8_c_1 : DevRef τ sig).ty.Contents (Elt F)) = Cert.ReferenceIdeal.Step.b56 j s := by
  unfold Cert.ReferenceIdeal.Step.b56
  rfl
set_option maxRecDepth 8192 in
theorem al_57 (h : Holds V0 s j) : (constantI S_ 32 0#32 : (Proc.devRef .tc main_while0b_call8_c_2 : DevRef τ sig).ty.Contents (Elt F)) = Cert.ReferenceIdeal.Step.b57 j s := by
  unfold Cert.ReferenceIdeal.Step.b57
  rfl
set_option maxRecDepth 8192 in
theorem al_58 (h : Holds V0 s j) : (Host.dynamicUpdateSlice (V0 (Proc.devRef .tc main_v36_7)) (broadcastInDim S1x4x4x64x512 ![1, 2, 3, 4] bcast_S4x4x64x512_S1x4x4x64x512_1_2_3_4 (addf (Host.dotGeneral dot_S4x4x64x64_S4x4x64x512_S4x4x64x512_3_2_2_3_01_01 none (select (broadcastInDim S4x4x64x64 ![2, 3] bcast_S64x64_S4x4x64x64_2_3 (V0 (Proc.devRef .tc main_v36_4))) (Host.dotGeneral dot_S4x4x64x256_S4x4x64x256_S4x4x64x64_3_3_2_2_01_01 none (res_main_while0b_v66 V0) (mulf (res_main_while0b_v60 V0) (Host.exp (Host.negf (res_main_while0b_v63 V0))))) (broadcastInDim S4x4x64x64 ![] bcast_S_S4x4x64x64 (id (constant S_ .f32 0x00000000#32)))) (res_main_while0b_v61 V0)) (Host.dotGeneral dot_S4x4x64x256_S4x4x256x512_S4x4x64x512_3_2_2_3_01_01 none (res_main_while0b_v66 V0) (V0 (Proc.devRef .tc main_v36_6))))) (fun k => (((![V0 (Proc.devRef .tc main_v36_5), constantI S_ 32 0#32, constantI S_ 32 0#32, constantI S_ 32 0#32, constantI S_ 32 0#32] : Fin 5 → (⟨S_, .i32⟩ : BufTy).Contents (Elt F))) k (Shape.Idx.first h_S_)).toInt) updateFits_S64x4x4x64x512_S1x4x4x64x512 : (Proc.devRef .tc main_while0b_v86 : DevRef τ sig).ty.Contents (Elt F)) = Cert.ReferenceIdeal.Step.b58 j s := by
  unfold Cert.ReferenceIdeal.Step.b58
  rw [← al_53 h, ← al_54 h, ← al_55 h, ← al_56 h, ← al_57 h, h.f_7, h.n_5]
  try rfl

/-! One trip's step of the carried values is `step`, field by field; a counter steps to the next number. -/

theorem step_6 (h : Holds V0 s j) : step_main_v36_6 V0 = (step j s).main_v36_6 := by
  unfold step_main_v36_6 Cert.ReferenceIdeal.Step.step
  show id (addf (mulf (V0 (Proc.devRef .tc main_v36_6)) (broadcastInDim S4x4x256x512 ![0, 1, 2, 3] bcast_S4x4x256x1_S4x4x256x512_0_1_2_3 (broadcastInDim S4x4x256x1 ![0, 1, 2] bcast_S4x4x256_S4x4x256x1_0_1_2 (Host.exp (shapeCast S4x4x256 (res_main_while0b_v64 V0) shapeCasts_S4x4x1x256_S4x4x256))))) (Host.dotGeneral dot_S4x4x64x256_S4x4x64x512_S4x4x256x512_2_2_3_3_01_01 none (mulf (res_main_while0b_v60 V0) (Host.exp (subf (broadcastInDim S4x4x64x256 ![0, 1, 2, 3] bcast_S4x4x1x256_S4x4x64x256_0_1_2_3 (res_main_while0b_v64 V0)) (res_main_while0b_v63 V0)))) (res_main_while0b_v61 V0))) = _
  rw [al_52 h]
  try rfl
theorem step_7 (h : Holds V0 s j) : step_main_v36_7 V0 = (step j s).main_v36_7 := by
  unfold step_main_v36_7 Cert.ReferenceIdeal.Step.step
  show id (Host.dynamicUpdateSlice (V0 (Proc.devRef .tc main_v36_7)) (broadcastInDim S1x4x4x64x512 ![1, 2, 3, 4] bcast_S4x4x64x512_S1x4x4x64x512_1_2_3_4 (addf (Host.dotGeneral dot_S4x4x64x64_S4x4x64x512_S4x4x64x512_3_2_2_3_01_01 none (select (broadcastInDim S4x4x64x64 ![2, 3] bcast_S64x64_S4x4x64x64_2_3 (V0 (Proc.devRef .tc main_v36_4))) (Host.dotGeneral dot_S4x4x64x256_S4x4x64x256_S4x4x64x64_3_3_2_2_01_01 none (res_main_while0b_v66 V0) (mulf (res_main_while0b_v60 V0) (Host.exp (Host.negf (res_main_while0b_v63 V0))))) (broadcastInDim S4x4x64x64 ![] bcast_S_S4x4x64x64 (id (constant S_ .f32 0x00000000#32)))) (res_main_while0b_v61 V0)) (Host.dotGeneral dot_S4x4x64x256_S4x4x256x512_S4x4x64x512_3_2_2_3_01_01 none (res_main_while0b_v66 V0) (V0 (Proc.devRef .tc main_v36_6))))) (fun k => (((![V0 (Proc.devRef .tc main_v36_5), constantI S_ 32 0#32, constantI S_ 32 0#32, constantI S_ 32 0#32, constantI S_ 32 0#32] : Fin 5 → (⟨S_, .i32⟩ : BufTy).Contents (Elt F))) k (Shape.Idx.first h_S_)).toInt) updateFits_S64x4x4x64x512_S1x4x4x64x512) = _
  exact al_58 h
theorem step_5 (h : Holds V0 s j) : step_main_v36_5 V0 = constantI S_ 32 (BitVec.ofNat 32 (j + 1)) := by
  unfold step_main_v36_5
  rw [h.n_5]
  funext i
  show BitVec.ofNat 32 j + 1#32 = BitVec.ofNat 32 (j + 1)
  simp only [BitVec.ofNat_add]

set_option maxRecDepth 8192 in
theorem out_main_v58_holds (h : Holds V0 s j) {x_main_arg0 : (⟨S16384x10240, .bf16⟩ : BufTy).Contents (Elt F)} (h_main_arg0 : V0 (Proc.devRef .tc main_arg0) = x_main_arg0) {x_main_arg4 : (⟨S1x512, .f32⟩ : BufTy).Contents (Elt F)} (h_main_arg4 : V0 (Proc.devRef .tc main_arg4) = x_main_arg4) : out_main_v58 V0 = Cert.ReferenceIdeal.Step.R_main_v58 s x_main_arg0 x_main_arg4 := by
  unfold out_main_v58 Cert.ReferenceIdeal.Step.R_main_v58
  rw [h.f_7, h_main_arg0, h_main_arg4]
  try rfl

/-- One trip keeps the valuation holding: `step` of the state, the same set-up values, the next number. -/
theorem holds_step (h : Holds V0 s j) : Holds (STEP V0) (step j s) (j + 1) where
  f_6 := (STEP_main_v36_6 V0).trans (step_6 h)
  f_7 := (STEP_main_v36_7 V0).trans (step_7 h)
  n_5 := (STEP_main_v36_5 V0).trans (step_5 h)
  k_4 := (STEP_main_v36_4 V0).trans h.k_4
  f_0 := (STEP_main_v36_0 V0).trans h.f_0
  f_1 := (STEP_main_v36_1 V0).trans h.f_1
  f_2 := (STEP_main_v36_2 V0).trans h.f_2
  f_3 := (STEP_main_v36_3 V0).trans h.f_3

/-- The state the first trip starts from, of the memory the run starts from. -/
abbrev initState (m : (ℓ : Loc nD τ sig) → Buf (Elt F) ℓ) (c : Dev nD) : State F :=
  init (m ((c.tc : Thread nD τ).loc main_arg0)) (m ((c.tc : Thread nD τ).loc main_arg1)) (m ((c.tc : Thread nD τ).loc main_arg2)) (m ((c.tc : Thread nD τ).loc main_arg3))

variable (m : (ℓ : Loc nD τ sig) → Buf (Elt F) ℓ) (c : Dev nD)

set_option maxRecDepth 65536 in
set_option maxHeartbeats 400000 in
/-- What @main's operations before the loop leave: the set-up values, number 0, the initial state. -/
theorem entry_holds : Holds (entryContents preI m c) (initState m c) 0 := by
  constructor <;> (simp only [entryContents, afterL_cons, afterL_nil]; after_reads_simp) <;> rfl

/-- Before the `k`-th condition the loop's valuation holds the `k`-th state of any sequence that starts at `initState` and goes
    on by `step`. -/
theorem holds_iter (it : ℕ → State F) (h0 : it 0 = initState m c) (hs : ∀ n, it (n + 1) = step n (it n)) :
    ∀ k, Holds (STEP^[k] (entryContents preI m c)) (it k) k
  | 0 => h0 ▸ entry_holds m c
  | k + 1 => by
    rw [Function.iterate_succ_apply', hs k]
    exact holds_step (holds_iter it h0 hs k)

/-- THE RESULTS as `step` iterated: every weakly fair execution of `ReferenceIdeal` terminates with each result at its field of state
    number 64 of any per-core sequence of states that starts at `initState` and goes on by `step`, and every argument unchanged. -/
theorem run_iter (m : (ℓ : Loc nD τ sig) → Buf (Elt F) ℓ) (ρ : Dev nD → PrngReg) (it : Dev nD → ℕ → State F)
    (h0 : ∀ c, it c 0 = initState m c) (hs : ∀ c n, it c (n + 1) = step n (it c n)) :
    θ_run (defs (F := F)) (onTc (τ := τ) (main (F := F))) ⟨m, fun _ => 0, ρ⟩ fun r => ∀ c : Dev nD,
      r.2.mem ((c.tc : Thread nD τ).loc main_v58) = Cert.ReferenceIdeal.Step.R_main_v58 (it c 64) (m ((c.tc : Thread nD τ).loc main_arg0)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c =>
    have hk := holds_iter m c (it c) (h0 c) (hs c) 64
    ⟨(h c).1.trans (out_main_v58_holds hk (iter_main_arg0 m c 64) (iter_main_arg4 m c 64)), (h c).2.1, (h c).2.2.1, (h c).2.2.2.1, (h c).2.2.2.2.1, (h c).2.2.2.2.2⟩) (Value.run m ρ)

end Cert.ReferenceIdeal.Trips

end
-- ==== Proof.GlaRef.lean ====
/- The attention kernel's result and the reference's are the same: each grid point's blocks are rows of the arguments, so its
   block of the result is the recursion's, normed and gated; and so is the reference's result. -/
module

public import proofs.«01_k».proof.Proof.GlaWin
public import proofs.«01_k».proof.Proof.GlaBlock
public import proofs.«01_k».proof.Proof.GlaRefEnd
public import proofs.«01_k».proof.Proof.GlaRefRun
public import proofs.«01_k».proof.Proof.Gen.KernelIdeal.Value
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.KernelIdeal.Gla

open Cert.KernelIdeal Cert.KernelIdeal.Gen Cert.KernelIdeal.Value Cert.GlaReal
open Cert.ReferenceIdeal.GlaStep (data gate toReal_of ix2_ext)

/-- A sum over the 128 columns of the padded gate is the sum over its 16 columns. -/
theorem sum_pad (f : Fin 128 → ℝ) (h : ∀ k : Fin 128, 16 ≤ k.val → f k = 0) :
    ∑ k, f k = ∑ k : Fin 16, f ⟨k.val, by omega⟩ := by
  have e := Fin.sum_univ_add (a := 16) (b := 112) (M := ℝ) f
  have z : ∑ i : Fin 112, f (Fin.natAdd 16 i) = 0 :=
    Finset.sum_eq_zero fun i _ => h (Fin.natAdd 16 i) (Nat.le_add_right 16 i.val)
  rw [z, add_zero] at e
  exact e

section Kernel

variable (m : (ℓ : Loc nD τ sig) → Buf (Elt Ideal) ℓ) (c : Dev nD)

/-- The projected array. -/
abbrev aP : FVec Ideal S16384x10240 .bf16 := m ((c : Thread nD τ).loc main_arg0)
/-- The gate's bottleneck. -/
abbrev aG : FVec Ideal S16384x128 .f32 := m ((c : Thread nD τ).loc main_arg1)
/-- The gate's weights. -/
abbrev aW : FVec Ideal S1x16x1024 .f32 := m ((c : Thread nD τ).loc main_arg2)
/-- The gate's bias. -/
abbrev aB : FVec Ideal S1x1024 .f32 := m ((c : Thread nD τ).loc main_arg3)
/-- The norm's scale. -/
abbrev aN : FVec Ideal S1x512 .f32 := m ((c : Thread nD τ).loc main_arg4)

/-- The head a grid point works on. -/
abbrev dat (t : Fin cfg0.N) (ht : t.val < 32) : Data :=
  data (aP m c) (aG m c) (aW m c) (aB m c) ⟨t.val / 8, by omega⟩ ⟨t.val / 2 % 4, by omega⟩

variable (hp : ∀ i, ∃ r : ℝ, aP m c i = (r : EReal)) (hg : ∀ i, ∃ r : ℝ, aG m c i = (r : EReal))
  (hw : ∀ i, ∃ r : ℝ, aW m c i = (r : EReal)) (hb : ∀ i, ∃ r : ℝ, aB m c i = (r : EReal))

/-- Where a row of a grid point's block stands in the arguments. -/
theorem row_val (t : Fin cfg0.N) (ht : t.val < 32) (b : Fin 8) (s : Fin 4) (u : Fin 64) :
    (t.val / 8 * 2 + t.val % 2) * 2048 + (rr b s u).val
      = (Cert.ReferenceIdeal.GlaStep.row ⟨t.val / 8, by omega⟩ (32 * (t.val % 2) + 4 * b.val + s.val) u).val := by
  simp only [rr, Cert.ReferenceIdeal.GlaStep.row]
  omega

include hp in
theorem pq (t : Fin cfg0.N) (ht : t.val < 32) (b : Fin 8) (s : Fin 4) (u : Fin 64) (d : Fin 256) :
    (iblk m c 0 t : FVec Ideal S2048x256 .bf16) (ix2 (rr b s u) d)
      = ((dat m c t ht).q (32 * (t.val % 2) + 4 * b.val + s.val) u d : EReal) := by
  rw [w0 m c t _ _ ht]
  refine (congrArg (aP m c) (ix2_ext (row_val t ht b s u) ?_)).trans (toReal_of (hp _))
  dsimp only; omega

include hp in
theorem pk (t : Fin cfg0.N) (ht : t.val < 32) (b : Fin 8) (s : Fin 4) (u : Fin 64) (d : Fin 256) :
    (iblk m c 1 t : FVec Ideal S2048x256 .bf16) (ix2 (rr b s u) d)
      = ((dat m c t ht).k (32 * (t.val % 2) + 4 * b.val + s.val) u d : EReal) := by
  rw [w1 m c t _ _ ht]
  refine (congrArg (aP m c) (ix2_ext (row_val t ht b s u) ?_)).trans (toReal_of (hp _))
  dsimp only; omega

include hp in
theorem pv (t : Fin cfg0.N) (ht : t.val < 32) (b : Fin 8) (s : Fin 4) (u : Fin 64) (e : Fin 512) :
    vBlk (F := Ideal) (iblk m c 2 t : FVec Ideal S2048x512 .bf16) b (ix2 (ri s u) e)
      = ((dat m c t ht).v (32 * (t.val % 2) + 4 * b.val + s.val) u e : EReal) := by
  rw [vBlk_apply, w2 m c t _ _ ht]
  refine (congrArg (aP m c) (ix2_ext ((?_ : _ = _).trans (row_val t ht b s u)) ?_)).trans (toReal_of (hp _))
  · simp only [rr, ri]; omega
  · dsimp only; omega

include hg hw hb in
theorem pl (t : Fin cfg0.N) (ht : t.val < 32) (b : Fin 8) (s : Fin 4) (u : Fin 64) (d : Fin 256) :
    logA (F := Ideal) (iblk m c 5 t : FVec Ideal S128x256 .f32) (iblk m c 6 t : FVec Ideal S1x256 .f32)
        (iblk m c 3 t : FVec Ideal S2048x128 .f32) (ix2 (rr b s u) d)
      = ((dat m c t ht).l (32 * (t.val % 2) + 4 * b.val + s.val) u d : EReal) := by
  have er : (⟨(t.val / 8 * 2 + t.val % 2) * 2048 + (rr b s u).val, by omega⟩ : Fin 16384)
      = Cert.ReferenceIdeal.GlaStep.row ⟨t.val / 8, by omega⟩ (32 * (t.val % 2) + 4 * b.val + s.val) u :=
    Fin.ext (row_val t ht b s u)
  have ec : (⟨t.val / 2 % 4 * 256 + d.val, by omega⟩ : Fin 1024) = ⟨256 * (t.val / 2 % 4) + d.val, by omega⟩ :=
    Fin.ext (by dsimp only; omega)
  rw [logA_apply _ _ _ (rr b s u) d
    (fun k => EReal.toReal (aG m c (ix2 (Cert.ReferenceIdeal.GlaStep.row ⟨t.val / 8, by omega⟩ (32 * (t.val % 2) + 4 * b.val + s.val) u) k)))
    (fun k => if h : k.val < 16 then EReal.toReal (aW m c (ix3 0 ⟨k.val, h⟩ ⟨256 * (t.val / 2 % 4) + d.val, by omega⟩)) else 0)
    (EReal.toReal (aB m c (ix2 0 ⟨256 * (t.val / 2 % 4) + d.val, by omega⟩)))
    (fun k => ?_) (fun k => ?_) ?_]
  · rw [sum_pad _ (fun k hk => by rw [dif_neg (by omega), mul_zero])]
    refine congrArg (fun x : ℝ => ((decay x : ℝ) : EReal)) ?_
    refine congrArg (· + _) (Finset.sum_congr rfl fun k _ => ?_)
    rw [dif_pos k.isLt]
  · rw [w6 m c t _ ht, ec]
    exact toReal_of (hb _)
  · rw [w3 m c t _ _ ht, er]
    exact toReal_of (hg _)
  · rw [w5 m c t _ _ ht, ec]
    by_cases h : k.val < 16
    · rw [dif_pos h, dif_pos h]; exact toReal_of (hw _)
    · rw [dif_neg h, dif_neg h, EReal.coe_zero]

/-- The state of zeros a sequence starts from. -/
theorem zero_state (D : Data) (e : Fin 512) (d : Fin 256) :
    (k0_pay2 (F := Ideal) : FVec Ideal S512x256 .f32) (ix2 e d) = (S D 0 d e : EReal) := by
  pointwise [k0_pay2]
  simp [S]

include hp hg hw hb in
/-- What the carried state holds when a grid point starts. -/
theorem state_B (t : Fin cfg0.N) (ht : t.val < 32) (h0 : ¬ t.val % 2 = 0) (e : Fin 512) (d : Fin 256) :
    ((outsAt0 m c (t.val - 1) (Nat.lt_of_le_of_lt (Nat.sub_le _ _) t.isLt)).2 : FVec Ideal S512x256 .f32) (ix2 e d)
      = (S (dat m c t ht) 32 d e : EReal) := by
  obtain ⟨t', et : t'.val = t.val - 1⟩ : ∃ t' : Fin cfg0.N, t'.val = t.val - 1 :=
    ⟨⟨t.val - 1, Nat.lt_of_le_of_lt (Nat.sub_le _ _) t.isLt⟩, rfl⟩
  have ht' : t'.val < 32 := by omega
  have h0' : t'.val % 2 = 0 := by omega
  have e1 : outsAt0 m c (t.val - 1) (Nat.lt_of_le_of_lt (Nat.sub_le _ _) t.isLt) = outsAt0 m c t'.val t'.isLt := by
    congr 1; exact et.symm
  have eD : dat m c t' ht' = dat m c t ht := by
    have a1 : (⟨t'.val / 8, by omega⟩ : Fin 4) = ⟨t.val / 8, by omega⟩ := Fin.ext (by dsimp only; omega)
    have a2 : (⟨t'.val / 2 % 4, by omega⟩ : Fin 4) = ⟨t.val / 2 % 4, by omega⟩ := Fin.ext (by dsimp only; omega)
    unfold dat
    rw [a1, a2]
  rw [e1, outsAt0_A m c t' h0']
  dsimp only
  rw [sout0_A_0_eq, ← eD]
  have hs : ∀ e d, (k0_pay2 (F := Ideal) : FVec Ideal S512x256 .f32) (ix2 e d)
      = (S (dat m c t' ht') (32 * (t'.val % 2)) d e : EReal) := by rw [h0']; exact zero_state _
  refine (stOut_real (dat m c t' ht') (32 * (t'.val % 2)) _ _ _ _ _ _ (pk m c hp t' ht') (pv m c hp t' ht')
    (pl m c hg hw hb t' ht') hs e d).trans ?_
  rw [h0']

include hp hg hw hb in
/-- A grid point's block of the result, from a state of the recursion. -/
theorem out_point (t : Fin cfg0.N) (ht : t.val < 32) (st : Vec Ideal S512x256 .f32)
    (hst : ∀ e d, st (ix2 e d) = (S (dat m c t ht) (32 * (t.val % 2)) d e : EReal)) (b : Fin 8) (s : Fin 4) (u : Fin 64)
    (e : Fin 512) :
    out (iblk m c 0 t) (iblk m c 1 t) (vBlk (F := Ideal) (iblk m c 2 t)) (iblk m c 3 t) (iblk m c 4 t) (iblk m c 5 t) (iblk m c 6 t)
        (iblk m c 7 t) st (ix2 (rr b s u) e)
      = rowNorm (fun k => (O (dat m c t ht) (32 * (t.val % 2) + 4 * b.val + s.val) u k : EReal)) (aN m c (ix2 0 e))
          (aP m c (ix2 ⟨(t.val / 8 * 2 + t.val % 2) * 2048 + (rr b s u).val, by omega⟩
            ⟨(8 + t.val / 2 % 4) * 512 + e.val, by omega⟩)) e := by
  have hz := w4 m c t (rr b s u) e ht
  have hz' := hz.trans (toReal_of (hp _))
  rw [out, normGate_apply _ _ _ _ _ _ hz', hz, w7 m c t e]
  rw [funext fun k => attn_rr (dat m c t ht) (32 * (t.val % 2)) _ _ _ _ _ _ st (pq m c hp t ht) (pk m c hp t ht)
    (pv m c hp t ht) (pl m c hg hw hb t ht) hst b s u k]

end Kernel

section Final

variable (m : (ℓ : Loc nD τ sig) → Buf (Elt Ideal) ℓ) (c : Dev nD)
variable (hp : ∀ i, ∃ r : ℝ, aP m c i = (r : EReal)) (hg : ∀ i, ∃ r : ℝ, aG m c i = (r : EReal))
  (hw : ∀ i, ∃ r : ℝ, aW m c i = (r : EReal)) (hb : ∀ i, ∃ r : ℝ, aB m c i = (r : EReal))

/-- The reference's loop state after `n` trips, of the kernel's arguments. -/
def it : ℕ → Cert.ReferenceIdeal.Step.State Ideal
  | 0 => Cert.ReferenceIdeal.Step.init (aP m c) (aG m c) (aW m c) (aB m c)
  | n + 1 => Cert.ReferenceIdeal.Step.step n (it n)

/-- The reference's result of the kernel's arguments. -/
def refOf : FVec Ideal S16384x2048 .bf16 :=
  Cert.ReferenceIdeal.Step.R_main_v58 (F := Ideal) (it m c 64) (aP m c) (aN m c)

include hp hg hw hb in
/-- The reference's result read at a row and a column. -/
theorem refOf_apply (a b : Fin 4) (n : Fin 64) (u : Fin 64) (e : Fin 512) (i : Fin 16384) (j : Fin 2048)
    (hi : i.val = 4096 * a.val + 64 * n.val + u.val) (hj : j.val = 512 * b.val + e.val) :
    refOf m c (ix2 i j)
      = rowNorm (fun k => (O (data (aP m c) (aG m c) (aW m c) (aB m c) a b) n.val u k : EReal)) (aN m c (ix2 0 e))
          (aP m c (ix2 i ⟨4096 + j.val, by omega⟩)) e := by
  have hR := Cert.ReferenceIdeal.GlaStep.trips_real (data (aP m c) (aG m c) (aW m c) (aB m c)) (it m c)
    (Cert.ReferenceIdeal.GlaStep.init_real _ _ _ _ hp hg hw hb) (fun _ => rfl) 64 (Nat.le_refl 64)
  refine (Cert.ReferenceIdeal.GlaStep.end_apply (it m c 64) (aP m c) (aN m c) n a b u e i j hi hj).trans ?_
  rw [funext fun k => hR.out n a b u k n.isLt]

include hp hg hw hb in
/-- Grid point `t`'s block of the result is the reference's. -/
theorem block_eq (t : Fin cfg0.N) (ht : t.val < 32) (st : Vec Ideal S512x256 .f32)
    (hst : ∀ e d, st (ix2 e d) = (S (dat m c t ht) (32 * (t.val % 2)) d e : EReal)) (y0 : Fin 2048) (y1 : Fin 512) :
    out (iblk m c 0 t) (iblk m c 1 t) (vBlk (F := Ideal) (iblk m c 2 t)) (iblk m c 3 t) (iblk m c 4 t) (iblk m c 5 t) (iblk m c 6 t)
        (iblk m c 7 t) st (ix2 y0 y1)
      = refOf m c (((View.whole main_v8).slice (win0_8.rect t)).emb (ix2 y0 y1)) := by
  refine Eq.trans ?_ (congrArg (refOf m c) (w8 t y0 y1 ht).symm)
  obtain ⟨b, s, u, rfl⟩ : ∃ (b : Fin 8) (s : Fin 4) (u : Fin 64), y0 = rr b s u :=
    ⟨⟨y0.val / 256, by omega⟩, ⟨y0.val / 64 % 4, by omega⟩, ⟨y0.val % 64, by omega⟩,
      Fin.ext (by simp only [rr]; omega)⟩
  rw [out_point m c hp hg hw hb t ht st hst,
    refOf_apply m c hp hg hw hb ⟨t.val / 8, by omega⟩ ⟨t.val / 2 % 4, by omega⟩
      ⟨32 * (t.val % 2) + 4 * b.val + s.val, by omega⟩ u y1 _ _ (by simp only [rr]; omega) (by dsimp only; omega)]
  refine congrArg (fun z => rowNorm _ _ z y1) (congrArg (aP m c) (ix2_ext rfl ?_))
  dsimp only; omega

include hp hg hw hb in
/-- The kernel's result array after the run is the reference's result of the arguments. -/
theorem final : (dats m 0 c).arrAt 8 (cfgs 0).N = refOf m c := by
  refine (dats m 0 c).arrAt_eq_of_covers 8 _ (by decide +kernel) fun t _ y => ?_
  have ht : t.val < 32 := t.isLt
  by_cases h0 : t.val % 2 = 0
  · blk_simp
    rw [after0_8, outsAt0_A m c t h0]
    dsimp only
    rw [out0_A_8_eq]
    idx_vars y
    exact block_eq m c hp hg hw hb t ht _ (by rw [h0]; exact zero_state _) y0 y1
  · blk_simp
    rw [after0_8, outsAt0_B m c t h0]
    dsimp only
    rw [out0_B_8_eq]
    idx_vars y
    have h1 : t.val % 2 = 1 := by omega
    exact block_eq m c hp hg hw hb t ht _ (by rw [h1]; exact state_B m c hp hg hw hb t ht h0) y0 y1

end Final

end Cert.KernelIdeal.Gla

end
-- ==== Proof.InprojIdealRun.lean ====
/- The run of the input projection's kernel (`InprojIdeal`): what its body leaves in its two output buffers at every
   grid point, and from that the run of the whole program and its frame. The grid is 16 row blocks by 10 column
   blocks, the columns inside. Every point stores its tile of the large product; the gate's product, which does not
   depend on the column block, is stored at the first column block only and written back at the last, so at the
   nine points between the body leaves the buffer as it finds it. -/
module

public import proofs.«01_k».proof.Proof.Gen.InprojIdeal.Frame
public import proofs.«01_k».proof.Proof.Gen.InprojIdeal.Skeleton
public import Idealize.ShloMosaic.Lib.Pipeline.ValueKit
public import Idealize.ShloMosaic.Lib.Claim
public import Idealize.ShloMosaic.Lib.VecWindow

@[expose] public section

set_option maxRecDepth 16384

noncomputable section

namespace Cert.InprojIdeal.Run2

open Cert.InprojIdeal Cert.InprojIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The body stores the gate's product at the points of column block 0. -/
theorem first_iff : ∀ t : Fin cfg0.N, k0_cond1 (grid0.coords t) = 1#1 ↔ t.val % 10 = 0 :=
  (fun t => by
    have ht : t.val < 160 := Nat.lt_of_lt_of_eq t.isLt N_0
    have e0 : (grid0.coords t 0).val = t.val / 10 % 16 := Pipeline.Grid.coords_val t 0 (by decide) rfl
    have e1 : (grid0.coords t 1).val = t.val / 1 % 10 := Pipeline.Grid.coords_val t 1 (by decide) rfl
    simp only [k0_cond1, e0, e1]
    word_cmp
   : ∀ t : Fin grid0.N, k0_cond1 (grid0.coords t) = 1#1 ↔ t.val % 10 = 0)

set_option maxHeartbeats 1000000 in
/-- The body at a point of column block 0: both outputs' buffers end at their products. -/
theorem run_first (c : Dev nD) (i : grid0.Coords) (arg2 : Memref sig .tc .vmem S1024x4096 .bf16) (harg2 : arg2.IsWhole) (arg3 : Memref sig .tc .vmem S1024x4096 .bf16) (harg3 : arg3.IsWhole) (arg4 : Memref sig .tc .vmem S128x4096 .bf16) (harg4 : arg4.IsWhole) (arg5 : Memref sig .tc .vmem S1024x1024 .bf16) (harg5 : arg5.IsWhole) (arg6 : Memref sig .tc .vmem S1024x128 .f32) (harg6 : arg6.IsWhole) (hc0 : k0_cond1 i = 1#1)
    (x0 : Vec F S1024x4096 .bf16) (x1 : Vec F S1024x4096 .bf16) (x2 : Vec F S128x4096 .bf16) :
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ (∃ d, owns (c : Thread nD τ) arg6 fullShare d)
            ∗ (iprop(owns (c : Thread nD τ) arg2 fullShare x0 ∗ owns (c : Thread nD τ) arg3 fullShare x1 ∗ owns (c : Thread nD τ) arg4 fullShare x2 ∗ owns (c : Thread nD τ) arg5 fullShare (k0_pay1 x0 x1) ∗ owns (c : Thread nD τ) arg6 fullShare (k0_pay2 x0 x2)) -∗ K ⟨⟩))
          ⊢ wp frame (wpE (defs₀ (F := F)) Variants.none c none) E (cc0_inproj i arg2 harg2 arg3 harg3 arg4 harg4 arg5 harg5 arg6 harg6) K := by
    intro E K
    simp only [cc0_inproj_eq_skeleton]; unfold cc0_inproj_skel
    unfold owns
    iintro ⟨⟨%f0, %hf0, H0⟩, ⟨%f1, %hf1, H1⟩, ⟨%f2, %hf2, H2⟩, ⟨%d3, %f3, -, H3⟩, ⟨%d4, %f4, -, H4⟩, Hk⟩
    obtain rfl := harg2.eq_unread hf0; obtain rfl := harg3.eq_unread hf1; obtain rfl := harg4.eq_unread hf2
    sl_exec (disch := first | sl_exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; swap; · iexact H3
      ipureintro
      exact (View.read_writes_full _ _ _ _ _).trans (by
        simp (disch := decide) only [View.readAt_eq_ld, Memref.IsWhole.read_unread, View.ld_unit_lit'])
    iexists _; isplitr; swap; · iexact H4
    ipureintro; exact (View.read_writes_full _ _ _ _ _).trans (by
        simp (disch := decide) only [View.readAt_eq_ld, Memref.IsWhole.read_unread, View.ld_unit_lit'])

set_option maxHeartbeats 1000000 in
/-- The body at a later column block: the large product's buffer ends at its tile, the gate's is left alone. -/
theorem run_later (c : Dev nD) (i : grid0.Coords) (arg2 : Memref sig .tc .vmem S1024x4096 .bf16) (harg2 : arg2.IsWhole) (arg3 : Memref sig .tc .vmem S1024x4096 .bf16) (harg3 : arg3.IsWhole) (arg4 : Memref sig .tc .vmem S128x4096 .bf16) (harg4 : arg4.IsWhole) (arg5 : Memref sig .tc .vmem S1024x1024 .bf16) (harg5 : arg5.IsWhole) (arg6 : Memref sig .tc .vmem S1024x128 .f32) (harg6 : arg6.IsWhole) (hc0 : ¬k0_cond1 i = 1#1)
    (x0 : Vec F S1024x4096 .bf16) (x1 : Vec F S1024x4096 .bf16) (x2 : Vec F S128x4096 .bf16) (x4 : Vec F S1024x128 .f32) :
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ owns (c : Thread nD τ) arg6 fullShare x4
            ∗ (iprop(owns (c : Thread nD τ) arg2 fullShare x0 ∗ owns (c : Thread nD τ) arg3 fullShare x1 ∗ owns (c : Thread nD τ) arg4 fullShare x2 ∗ owns (c : Thread nD τ) arg5 fullShare (k0_pay1 x0 x1) ∗ owns (c : Thread nD τ) arg6 fullShare x4) -∗ K ⟨⟩))
          ⊢ wp frame (wpE (defs₀ (F := F)) Variants.none c none) E (cc0_inproj i arg2 harg2 arg3 harg3 arg4 harg4 arg5 harg5 arg6 harg6) K := by
    intro E K
    simp only [cc0_inproj_eq_skeleton]; unfold cc0_inproj_skel
    unfold owns
    iintro ⟨⟨%f0, %hf0, H0⟩, ⟨%f1, %hf1, H1⟩, ⟨%f2, %hf2, H2⟩, ⟨%d3, %f3, -, H3⟩, ⟨%f4, %hf4, H4⟩, Hk⟩
    obtain rfl := harg2.eq_unread hf0; obtain rfl := harg3.eq_unread hf1; obtain rfl := harg4.eq_unread hf2
    sl_exec (disch := first | sl_exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; swap; · iexact H3
      ipureintro; exact (View.read_writes_full _ _ _ _ _).trans (by
        simp (disch := decide) only [View.readAt_eq_ld, Memref.IsWhole.read_unread, View.ld_unit_lit'])
    iexists _; isplitr; swap; · iexact H4
    ipureintro; exact hf4

/-- The proof data: the arrays as launched; after the body at point `t` each input's buffer at its block, the two
    outputs' at the products of that point's blocks. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => k0_pay1 (iblk m c 0 t) (iblk m c 1 t)
    | ⟨4, _⟩ => k0_pay2 (iblk m c 0 t) (iblk m c 2 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = k0_pay1 (iblk m c 0 t) (iblk m c 1 t) := by
  dsimp only [dats]
theorem after4 (c : Dev nD) (t : Fin cfg0.N) : (dats m 0 c).after 4 t = k0_pay2 (iblk m c 0 t) (iblk m c 2 t) := by
  dsimp only [dats]

theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d
theorem before2 (c : Dev nD) (t : Fin cfg0.N) (d) : (dats m 0 c).before 2 t d = iblk m c 2 t :=
  before0_2_of m (dats m 0 c) (A_eq m c 2) (after2 m c) t d

/-- The point before `t`. -/
abbrev prev (t : Fin cfg0.N) : Fin cfg0.N := ⟨t.val - 1, Nat.lt_of_le_of_lt (Nat.sub_le _ _) t.isLt⟩

/-- Past column block 0 the rows' block is the previous point's. -/
theorem iblk0_prev (c : Dev nD) (t : Fin cfg0.N) (h : t.val % 10 ≠ 0) : iblk m c 0 t = iblk m c 0 (prev t) := by
  have hf : (cfg0.win 0).fetch t = false := eq_false_of_ne_true fun hh => h ((fetch0_0 t).mp hh)
  rw [← before0 m c t (iblk m c 0 t), (dats m 0 c).before_of_pos 0 t (fun h0 => h (by omega)) hf]
  exact after0 m c (prev t)

/-- And so is the gate weights' block, which never moves. -/
theorem iblk2_prev (c : Dev nD) (t : Fin cfg0.N) (h : t.val % 10 ≠ 0) : iblk m c 2 t = iblk m c 2 (prev t) := by
  have hN : t.val < 160 := lt_of_lt_of_eq t.isLt (show cfg0.N = 160 from N_0)
  have hf : (cfg0.win 2).fetch t = false := eq_false_of_ne_true fun hh => h (by have := (fetch0_2 t).mp hh; omega)
  rw [← before2 m c t (iblk m c 2 t), (dats m 0 c).before_of_pos 2 t (fun h0 => h (by omega)) hf]
  exact after2 m c (prev t)

/-- Past column block 0 the gate's buffer already holds its product, and so does the body leave it. -/
theorem before4 (c : Dev nD) : ∀ (n : Nat) (t : Fin cfg0.N), t.val = n → t.val % 10 ≠ 0 → ∀ d,
    (dats m 0 c).before 4 t d = k0_pay2 (iblk m c 0 t) (iblk m c 2 t) := by
  intro n
  induction n with
  | zero => intro t ht h; omega
  | succ n ih =>
    intro t ht h d
    have hN : t.val < 160 := lt_of_lt_of_eq t.isLt (show cfg0.N = 160 from N_0)
    have hfl : (cfg0.win 4).flush (prev t) = false :=
      eq_false_of_ne_true fun hh => by have := (flush0_4 (prev t)).mp hh; dsimp only at this; omega
    rw [(dats m 0 c).before_of_pos 4 t (fun h0 => h (by omega)) rfl, if_neg (by rw [hfl]; exact Bool.false_ne_true),
      iblk0_prev m c t h, iblk2_prev m c t h]
    unfold Dat.left
    by_cases hp : (prev t).val % 10 = 0
    · have hi : cfg0.idle 4 (cfg0.grid.coords (prev t)) = false := by
        show (!(k0_cond1 (grid0.coords (prev t)) == 1#1)) = false
        rw [(first_iff (prev t)).mpr hp]; rfl
      rw [hi]
      exact after4 m c (prev t)
    · have hi : cfg0.idle 4 (cfg0.grid.coords (prev t)) = true := by
        show (!(k0_cond1 (grid0.coords (prev t)) == 1#1)) = true
        rw [beq_eq_false_iff_ne.mpr fun hh => hp ((first_iff (prev t)).mp hh)]; rfl
      rw [hi]
      exact ih (prev t) (by dsimp only; omega) hp d

/-- Each window's current staging memref at point `t`. -/
abbrev ms0 (t : Fin cfg0.N) : Memref sig .tc .vmem S1024x4096 .bf16 := win0_0.stage (cfg0.slots t 0)
abbrev ms1 (t : Fin cfg0.N) : Memref sig .tc .vmem S1024x4096 .bf16 := win0_1.stage (cfg0.slots t 1)
abbrev ms2 (t : Fin cfg0.N) : Memref sig .tc .vmem S128x4096 .bf16 := win0_2.stage (cfg0.slots t 2)
abbrev ms3 (t : Fin cfg0.N) : Memref sig .tc .vmem S1024x1024 .bf16 := win0_3.stage (cfg0.slots t 3)
abbrev ms4 (t : Fin cfg0.N) : Memref sig .tc .vmem S1024x128 .f32 := win0_4.stage (cfg0.slots t 4)

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t ∗ (dats m 0 c).leavesExact 1 t ∗ (dats m 0 c).leavesExact 2 t
    ∗ (dats m 0 c).leavesExact 3 t ∗ (dats m 0 c).leavesExact 4 t)

/-- The gate's buffer at its product is what a point may leave, whether it stores there or not. -/
theorem gate_leaves (c : Dev nD) (t : Fin cfg0.N) :
    owns (c : Thread nD τ) (ms4 t) fullShare (k0_pay2 (iblk m c 0 t) (iblk m c 2 t))
      ⊢ ((dats m 0 c).leavesExact 4 t : sProp 𝕄) := by
  unfold Dat.leavesExact
  rw [after4]
  cases hi : cfg0.idle 4 (cfg0.grid.coords t)
  · exact .rfl
  · cases hf : (cfg0.win 4).flush t
    · have h : t.val % 10 ≠ 0 := fun hh => by
        have h1 : (!(k0_cond1 (grid0.coords t) == 1#1)) = true := hi
        rw [(first_iff t).mpr hh] at h1
        exact absurd h1 (by decide)
      iintro H; iexists (k0_pay2 (iblk m c 0 t) (iblk m c 2 t)); rw [before4 m c t.val t rfl h]; iexact H
    · exact .rfl

set_option maxHeartbeats 800000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2]
  rw [show (dats m 0 c).Φ t.succ = (dats m 0 c).Φ t.castSucc from rfl,
    show (dats m 0 c).owesAt () t.succ = (dats m 0 c).owesAt () t.castSucc from rfl,
    show (dats m 0 c).leavesExact 0 t = owns (c : Thread nD τ) (ms0 t) fullShare ((dats m 0 c).after 0 t) from rfl,
    show (dats m 0 c).leavesExact 1 t = owns (c : Thread nD τ) (ms1 t) fullShare ((dats m 0 c).after 1 t) from rfl,
    show (dats m 0 c).leavesExact 2 t = owns (c : Thread nD τ) (ms2 t) fullShare ((dats m 0 c).after 2 t) from rfl,
    show (dats m 0 c).leavesExact 3 t = owns (c : Thread nD τ) (ms3 t) fullShare ((dats m 0 c).after 3 t) from rfl,
    after0, after1, after2, after3]
  by_cases h0 : t.val % 10 = 0
  · iintro ⟨HΦ, Ho, ⟨%d0, H0⟩, ⟨%d1, H1⟩, ⟨%d2, H2⟩, ⟨%d3, H3⟩, ⟨%d4, H4⟩⟩
    iapply ((run_first c (grid0.coords t) _ _ _ _ _ _ _ _ _ _ ((first_iff t).mpr h0) (iblk m c 0 t) (iblk m c 1 t) (iblk m c 2 t)) Set.univ _)
    isplitl [H0]; · iexact H0
    isplitl [H1]; · iexact H1
    isplitl [H2]; · iexact H2
    isplitl [H3]; · iexists _; iexact H3
    isplitl [H4]; · iexists _; iexact H4
    iintro ⟨H0, H1, H2, H3, H4⟩
    isplitl [HΦ]; · iexact HΦ
    isplitl [Ho]; · iexact Ho
    isplitl [H0]; · iexact H0
    isplitl [H1]; · iexact H1
    isplitl [H2]; · iexact H2
    isplitl [H3]; · iexact H3
    iapply (gate_leaves m c t); iexact H4
  · simp only [before4 m c t.val t rfl h0]
    iintro ⟨HΦ, Ho, ⟨%d0, H0⟩, ⟨%d1, H1⟩, ⟨%d2, H2⟩, ⟨%d3, H3⟩, ⟨%d4, H4⟩⟩
    iapply ((run_later c (grid0.coords t) _ _ _ _ _ _ _ _ _ _ (fun h => h0 ((first_iff t).mp h)) (iblk m c 0 t) (iblk m c 1 t) (iblk m c 2 t) (k0_pay2 (iblk m c 0 t) (iblk m c 2 t))) Set.univ _)
    isplitl [H0]; · iexact H0
    isplitl [H1]; · iexact H1
    isplitl [H2]; · iexact H2
    isplitl [H3]; · iexists _; iexact H3
    isplitl [H4]; · iexact H4
    iintro ⟨H0, H1, H2, H3, H4⟩
    isplitl [HΦ]; · iexact HΦ
    isplitl [Ho]; · iexact Ho
    isplitl [H0]; · iexact H0
    isplitl [H1]; · iexact H1
    isplitl [H2]; · iexact H2
    isplitl [H3]; · iexact H3
    iapply (gate_leaves m c t); iexact H4

/-- The body table's row at point `t`'s slots is the body there. -/
theorem row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, row]
  exact triple_restated (sound_body m c t) rfl .rfl fun _ => .rfl

set_option backward.isDefEq.respectTransparency.types false in
/-- Every run terminates with each array at what the proof data say, and every counter at zero. -/
theorem run_quiescent : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

theorem run_main : θ_run defs (onTc (τ := τ) (main (F := F))) (s₀ m ρ) (Pipeline.FramePost cfgs (dats m) 0 (V m)) :=
  (θ_run defs _ _).mono (fun _ h => h.1) (run_quiescent m ρ)

/-- The frame: the arguments end as launched and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (frame_of m ρ (dats m) (A_eq m) (run_main m ρ)) ((θ_run defs _ _).mono (fun _ h => h.2) (run_quiescent m ρ))

/-- The run with both result arrays named. -/
theorem run_blocks : θ_run defs (onTc (τ := τ) (main (F := F))) ⟨m, fun _ => 0, ρ⟩ fun r => ∀ c : Dev nD,
      r.2.mem ((c : Thread nD τ).loc main_v0_0) = (dats m 0 c).arrAt 3 cfg0.N
      ∧ r.2.mem ((c : Thread nD τ).loc main_v0_1) = (dats m 0 c).arrAt 4 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1 3, (h c).1 4,
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c)))⟩)
    (run_main m ρ)

end Cert.InprojIdeal.Run2

end
-- ==== Proof.InprojValue.lean ====
/- The value of the input projection's kernel at the extended reals: its two result arrays are the reference's terms
   of the same arguments. A tile of the large product needs its 1024 rows and its 1024 weight rows whole, so each
   element's sum over the 4096 features is the same sum on both sides. -/
module

public import proofs.«01_k».proof.Proof.InprojIdealRun
public import proofs.«01_k».proof.Proof.Gen.InprojRefIdeal.Run
public import Idealize.ShloMosaic.Lib.Pipeline.ValueKit
public import Idealize.ShloMosaic.Lib.KernelVsHost

@[expose] public section

set_option maxRecDepth 16384

noncomputable section

open Idealize.ShloMosaic Idealize.ShloMosaic.TcCoe Idealize.SL.Sem
open Idealize.ShloMosaic.Pipeline (Dat)

namespace Cert.InprojIdeal.Value2

open Cert.InprojIdeal Cert.InprojIdeal.Gen Cert.InprojIdeal.Run2

variable (m : (ℓ : Loc nD τ sig) → Buf (Elt Ideal) ℓ)

/-- The reference's large product as one term of its arguments. -/
abbrev REFp (h : FVec Ideal Cert.InprojRefIdeal.S16384x4096 .bf16) (w : FVec Ideal Cert.InprojRefIdeal.S10240x4096 .bf16) :
    FVec Ideal Cert.InprojRefIdeal.S16384x10240 .bf16 :=
  truncf .bf16 (Host.dotGeneral Cert.InprojRefIdeal.dot_S16384x4096_S4096x10240_S16384x10240_1_0_0_1_n_n none
    (extf .f32 h Cert.InprojRefIdeal.Gen.bitsLt_bf16_f32)
    (transpose Cert.InprojRefIdeal.S4096x10240 [1, 0] (extf .f32 w Cert.InprojRefIdeal.Gen.bitsLt_bf16_f32)
      Cert.InprojRefIdeal.Gen.transposes_S10240x4096_S4096x10240_1_0)) Cert.InprojRefIdeal.Gen.bitsLt_bf16_f32

/-- The reference's gate product as one term of its arguments. -/
abbrev REFg (h : FVec Ideal Cert.InprojRefIdeal.S16384x4096 .bf16) (w : FVec Ideal Cert.InprojRefIdeal.S128x4096 .bf16) :
    FVec Ideal Cert.InprojRefIdeal.S16384x128 .f32 :=
  Host.dotGeneral Cert.InprojRefIdeal.dot_S16384x4096_S4096x128_S16384x128_1_0_0_1_n_n none
    (extf .f32 h Cert.InprojRefIdeal.Gen.bitsLt_bf16_f32)
    (transpose Cert.InprojRefIdeal.S4096x128 [1, 0] (extf .f32 w Cert.InprojRefIdeal.Gen.bitsLt_bf16_f32)
      Cert.InprojRefIdeal.Gen.transposes_S128x4096_S4096x128_1_0)

/-- Where each window's block stands at grid point `t`. -/
theorem idx : ∀ t : Fin cfg0.N, win0_0.index t = ![t.val / 10, 0] ∧ win0_1.index t = ![t.val % 10, 0]
    ∧ win0_2.index t = ![0, 0] ∧ win0_3.index t = ![t.val / 10, t.val % 10] ∧ win0_4.index t = ![t.val / 10, 0] :=
  (by decide +kernel : ∀ t : Fin grid0.N, _)

/-- What point `t` stores of the large product is the reference's at the array index. -/
theorem point_p (c : Dev nD) (t : Fin cfg0.N) (y) :
    k0_pay1 (iblk m c 0 t) (iblk m c 1 t) y
      = REFp (m ((c : Thread nD τ).loc main_arg0)) (m ((c : Thread nD τ).loc main_arg1))
          (((cfg0.win 3).blk t).view.emb y) := by
  pointwise [k0_pay1, REFp]
  blk_point [iblk, V, idx t]

/-- What point `t` stores of the gate's product is the reference's at the array index. -/
theorem point_g (c : Dev nD) (t : Fin cfg0.N) (y) :
    k0_pay2 (iblk m c 0 t) (iblk m c 2 t) y
      = REFg (m ((c : Thread nD τ).loc main_arg0)) (m ((c : Thread nD τ).loc main_arg2))
          (((cfg0.win 4).blk t).view.emb y) := by
  pointwise [k0_pay2, REFg]
  blk_point [iblk, V, idx t]

/-- The kernel's large product after the run is the reference's. -/
theorem final_p (c : Dev nD) :
    (dats m 0 c).arrAt 3 (cfgs 0).N
      = REFp (m ((c : Thread nD τ).loc main_arg0)) (m ((c : Thread nD τ).loc main_arg1)) := by
  refine (dats m 0 c).arrAt_eq_of_covers 3 _ (by decide +kernel) fun t _ y => ?_
  blk_simp
  rw [after3]
  exact point_p m c t y

/-- The kernel's gate product after the run is the reference's. -/
theorem final_g (c : Dev nD) :
    (dats m 0 c).arrAt 4 (cfgs 0).N
      = REFg (m ((c : Thread nD τ).loc main_arg0)) (m ((c : Thread nD τ).loc main_arg2)) := by
  refine (dats m 0 c).arrAt_eq_of_covers 4 _ (by decide +kernel) fun t _ y => ?_
  blk_simp
  rw [after4]
  exact point_g m c t y

end Cert.InprojIdeal.Value2
-- ==== Proof.GluValue.lean ====
/- The value of the gated linear unit's kernel at the extended reals: its result array is the
   reference's term of the same arguments. Each grid point makes 1024 rows; a row needs the whole
   weight matrix, so the products' sums are the same sums on both sides, and what differs is only the
   spelling of the sigmoid and of the SiLU. -/
module

public import proofs.«01_k».proof.Proof.Gen.GluIdeal.Value
public import proofs.«01_k».proof.Proof.Gen.GluRefIdeal
public import proofs.«01_k».proof.Proof.RealFns
public import Idealize.ShloMosaic.Lib.Pipeline.ValueKit
public import Idealize.ShloMosaic.Lib.KernelVsHost

@[expose] public section

set_option maxRecDepth 16384

noncomputable section

open Idealize.ShloMosaic Idealize.ShloMosaic.TcCoe Idealize.SL.Sem
open Idealize.ShloMosaic.Pipeline (Dat)

namespace Cert.GluIdeal.Value2

open Cert.GluIdeal Cert.GluIdeal.Gen

variable (m : (ℓ : Loc nD τ sig) → Buf (Elt Ideal) ℓ)

/-- The reference's result as one term of the four arguments. -/
abbrev REF (y : FVec Ideal S16384x2048 .bf16) (p : FVec Ideal S16384x10240 .bf16)
    (w : FVec Ideal S2048x2048 .f32) (b : FVec Ideal S2048 .f32) : FVec Ideal S16384x2048 .bf16 :=
  truncf .bf16 (mulf (mulf (extf .f32 y Cert.GluRefIdeal.Gen.bitsLt_bf16_f32) (Host.divf (broadcastInDim Cert.GluRefIdeal.S16384x2048 ![] Cert.GluRefIdeal.Gen.bcast_S_S16384x2048 (constant Cert.GluRefIdeal.S_ .f32 0x3F800000#32)) (addf (broadcastInDim Cert.GluRefIdeal.S16384x2048 ![] Cert.GluRefIdeal.Gen.bcast_S_S16384x2048 (constant Cert.GluRefIdeal.S_ .f32 0x3F800000#32)) (Host.exp (Host.negf (addf (Host.dotGeneral Cert.GluRefIdeal.dot_S16384x2048_S2048x2048_S16384x2048_1_0_0_1_n_n none (extf .f32 y Cert.GluRefIdeal.Gen.bitsLt_bf16_f32) w) (broadcastInDim Cert.GluRefIdeal.S16384x2048 ![0, 1] Cert.GluRefIdeal.Gen.bcast_S1x2048_S16384x2048_0_1 (broadcastInDim Cert.GluRefIdeal.S1x2048 ![1] Cert.GluRefIdeal.Gen.bcast_S2048_S1x2048_1 b)))))))) (mulf (extf .f32 (extractStridedSlice Cert.GluRefIdeal.S16384x2048 ![0, 8192] p Cert.GluRefIdeal.Gen.slices_S16384x10240_S16384x2048_0_8192) Cert.GluRefIdeal.Gen.bitsLt_bf16_f32) (Host.divf (broadcastInDim Cert.GluRefIdeal.S16384x2048 ![] Cert.GluRefIdeal.Gen.bcast_S_S16384x2048 (constant Cert.GluRefIdeal.S_ .f32 0x3F800000#32)) (addf (broadcastInDim Cert.GluRefIdeal.S16384x2048 ![] Cert.GluRefIdeal.Gen.bcast_S_S16384x2048 (constant Cert.GluRefIdeal.S_ .f32 0x3F800000#32)) (Host.exp (Host.negf (extf .f32 (extractStridedSlice Cert.GluRefIdeal.S16384x2048 ![0, 8192] p Cert.GluRefIdeal.Gen.slices_S16384x10240_S16384x2048_0_8192) Cert.GluRefIdeal.Gen.bitsLt_bf16_f32))))))) Cert.GluRefIdeal.Gen.bitsLt_bf16_f32

/-- Where each window's block stands at grid point `t`. -/
theorem idx : ∀ t : Fin cfg0.N, win0_0.index t = ![t.val, 0] ∧ win0_1.index t = ![t.val, 4]
    ∧ win0_2.index t = ![0, 0] ∧ win0_3.index t = ![0, 0] ∧ win0_4.index t = ![t.val, 0] :=
  (by decide +kernel : ∀ t : Fin grid0.N, _)

/-- What point `t` stores at block index `y` is the reference's term at the array index of `y`. -/
theorem point (c : Dev nD) (t : Fin cfg0.N) (y)
    (hp : ∀ i, ∃ r : ℝ, (m ((c : Thread nD τ).loc main_arg1) : FVec Ideal S16384x10240 .bf16) i = (r : EReal)) :
    k0_pay1 (iblk m c 0 t) (iblk m c 2 t) (iblk m c 3 t) (iblk m c 1 t) y
      = REF (m ((c : Thread nD τ).loc main_arg0)) (m ((c : Thread nD τ).loc main_arg1))
          (m ((c : Thread nD τ).loc main_arg2)) (m ((c : Thread nD τ).loc main_arg3))
          (((cfg0.win 4).blk t).view.emb y) := by
  pointwise [k0_pay1, REF]
  obtain ⟨z, hz⟩ : ∃ z : ℝ, (iblk m c 1 t : FVec Ideal S1024x2048 .bf16) y = (z : EReal) := by
    obtain ⟨z, hz⟩ := hp (((cfg0.win 1).blk t).view.emb y)
    exact ⟨z, hz⟩
  rw [RealFns.ofBits_half, RealFns.sigmoid_eq, hz, RealFns.silu_eq, ← hz]
  blk_point [iblk, V, idx t]

/-- The kernel's result array after the run is the reference's term of the arguments. -/
theorem final (c : Dev nD)
    (hp : ∀ i, ∃ r : ℝ, (m ((c : Thread nD τ).loc main_arg1) : FVec Ideal S16384x10240 .bf16) i = (r : EReal)) :
    (dats m 0 c).arrAt 4 (cfgs 0).N
      = REF (m ((c : Thread nD τ).loc main_arg0)) (m ((c : Thread nD τ).loc main_arg1))
          (m ((c : Thread nD τ).loc main_arg2)) (m ((c : Thread nD τ).loc main_arg3)) := by
  refine (dats m 0 c).arrAt_eq_of_covers 4 _ (by decide +kernel) fun t _ y => ?_
  blk_simp
  rw [after0_4]; frame_out
  exact point m c t y hp

end Cert.GluIdeal.Value2
-- ==== Proof.OutValue.lean ====
/- The value of the output projection's kernel at the extended reals: its result array is the
   reference's term of the same arguments. -/
module

public import proofs.«01_k».proof.Proof.Gen.OutprojIdeal.Value
public import proofs.«01_k».proof.Proof.Gen.OutprojRefIdeal.Run
public import Idealize.ShloMosaic.Lib.Pipeline.ValueKit
public import Idealize.ShloMosaic.Lib.KernelVsHost

@[expose] public section

set_option maxRecDepth 16384

noncomputable section

open Idealize.ShloMosaic Idealize.ShloMosaic.TcCoe Idealize.SL.Sem
open Idealize.ShloMosaic.Pipeline (Dat)

namespace Cert.OutprojIdeal.Value2

open Cert.OutprojIdeal Cert.OutprojIdeal.Gen

variable (m : (ℓ : Loc nD τ sig) → Buf (Elt Ideal) ℓ)

/-- The layer norm of a row `r` with scale `g` and shift `b`, at column `j`. -/
def lnAt (r g b : Fin 4096 → EReal) (j : Fin 4096) : EReal :=
  (r j - Ideal.div (∑ k, r k) (Ideal.ofBits .f32 0x45800000#32))
      * Ideal.rsqrt (Ideal.div (∑ k, (r k - Ideal.div (∑ k, r k) (Ideal.ofBits .f32 0x45800000#32))
            * (r k - Ideal.div (∑ k, r k) (Ideal.ofBits .f32 0x45800000#32))) (Ideal.ofBits .f32 0x45800000#32)
          + Ideal.ofBits .f32 0x3727C5AC#32)
      * g j + b j

/-- One mixed element: the scaled residual `x` plus the gate `g` times the two halves' products. -/
def mixAt (x g : EReal) (o s w w' : Fin 2048 → EReal) : EReal :=
  Ideal.ofBits .f32 0x3F9837F0#32 * x + g * ((∑ k, o k * w k) + ∑ k, s k * w' k)

/-- The first half's stored rows are the layer norm of its mixed rows. -/
theorem ln_first (v0 : Vec Ideal S128x2048 .bf16) (v1 : Vec Ideal S2048x4096 .bf16) (v4 : Vec Ideal S128x2048 .bf16)
    (v5 : Vec Ideal S2048x4096 .bf16) (v9 : Vec Ideal S128x4096 .f32) (v13 : Vec Ideal S1x1x1x4096 .f32)
    (g b : Vec Ideal S1x4096 .f32) (q : Fin 128) (j : Fin 4096) :
    k0_pay6 (k0_pay4 v0 v1 v4 v5 v9 v13) (k0_pay5 v0 v1 v4 v5 v9 v13 (k0_pay3 v0 v1 v4 v5 v9 v13))
        (k0_pay3 v0 v1 v4 v5 v9 v13) g b (ix2 q j)
      = lnAt (fun k => k0_pay3 v0 v1 v4 v5 v9 v13 (ix2 q k)) (fun k => g (ix2 0 k)) (fun k => b (ix2 0 k)) j := by
  unfold k0_pay5 k0_pay4
  generalize k0_pay3 v0 v1 v4 v5 v9 v13 = R
  unfold lnAt
  pointwise [k0_pay6]

/-- The second half's stored rows are the layer norm of its mixed rows. -/
theorem ln_second (v58 v62 v65 : FVec Ideal S128x4096 .f32) (g b : Vec Ideal S1x4096 .f32) (q : Fin 128)
    (j : Fin 4096) :
    k0_pay2 v58 v62 v65 (k0_pay1 v58 v62 v65) (k0_pay1 v58 v62 v65) g b (ix2 q j)
      = lnAt (fun k => k0_pay1 v58 v62 v65 (ix2 q k)) (fun k => g (ix2 0 k)) (fun k => b (ix2 0 k)) j := by
  unfold k0_pay2
  generalize k0_pay1 v58 v62 v65 = R
  unfold lnAt
  pointwise []

section Reference

open Cert.OutprojRefIdeal Cert.OutprojRefIdeal.Gen

/-- The reference's mixed rows before the layer norm: `alpha x + gate (o_gla, o_s5) w`. -/
abbrev mixR (a0 : FVec Ideal Cert.OutprojRefIdeal.S16384x2048 .bf16) (a1 : FVec Ideal Cert.OutprojRefIdeal.S16384x2048 .bf16)
    (a2 : FVec Ideal Cert.OutprojRefIdeal.S1x4096x4096 .f32) (a3 : FVec Ideal Cert.OutprojRefIdeal.S4x4096x4096 .f32)
    (a4 : FVec Ideal Cert.OutprojRefIdeal.S4x3x1x4096 .f32) : FVec Ideal Cert.OutprojRefIdeal.S4x4096x4096 .f32 :=
  addf (mulf (broadcastInDim Cert.OutprojRefIdeal.S4x4096x4096 ![] Cert.OutprojRefIdeal.Gen.bcast_S_S4x4096x4096 (constant Cert.OutprojRefIdeal.S_ .f32 0x3F9837F0#32)) a3) (mulf (broadcastInDim Cert.OutprojRefIdeal.S4x4096x4096 ![0, 1, 2] Cert.OutprojRefIdeal.Gen.bcast_S4x1x4096_S4x4096x4096_0_1_2 (shapeCast _ (extractStridedSlice Cert.OutprojRefIdeal.S4x1x1x4096 ![0, 2, 0, 0] a4 Cert.OutprojRefIdeal.Gen.slices_S4x3x1x4096_S4x1x1x4096_0_2_0_0) Cert.OutprojRefIdeal.Gen.shapeCasts_S4x1x1x4096_S4x1x4096)) (Host.dotGeneral Cert.OutprojRefIdeal.dot_S4x4096x4096_S4096x4096_S4x4096x4096_2_0_01_1_n_n none (concatenate Cert.OutprojRefIdeal.S4x4096x4096 2 [⟨Cert.OutprojRefIdeal.S4x4096x2048, (shapeCast _ (extf .f32 a0 Cert.OutprojRefIdeal.Gen.bitsLt_bf16_f32) Cert.OutprojRefIdeal.Gen.shapeCasts_S16384x2048_S4x4096x2048)⟩, ⟨Cert.OutprojRefIdeal.S4x4096x2048, (shapeCast _ (extf .f32 a1 Cert.OutprojRefIdeal.Gen.bitsLt_bf16_f32) Cert.OutprojRefIdeal.Gen.shapeCasts_S16384x2048_S4x4096x2048)⟩] Cert.OutprojRefIdeal.Gen.concatenates_S4x4096x2048_S4x4096x2048_S4x4096x4096_d2) (shapeCast _ a2 Cert.OutprojRefIdeal.Gen.shapeCasts_S1x4096x4096_S4096x4096)))

/-- The reference's column of row means of `R`. -/
abbrev meanR (R : FVec Ideal Cert.OutprojRefIdeal.S4x4096x4096 .f32) : FVec Ideal Cert.OutprojRefIdeal.S4x4096x1 .f32 :=
  Host.divf (broadcastInDim Cert.OutprojRefIdeal.S4x4096x1 ![0, 1] Cert.OutprojRefIdeal.Gen.bcast_S4x4096_S4x4096x1_0_1 (Host.reduceAdd R (constant Cert.OutprojRefIdeal.S_ .f32 0x00000000#32) Cert.OutprojRefIdeal.Gen.reducesTo_S4x4096x4096_S4x4096_d2 Cert.OutprojRefIdeal.Gen.h_S_)) (broadcastInDim Cert.OutprojRefIdeal.S4x4096x1 ![] Cert.OutprojRefIdeal.Gen.bcast_S_S4x4096x1 (constant Cert.OutprojRefIdeal.S_ .f32 0x45800000#32))

/-- The reference's rows less their means. -/
abbrev centR (R : FVec Ideal Cert.OutprojRefIdeal.S4x4096x4096 .f32) : FVec Ideal Cert.OutprojRefIdeal.S4x4096x4096 .f32 :=
  subf R (broadcastInDim Cert.OutprojRefIdeal.S4x4096x4096 ![0, 1, 2] Cert.OutprojRefIdeal.Gen.bcast_S4x4096x1_S4x4096x4096_0_1_2 (meanR R))

/-- The reference's layer norm of `R`. -/
abbrev lnR (R : FVec Ideal Cert.OutprojRefIdeal.S4x4096x4096 .f32) (g b : FVec Ideal Cert.OutprojRefIdeal.S1x4096 .f32) :
    FVec Ideal Cert.OutprojRefIdeal.S4x4096x4096 .f32 :=
  addf (mulf (mulf (centR R) (broadcastInDim Cert.OutprojRefIdeal.S4x4096x4096 ![0, 1, 2] Cert.OutprojRefIdeal.Gen.bcast_S4x4096x1_S4x4096x4096_0_1_2 (Host.rsqrt (addf (meanR (mulf (centR R) (centR R))) (broadcastInDim Cert.OutprojRefIdeal.S4x4096x1 ![] Cert.OutprojRefIdeal.Gen.bcast_S_S4x4096x1 (constant Cert.OutprojRefIdeal.S_ .f32 0x3727C5AC#32)))))) (broadcastInDim Cert.OutprojRefIdeal.S4x4096x4096 ![0, 1, 2] Cert.OutprojRefIdeal.Gen.bcast_S1x1x4096_S4x4096x4096_0_1_2 (broadcastInDim Cert.OutprojRefIdeal.S1x1x4096 ![2] Cert.OutprojRefIdeal.Gen.bcast_S4096_S1x1x4096_2 (shapeCast _ g Cert.OutprojRefIdeal.Gen.shapeCasts_S1x4096_S4096)))) (broadcastInDim Cert.OutprojRefIdeal.S4x4096x4096 ![0, 1, 2] Cert.OutprojRefIdeal.Gen.bcast_S1x1x4096_S4x4096x4096_0_1_2 (broadcastInDim Cert.OutprojRefIdeal.S1x1x4096 ![2] Cert.OutprojRefIdeal.Gen.bcast_S4096_S1x1x4096_2 (shapeCast _ b Cert.OutprojRefIdeal.Gen.shapeCasts_S1x4096_S4096)))

/-- The reference's result as one term of its seven arguments. -/
def REF (a0 a1 : FVec Ideal Cert.OutprojRefIdeal.S16384x2048 .bf16)
    (a2 : FVec Ideal Cert.OutprojRefIdeal.S1x4096x4096 .f32) (a3 : FVec Ideal Cert.OutprojRefIdeal.S4x4096x4096 .f32)
    (a4 : FVec Ideal Cert.OutprojRefIdeal.S4x3x1x4096 .f32) (g b : FVec Ideal Cert.OutprojRefIdeal.S1x4096 .f32) :
    FVec Ideal Cert.OutprojRefIdeal.S16384x4096 .f32 :=
  shapeCast _ (lnR (mixR a0 a1 a2 a3 a4) g b) Cert.OutprojRefIdeal.Gen.shapeCasts_S4x4096x4096_S16384x4096

/-- The reference's run ends at that term. -/
theorem res_eq (m' : (ℓ : Loc Cert.OutprojRefIdeal.nD Cert.OutprojRefIdeal.τ Cert.OutprojRefIdeal.sig) → Buf (Elt Ideal) ℓ) (c : Dev Cert.OutprojRefIdeal.nD) :
    Cert.OutprojRefIdeal.Value.res_main_v40 m' c
      = REF (m' ((c.tc : Thread Cert.OutprojRefIdeal.nD Cert.OutprojRefIdeal.τ).loc Cert.OutprojRefIdeal.main_arg0))
          (m' ((c.tc : Thread Cert.OutprojRefIdeal.nD Cert.OutprojRefIdeal.τ).loc Cert.OutprojRefIdeal.main_arg1))
          (m' ((c.tc : Thread Cert.OutprojRefIdeal.nD Cert.OutprojRefIdeal.τ).loc Cert.OutprojRefIdeal.main_arg2))
          (m' ((c.tc : Thread Cert.OutprojRefIdeal.nD Cert.OutprojRefIdeal.τ).loc Cert.OutprojRefIdeal.main_arg3))
          (m' ((c.tc : Thread Cert.OutprojRefIdeal.nD Cert.OutprojRefIdeal.τ).loc Cert.OutprojRefIdeal.main_arg4))
          (m' ((c.tc : Thread Cert.OutprojRefIdeal.nD Cert.OutprojRefIdeal.τ).loc Cert.OutprojRefIdeal.main_arg5))
          (m' ((c.tc : Thread Cert.OutprojRefIdeal.nD Cert.OutprojRefIdeal.τ).loc Cert.OutprojRefIdeal.main_arg6)) := rfl

/-- The reference's layer norm read at an index. -/
theorem lnR_at (R : FVec Ideal Cert.OutprojRefIdeal.S4x4096x4096 .f32) (g b : FVec Ideal Cert.OutprojRefIdeal.S1x4096 .f32)
    (n : Fin 4) (s j : Fin 4096) :
    lnR R g b (ix3 n s j) = lnAt (fun k => R (ix3 n s k)) (fun k => g (ix2 0 k)) (fun k => b (ix2 0 k)) j := by
  unfold lnAt
  pointwise []

/-- The reference's result read at an index: row `i` is token `i mod 4096` of sequence `i / 4096`. -/
theorem REF_at (a0 a1 : FVec Ideal Cert.OutprojRefIdeal.S16384x2048 .bf16)
    (a2 : FVec Ideal Cert.OutprojRefIdeal.S1x4096x4096 .f32) (a3 : FVec Ideal Cert.OutprojRefIdeal.S4x4096x4096 .f32)
    (a4 : FVec Ideal Cert.OutprojRefIdeal.S4x3x1x4096 .f32) (g b : FVec Ideal Cert.OutprojRefIdeal.S1x4096 .f32)
    (i : Fin 16384) (j : Fin 4096) (n : Fin 4) (s : Fin 4096) (h : i.val = n.val * 4096 + s.val) :
    REF a0 a1 a2 a3 a4 g b (ix2 i j)
      = lnAt (fun k => mixR a0 a1 a2 a3 a4 (ix3 n s k)) (fun k => g (ix2 0 k)) (fun k => b (ix2 0 k)) j := by
  rw [← lnR_at]
  unfold REF
  generalize lnR (mixR a0 a1 a2 a3 a4) g b = Y
  pointwise []
  have e1 : (⟨i.val / 4096, by omega⟩ : Fin 4) = n := Fin.ext (by dsimp only; omega)
  have e2 : (⟨i.val % 4096, by omega⟩ : Fin 4096) = s := Fin.ext (by dsimp only; omega)
  rw [e1, e2]

/-- The reference's mixed rows read at an index. -/
theorem mixR_at (a0 a1 : FVec Ideal Cert.OutprojRefIdeal.S16384x2048 .bf16)
    (a2 : FVec Ideal Cert.OutprojRefIdeal.S1x4096x4096 .f32) (a3 : FVec Ideal Cert.OutprojRefIdeal.S4x4096x4096 .f32)
    (a4 : FVec Ideal Cert.OutprojRefIdeal.S4x3x1x4096 .f32)
    (i : Fin 16384) (j : Fin 4096) (n : Fin 4) (s : Fin 4096) (h : i.val = n.val * 4096 + s.val) :
    mixR a0 a1 a2 a3 a4 (ix3 n s j)
      = mixAt (a3 (ix3 n s j)) (a4 (ix4 n 2 0 j)) (fun k => a0 (ix2 i k)) (fun k => a1 (ix2 i k))
          (fun k => a2 (ix3 0 ⟨k.val, by omega⟩ j)) (fun k => a2 (ix3 0 ⟨2048 + k.val, by omega⟩ j)) := by
  unfold mixAt
  obtain ⟨v, hv⟩ := i
  obtain rfl : v = n.val * 4096 + s.val := h
  pointwise []

end Reference

/-- The first half's mixed rows read at an index. -/
theorem mix_first (v0 : Vec Ideal S128x2048 .bf16) (v1 : Vec Ideal S2048x4096 .bf16) (v4 : Vec Ideal S128x2048 .bf16)
    (v5 : Vec Ideal S2048x4096 .bf16) (v9 : Vec Ideal S128x4096 .f32) (v13 : Vec Ideal S1x1x1x4096 .f32)
    (q : Fin 128) (j : Fin 4096) :
    k0_pay3 v0 v1 v4 v5 v9 v13 (ix2 q j)
      = mixAt (v9 (ix2 q j)) (v13 (ix4 0 0 0 j)) (fun k => v0 (ix2 q k)) (fun k => v4 (ix2 q k))
          (fun k => v1 (ix2 k j)) (fun k => v5 (ix2 k j)) := by
  unfold mixAt
  pointwise [k0_pay3]

/-- The second half's mixed rows read at an index. -/
theorem mix_second (v0 : Vec Ideal S128x2048 .bf16) (v1 : Vec Ideal S2048x4096 .bf16) (v4 : Vec Ideal S128x2048 .bf16)
    (v5 : Vec Ideal S2048x4096 .bf16) (v9 : Vec Ideal S128x4096 .f32) (v13 : Vec Ideal S1x1x1x4096 .f32)
    (q : Fin 128) (j : Fin 4096) :
    k0_pay1 (k0_pay7 v0 v1 v4 v5) (k0_pay8 v9) (k0_pay9 v13) (ix2 q j)
      = mixAt (v9 (ix2 q j)) (v13 (ix4 0 0 0 j)) (fun k => v0 (ix2 q k)) (fun k => v4 (ix2 q k))
          (fun k => v1 (ix2 k j)) (fun k => v5 (ix2 k j)) := by
  unfold mixAt
  pointwise [k0_pay1, k0_pay7, k0_pay8, k0_pay9]

/-- Where each window's block stands at grid point `t`. -/
theorem idx : ∀ t : Fin cfg0.N, win0_0.index t = ![t.val, 0] ∧ win0_1.index t = ![t.val, 0]
    ∧ win0_2.index t = ![0, 0] ∧ win0_3.index t = ![1, 0] ∧ win0_4.index t = ![t.val, 0]
    ∧ win0_5.index t = ![t.val / 16, 2, 0, 0] ∧ win0_6.index t = ![0, 0] ∧ win0_7.index t = ![0, 0]
    ∧ win0_8.index t = ![t.val, 0] :=
  (by decide +kernel : ∀ t : Fin grid0.N, _)

/-- The reference's term of the kernel's arguments. -/
abbrev refOf (c : Dev nD) : FVec Ideal S16384x4096 .f32 :=
  REF (m ((c : Thread nD τ).loc main_arg0)) (m ((c : Thread nD τ).loc main_arg1))
    (m ((c : Thread nD τ).loc main_arg2)) (m ((c : Thread nD τ).loc main_arg3))
    (m ((c : Thread nD τ).loc main_arg4)) (m ((c : Thread nD τ).loc main_arg5))
    (m ((c : Thread nD τ).loc main_arg6))

theorem w0 (c : Dev nD) (t : Fin cfg0.N) (u : Fin 256) (k : Fin 2048) (ht : t.val < 64) :
    (iblk m c 0 t : FVec Ideal S256x2048 .bf16) (ix2 u k)
      = (m ((c : Thread nD τ).loc main_arg0) : FVec Ideal S16384x2048 .bf16) (ix2 ⟨t.val * 256 + u.val, by omega⟩ k) := by
  blk_point [iblk, V, idx t]

theorem w1 (c : Dev nD) (t : Fin cfg0.N) (u : Fin 256) (k : Fin 2048) (ht : t.val < 64) :
    (iblk m c 1 t : FVec Ideal S256x2048 .bf16) (ix2 u k)
      = (m ((c : Thread nD τ).loc main_arg1) : FVec Ideal S16384x2048 .bf16) (ix2 ⟨t.val * 256 + u.val, by omega⟩ k) := by
  blk_point [iblk, V, idx t]

theorem w2 (c : Dev nD) (t : Fin cfg0.N) (k : Fin 2048) (j : Fin 4096) :
    (iblk m c 2 t : FVec Ideal S2048x4096 .bf16) (ix2 k j)
      = (m ((c : Thread nD τ).loc main_arg2) : FVec Ideal S1x4096x4096 .f32) (ix3 0 ⟨k.val, by omega⟩ j) := by
  blk_point [iblk, V, idx t]

theorem w3 (c : Dev nD) (t : Fin cfg0.N) (k : Fin 2048) (j : Fin 4096) :
    (iblk m c 3 t : FVec Ideal S2048x4096 .bf16) (ix2 k j)
      = (m ((c : Thread nD τ).loc main_arg2) : FVec Ideal S1x4096x4096 .f32) (ix3 0 ⟨2048 + k.val, by omega⟩ j) := by
  blk_point [iblk, V, idx t]

theorem w4 (c : Dev nD) (t : Fin cfg0.N) (u : Fin 256) (j : Fin 4096) (ht : t.val < 64) :
    (iblk m c 4 t : FVec Ideal S256x4096 .f32) (ix2 u j)
      = (m ((c : Thread nD τ).loc main_arg3) : FVec Ideal S4x4096x4096 .f32)
          (ix3 ⟨t.val / 16, by omega⟩ ⟨t.val % 16 * 256 + u.val, by omega⟩ j) := by
  blk_point [iblk, V, idx t]

theorem w5 (c : Dev nD) (t : Fin cfg0.N) (j : Fin 4096) (ht : t.val < 64) :
    (iblk m c 5 t : FVec Ideal S1x1x1x4096 .f32) (ix4 0 0 0 j)
      = (m ((c : Thread nD τ).loc main_arg4) : FVec Ideal S4x3x1x4096 .f32) (ix4 ⟨t.val / 16, by omega⟩ 2 0 j) := by
  blk_point [iblk, V, idx t]

theorem w6 (c : Dev nD) (t : Fin cfg0.N) (j : Fin 4096) :
    (iblk m c 6 t : FVec Ideal S1x4096 .f32) (ix2 0 j)
      = (m ((c : Thread nD τ).loc main_arg5) : FVec Ideal S1x4096 .f32) (ix2 0 j) := by
  blk_point [iblk, V, idx t]

theorem w7 (c : Dev nD) (t : Fin cfg0.N) (j : Fin 4096) :
    (iblk m c 7 t : FVec Ideal S1x4096 .f32) (ix2 0 j)
      = (m ((c : Thread nD τ).loc main_arg6) : FVec Ideal S1x4096 .f32) (ix2 0 j) := by
  blk_point [iblk, V, idx t]

theorem w8 (t : Fin cfg0.N) (u : Fin 256) (j : Fin 4096) (ht : t.val < 64) :
    ((View.whole main_v7).slice (win0_8.rect t)).emb (ix2 u j) = (ix2 ⟨t.val * 256 + u.val, by omega⟩ j : S16384x4096.Idx) := by
  blk_point [idx t]

/-- Row `u` of block `t`, mixed and normed from the arguments, is the reference's row `256 t + u`. -/
theorem row_point (c : Dev nD) (t : Fin cfg0.N) (u : Fin 256) (j : Fin 4096) (ht : t.val < 64) :
    lnAt (fun k => mixAt ((iblk m c 4 t : FVec Ideal S256x4096 .f32) (ix2 u k)) ((iblk m c 5 t : FVec Ideal S1x1x1x4096 .f32) (ix4 0 0 0 k))
        (fun l => (iblk m c 0 t : FVec Ideal S256x2048 .bf16) (ix2 u l)) (fun l => (iblk m c 1 t : FVec Ideal S256x2048 .bf16) (ix2 u l))
        (fun l => (iblk m c 2 t : FVec Ideal S2048x4096 .bf16) (ix2 l k)) (fun l => (iblk m c 3 t : FVec Ideal S2048x4096 .bf16) (ix2 l k)))
        (fun k => (iblk m c 6 t : FVec Ideal S1x4096 .f32) (ix2 0 k))
        (fun k => (iblk m c 7 t : FVec Ideal S1x4096 .f32) (ix2 0 k)) j
      = refOf m c (((View.whole main_v7).slice (win0_8.rect t)).emb (ix2 u j)) := by
  refine Eq.trans ?_ (congrArg (refOf m c) (w8 t u j ht).symm)
  unfold refOf
  rw [REF_at _ _ _ _ _ _ _ _ _ ⟨t.val / 16, by omega⟩ ⟨t.val % 16 * 256 + u.val, by omega⟩ (by dsimp only; omega)]
  rw [funext fun k => w6 m c t k, funext fun k => w7 m c t k]
  refine congrArg (fun r => lnAt r _ _ j) (funext fun k => ?_)
  rw [mixR_at _ _ _ _ _ ⟨t.val * 256 + u.val, by omega⟩ k _ _ (by dsimp only; omega), w4 m c t u k ht, w5 m c t k ht]
  rw [funext fun l => w0 m c t u l ht, funext fun l => w1 m c t u l ht, funext fun l => w2 m c t l k,
    funext fun l => w3 m c t l k]

/-- Where a row of a band of `b` rows starting at row `o` stands in the block. -/
theorem emb_band {r b n o : Nat} (inb) (q : Fin b) (j : Fin n) (h : o + q.val < r) :
    (Rect.unit (s := ⟨2, ![r, n]⟩) ![o, 0] ![b, n] inb).emb (ix2 q j) = ix2 ⟨o + q.val, h⟩ j :=
  funext fun a => Fin.ext (by
    match a with
    | ⟨0, _⟩ => exact congrArg (o + ·) (Nat.one_mul _)
    | ⟨1, _⟩ => exact (Nat.zero_add _).trans (Nat.one_mul _))

/-- What the four stores leave in a block of `2 b` rows: the lower half's last store and the upper half's. -/
theorem canon_two {b n r : Nat} (hr : r = b + b) (i0 i1) (P Q R T : (⟨2, ![b, n]⟩ : Shape).Idx → Elt Ideal .f32)
    (G : (⟨2, ![r, n]⟩ : Shape).Idx → Elt Ideal .f32)
    (hlo : ∀ (q : Fin b) (j : Fin n), R (ix2 q j) = G (ix2 ⟨q.val, by omega⟩ j))
    (hhi : ∀ (q : Fin b) (j : Fin n), P (ix2 q j) = G (ix2 ⟨b + q.val, by omega⟩ j)) (u : Fin r) (j : Fin n) :
    View.canon (Val := Elt Ideal) (e := .f32) (s := ⟨2, ![r, n]⟩)
        [⟨Rect.unit ![b, 0] ![b, n] i1, P⟩, ⟨Rect.unit ![b, 0] ![b, n] i1, Q⟩,
        ⟨Rect.unit ![0, 0] ![b, n] i0, R⟩, ⟨Rect.unit ![0, 0] ![b, n] i0, T⟩] (ix2 u j)
      = G (ix2 u j) := by
  by_cases h : u.val < b
  · have hn : (ix2 u j : (⟨2, ![r, n]⟩ : Shape).Idx) ∉ (Rect.unit (s := ⟨2, ![r, n]⟩) ![b, 0] ![b, n] i1).set := by
      rw [Rect.mem_set_unit]
      intro hall
      have h0 := (hall 0).1
      change b ≤ u.val at h0
      omega
    refine Eq.trans (View.canon_cons_of_not_mem _ _ ?_) ?_
    · exact hn
    refine Eq.trans (View.canon_cons_of_not_mem _ _ ?_) ?_
    · exact hn
    have e := emb_band (r := r) (n := n) i0 ⟨u.val, h⟩ j (by dsimp only; omega)
    have e' : (⟨0 + u.val, by omega⟩ : Fin r) = u := Fin.ext (Nat.zero_add _)
    rw [e'] at e
    exact (congrArg _ e.symm).trans ((View.canon_cons_emb _ _ _ _).trans (hlo ⟨u.val, h⟩ j))
  · have e := emb_band (r := r) (n := n) i1 ⟨u.val - b, by omega⟩ j (by dsimp only; omega)
    have e' : (⟨b + (u.val - b), by omega⟩ : Fin r) = u := Fin.ext (by dsimp only; omega)
    refine (congrArg _ (e.trans (congrArg (ix2 · j) e')).symm).trans ((View.canon_cons_emb _ _ _ _).trans ((hhi ⟨u.val - b, by omega⟩ j).trans ?_))
    exact congrArg (fun v => G (ix2 v j)) e'

/-- The lower half of a block, read at a row. -/
theorem ld_lo {n : Nat} {e : EltTy} (X : (⟨2, ![256, n]⟩ : Shape).Idx → Elt Ideal e) (inb) (q : Fin 128) (j : Fin n) :
    View.ld X (Rect.unit ![0, 0] ![128, n] inb) (ix2 q j) = X (ix2 ⟨q.val, by omega⟩ j) :=
  congrArg X (funext fun a => Fin.ext (by
    match a with
    | ⟨0, _⟩ => exact (Nat.zero_add _).trans (Nat.one_mul _)
    | ⟨1, _⟩ => exact (Nat.zero_add _).trans (Nat.one_mul _)))

/-- The upper half of a block, read at a row. -/
theorem ld_hi {n : Nat} {e : EltTy} (X : (⟨2, ![256, n]⟩ : Shape).Idx → Elt Ideal e) (inb) (q : Fin 128) (j : Fin n) :
    View.ld X (Rect.unit ![128, 0] ![128, n] inb) (ix2 q j) = X (ix2 ⟨128 + q.val, by omega⟩ j) :=
  congrArg X (funext fun a => Fin.ext (by
    match a with
    | ⟨0, _⟩ => exact congrArg (128 + ·) (Nat.one_mul _)
    | ⟨1, _⟩ => exact (Nat.zero_add _).trans (Nat.one_mul _)))

theorem mixAt_congr {x x' g : EReal} {o o' s s' w w' : Fin 2048 → EReal} (hx : x = x') (ho : ∀ l, o l = o' l)
    (hs : ∀ l, s l = s' l) : mixAt x g o s w w' = mixAt x' g o' s' w w' := by
  rw [hx, funext ho, funext hs]

/-- The kernel's result array after the run is the reference's term of the arguments. -/
theorem final (c : Dev nD) :
    (dats m 0 c).arrAt 8 (cfgs 0).N = refOf m c := by
  refine (dats m 0 c).arrAt_eq_of_covers 8 _ (by decide +kernel) fun t _ y => ?_
  have ht : t.val < 64 := t.isLt
  blk_simp
  rw [after0_8]; unfold outsAt0; frame_out
  simp only [View.readCov_cons_toLoadRect]
  idx_vars y
  refine (canon_two (b := 128) (n := 4096) (r := 256) rfl _ _ _ _ _ _ (fun y => refOf m c (((View.whole main_v7).slice (win0_8.rect t)).emb y)) (fun q j => ?_) (fun q j => ?_) y0 y1)
  · refine Eq.trans ?_ (row_point m c t _ j ht)
    refine (ln_first _ _ _ _ _ _ _ _ q j).trans ?_
    refine congrArg (fun r => lnAt r _ _ j) (funext fun k => ?_)
    refine (mix_first _ _ _ _ _ _ _ _).trans ?_
    exact mixAt_congr (ld_lo _ _ q k) (fun l => ld_lo _ _ q l) (fun l => ld_lo _ _ q l)
  · refine Eq.trans ?_ (row_point m c t _ j ht)
    refine (ln_second _ _ _ _ _ q j).trans ?_
    refine congrArg (fun r => lnAt r _ _ j) (funext fun k => ?_)
    refine (mix_second _ _ _ _ _ _ _ _).trans ?_
    exact mixAt_congr (ld_hi _ _ q k) (fun l => ld_hi _ _ q l) (fun l => ld_hi _ _ q l)

end Cert.OutprojIdeal.Value2
-- ==== Proof.Pre.lean ====
/- What the preconditions say: where `finite` (or `glu_finite`) holds of a program's arguments, every
   element of the arrays it names is a real number, neither of the infinities. -/
module

public import proofs.«01_k».proof.Proof.RealFns
public import Idealize.ShloMosaic.Lib.ReduceAll
public import Idealize.ShloMosaic.Lib.Affine

@[expose] public section

set_option maxRecDepth 16384

noncomputable section

namespace Cert.Pre

open Idealize.ShloMosaic

/-- The conjunction over a whole array of `|x| < inf` says that every element is a real number. -/
theorem real_of_all {s t : Shape} {φ : FTy} {axes : List (Fin s.rank)} [Subsingleton t.Idx]
    (x : FVec Ideal s φ) (B : FVec Ideal s φ) (hB : ∀ i, B i = ⊤) (init : IVec (⟨0, ![]⟩ : Shape) 1)
    (h : s.ReducesTo axes t) (hu : 0 < (⟨0, ![]⟩ : Shape).numel) (j : t.Idx)
    (e : Host.reduce IntOp.andi (cmpf .olt (Host.absf x) B) init h hu j = 1#1) (i : s.Idx) :
    ∃ r : ℝ, x i = (r : EReal) := by
  have h1 := Host.reduce_andi_all _ init h hu j e i
  apply RealFns.exists_real
  have h2 : (cmpf .olt (Host.absf x) B) i = Ideal.cmp .olt (max (x i) (-(x i))) (B i) := rfl
  rw [h2, hB] at h1
  by_contra hc
  simp [Ideal.cmp, hc] at h1

end Cert.Pre

end
-- ==== Proof.PreGlu.lean ====
/- What `glu_finite` says: every element of the projected array is a real number. -/
module

public import proofs.«01_k».proof.Pre_glu_finite
public import proofs.«01_k».proof.Proof.Pre
public import Idealize.ShloMosaic.Lib.ReduceAll
public import Idealize.ShloMosaic.Lib.Affine

@[expose] public section

set_option maxRecDepth 16384

noncomputable section

namespace Cert.Pre

open Idealize.ShloMosaic

/-- The facts the precondition's function takes, proved. -/
instance glu_facts : Cert.Pre_glu_finite.Facts where
  bitsLt_bf16_f32 := by decide
  bcast_S_S16384x10240 := by decide
  reducesTo_S16384x10240_S_d0_1 := by decide
  h_S_ := by decide

/-- Where `glu_finite` holds, the projected array's elements are real numbers. -/
theorem glu_real [Cert.Pre_glu_finite.Facts] (y : FVec Ideal Cert.Pre_glu_finite.S16384x2048 .bf16)
    (p : FVec Ideal Cert.Pre_glu_finite.S16384x10240 .bf16) (w : FVec Ideal Cert.Pre_glu_finite.S2048x2048 .f32)
    (b : FVec Ideal Cert.Pre_glu_finite.S2048 .f32)
    (h : Cert.Pre_glu_finite.fn (F := Ideal) y p w b = fun _ => 1#1) :
    ∀ i, ∃ r : ℝ, p i = (r : EReal) := by
  intro i
  haveI : Subsingleton Cert.Pre_glu_finite.S_.Idx := ⟨fun a b => funext fun k => k.elim0⟩
  have h0 := congrFun h ValueIdx.ix0
  unfold Cert.Pre_glu_finite.fn at h0
  dsimp only at h0
  exact real_of_all _ _ (fun _ => RealFns.ofBits_inf) _ _ _ _ h0 i

end Cert.Pre
-- ==== Proof.PreFinite.lean ====
/- What `finite` says: every element of the arrays the attention reads, but the norm's scale, is a real number. -/
module

public import proofs.«01_k».proof.Pre_finite
public import proofs.«01_k».proof.Proof.Pre
public import Idealize.ShloMosaic.Lib.ReduceAll
public import Idealize.ShloMosaic.Lib.Affine

@[expose] public section

set_option maxRecDepth 16384

noncomputable section

namespace Cert.Pre

open Idealize.ShloMosaic

/-- The facts the precondition's function takes, proved. -/
instance finite_facts : Cert.Pre_finite.Facts where
  bitsLt_bf16_f32 := by decide
  bcast_S_S16384x10240 := by decide
  reducesTo_S16384x10240_S_d0_1 := by decide
  h_S_ := by decide
  bcast_S_S16384x128 := by decide
  reducesTo_S16384x128_S_d0_1 := by decide
  bcast_S_S1x16x1024 := by decide
  reducesTo_S1x16x1024_S_d0_1_2 := by decide
  bcast_S_S1x1024 := by decide
  reducesTo_S1x1024_S_d0_1 := by decide

/-- Where `finite` holds, the elements of the projected array, of the gate's bottleneck, of the gate's
    weights and of its bias are real numbers. -/
theorem finite_real [Cert.Pre_finite.Facts] (p : FVec Ideal Cert.Pre_finite.S16384x10240 .bf16)
    (g : FVec Ideal Cert.Pre_finite.S16384x128 .f32) (w : FVec Ideal Cert.Pre_finite.S1x16x1024 .f32)
    (b : FVec Ideal Cert.Pre_finite.S1x1024 .f32) (n : FVec Ideal Cert.Pre_finite.S1x512 .f32)
    (h : Cert.Pre_finite.fn (F := Ideal) p g w b n = fun _ => 1#1) :
    (∀ i, ∃ r : ℝ, p i = (r : EReal)) ∧ (∀ i, ∃ r : ℝ, g i = (r : EReal)) ∧ (∀ i, ∃ r : ℝ, w i = (r : EReal))
      ∧ ∀ i, ∃ r : ℝ, b i = (r : EReal) := by
  haveI : Subsingleton Cert.Pre_finite.S_.Idx := ⟨fun a b => funext fun k => k.elim0⟩
  have h4 := congrFun h ValueIdx.ix0
  unfold Cert.Pre_finite.fn Cert.Pre_finite.fn_part1 at h4
  dsimp only at h4
  obtain ⟨h3, hb⟩ := IntOp.andi_eq_one.1 h4
  obtain ⟨h2, hw⟩ := IntOp.andi_eq_one.1 h3
  obtain ⟨hp, hg⟩ := IntOp.andi_eq_one.1 h2
  exact ⟨fun i => real_of_all _ _ (fun _ => RealFns.ofBits_inf) _ _ _ _ hp i,
    fun i => real_of_all _ _ (fun _ => RealFns.ofBits_inf) _ _ _ _ hg i,
    fun i => real_of_all _ _ (fun _ => RealFns.ofBits_inf) _ _ _ _ hw i,
    fun i => real_of_all _ _ (fun _ => RealFns.ofBits_inf) _ _ _ _ hb i⟩

end Cert.Pre
-- ==== Proof.AdalnValue.lean ====
/- The value of the conditioning's kernel at the extended reals. The kernel multiplies a high and a low part of the rows
   and of the weights; where both are real numbers the low parts are zero, and what is left is the reference's product. -/
module

public import proofs.«01_k».proof.Proof.Gen.AdalnIdeal.Value
public import proofs.«01_k».proof.Proof.Gen.AdalnRefIdeal
public import proofs.«01_k».proof.Proof.RealFns
public import Idealize.ShloMosaic.Lib.Pipeline.ValueKit
public import Idealize.ShloMosaic.Lib.KernelVsHost

@[expose] public section

set_option maxRecDepth 16384

noncomputable section

open Idealize.ShloMosaic Idealize.ShloMosaic.TcCoe Idealize.SL.Sem
open Idealize.ShloMosaic.Pipeline (Dat)

namespace Cert.AdalnIdeal.Value2

open Cert.AdalnIdeal Cert.AdalnIdeal.Gen

variable (m : (ℓ : Loc nD τ sig) → Buf (Elt Ideal) ℓ)

/-- The reference's result as one term of the three arguments. -/
abbrev REF (a0 : FVec Ideal S8x4096 .f32) (a1 : FVec Ideal S1x4096x12288 .f32) (a2 : FVec Ideal S1x12288 .f32) :
    FVec Ideal S8x12288 .f32 :=
  addf (Host.dotGeneral Cert.AdalnRefIdeal.dot_S8x4096_S4096x12288_S8x12288_1_0_0_1_n_n none (mulf a0 (Host.divf (broadcastInDim Cert.AdalnRefIdeal.S8x4096 ![] Cert.AdalnRefIdeal.Gen.bcast_S_S8x4096 (constant Cert.AdalnRefIdeal.S_ .f32 0x3F800000#32)) (addf (broadcastInDim Cert.AdalnRefIdeal.S8x4096 ![] Cert.AdalnRefIdeal.Gen.bcast_S_S8x4096 (constant Cert.AdalnRefIdeal.S_ .f32 0x3F800000#32)) (Host.exp (Host.negf a0))))) (shapeCast _ a1 Cert.AdalnRefIdeal.Gen.shapeCasts_S1x4096x12288_S4096x12288)) (broadcastInDim Cert.AdalnRefIdeal.S8x12288 ![0, 1] Cert.AdalnRefIdeal.Gen.bcast_S1x12288_S8x12288_0_1 (broadcastInDim Cert.AdalnRefIdeal.S1x12288 ![1] Cert.AdalnRefIdeal.Gen.bcast_S12288_S1x12288_1 (shapeCast _ a2 Cert.AdalnRefIdeal.Gen.shapeCasts_S1x12288_S12288)))

/-- Where each window's block stands at grid point `t`. -/
theorem idx : ∀ t : Fin cfg0.N, win0_0.index t = ![0, 0] ∧ win0_1.index t = ![0, t.val]
    ∧ win0_2.index t = ![0, t.val] ∧ win0_3.index t = ![0, t.val] :=
  (by decide +kernel : ∀ t : Fin grid0.N, _)

/-- A real number less itself is zero. -/
theorem sub_self_real {x : EReal} (h : ∃ r : ℝ, x = (r : EReal)) : x - x = 0 := by
  obtain ⟨r, rfl⟩ := h
  rw [← EReal.coe_sub, sub_self, EReal.coe_zero]

/-- The SiLU of a real number is a real number. -/
theorem silu_real {x : EReal} (h : ∃ r : ℝ, x = (r : EReal)) : ∃ r : ℝ, x * Ideal.div 1 (1 + Ideal.exp (-x)) = (r : EReal) := by
  obtain ⟨r, rfl⟩ := h
  refine ⟨r * (1 / (1 + Real.exp (-r))), ?_⟩
  rw [← EReal.coe_neg, Ideal.exp_coe, ← EReal.coe_one, ← EReal.coe_add, RealFns.div_real _ (by positivity), ← EReal.coe_mul]

/-- The kernel's block at a row and a column, where the rows and the weights are real numbers. -/
theorem pay_apply (x : Vec Ideal S8x4096 .f32) (w : Vec Ideal S4096x512 .f32) (b : Vec Ideal S1x512 .f32) (u : Fin 8) (j : Fin 512)
    (hx : ∀ i, ∃ r : ℝ, x i = (r : EReal)) (hw : ∀ i, ∃ r : ℝ, w i = (r : EReal)) :
    k0_pay1 x w b (ix2 u j)
      = (∑ k : Fin 4096, x (ix2 u k) * Ideal.div 1 (1 + Ideal.exp (-x (ix2 u k))) * w (ix2 k j)) + b (ix2 0 j) := by
  have z1 : (∑ k : Fin 4096, (x (ix2 u k) * Ideal.logistic (x (ix2 u k)) - x (ix2 u k) * Ideal.logistic (x (ix2 u k))) * w (ix2 k j)) = 0 :=
    Finset.sum_eq_zero fun k _ => (congrArg (· * w (ix2 k j)) (sub_self_real (silu_real (hx (ix2 u k))))).trans (zero_mul _)
  have z2 : (∑ k : Fin 4096, x (ix2 u k) * Ideal.logistic (x (ix2 u k)) * (w (ix2 k j) - w (ix2 k j))) = 0 :=
    Finset.sum_eq_zero fun k _ => by rw [sub_self_real (hw _), mul_zero]
  pointwise [k0_pay1]
  rw [z1, z2, add_zero, add_zero]
  rfl

/-- The reference's result at a row and a column. -/
theorem REF_apply (x : FVec Ideal S8x4096 .f32) (w : FVec Ideal S1x4096x12288 .f32) (b : FVec Ideal S1x12288 .f32) (u : Fin 8)
    (j : Fin 12288) :
    REF x w b (ix2 u j)
      = (∑ k : Fin 4096, x (ix2 u k) * Ideal.div 1 (1 + Ideal.exp (-x (ix2 u k))) * w (ix3 0 k j)) + b (ix2 0 j) := by
  pointwise [REF]

theorem w0 (c : Dev nD) (t : Fin cfg0.N) (u : Fin 8) (k : Fin 4096) :
    (iblk m c 0 t : FVec Ideal S8x4096 .f32) (ix2 u k)
      = (m ((c : Thread nD τ).loc main_arg0) : FVec Ideal S8x4096 .f32) (ix2 u k) := by
  blk_point [iblk, V, idx t]

theorem w1 (c : Dev nD) (t : Fin cfg0.N) (k : Fin 4096) (j : Fin 512) (ht : t.val < 24) :
    (iblk m c 1 t : FVec Ideal S4096x512 .f32) (ix2 k j)
      = (m ((c : Thread nD τ).loc main_arg1) : FVec Ideal S1x4096x12288 .f32) (ix3 0 k ⟨t.val * 512 + j.val, by omega⟩) := by
  blk_point [iblk, V, idx t]

theorem w2 (c : Dev nD) (t : Fin cfg0.N) (j : Fin 512) (ht : t.val < 24) :
    (iblk m c 2 t : FVec Ideal S1x512 .f32) (ix2 0 j)
      = (m ((c : Thread nD τ).loc main_arg2) : FVec Ideal S1x12288 .f32) (ix2 0 ⟨t.val * 512 + j.val, by omega⟩) := by
  blk_point [iblk, V, idx t]

theorem w3 (t : Fin cfg0.N) (u : Fin 8) (j : Fin 512) (ht : t.val < 24) :
    ((View.whole main_v3).slice (win0_3.rect t)).emb (ix2 u j) = (ix2 u ⟨t.val * 512 + j.val, by omega⟩ : S8x12288.Idx) := by
  blk_point [idx t]

/-- The reference's term of the kernel's arguments. -/
abbrev refOf (c : Dev nD) : FVec Ideal S8x12288 .f32 :=
  REF (m ((c : Thread nD τ).loc main_arg0)) (m ((c : Thread nD τ).loc main_arg1)) (m ((c : Thread nD τ).loc main_arg2))

/-- The kernel's result array after the run is the reference's term of the arguments. -/
theorem final (c : Dev nD)
    (hx : ∀ i, ∃ r : ℝ, (m ((c : Thread nD τ).loc main_arg0) : FVec Ideal S8x4096 .f32) i = (r : EReal))
    (hw : ∀ i, ∃ r : ℝ, (m ((c : Thread nD τ).loc main_arg1) : FVec Ideal S1x4096x12288 .f32) i = (r : EReal)) :
    (dats m 0 c).arrAt 3 (cfgs 0).N = refOf m c := by
  refine (dats m 0 c).arrAt_eq_of_covers 3 _ (by decide +kernel) fun t _ y => ?_
  have ht : t.val < 24 := t.isLt
  blk_simp
  rw [after0_3]; frame_out
  idx_vars y
  refine Eq.trans ?_ (congrArg (refOf m c) (w3 t y0 y1 ht).symm)
  unfold refOf
  rw [REF_apply]
  refine (pay_apply _ _ _ y0 y1 (fun i => ?_) (fun i => ?_)).trans ?_
  · idx_vars i
    rw [w0 m c t]; exact hx _
  · idx_vars i
    rw [w1 m c t _ _ ht]; exact hw _
  · rw [w2 m c t _ ht]
    refine congrArg (· + _) (Finset.sum_congr rfl fun k _ => ?_)
    rw [w0 m c t, w1 m c t _ _ ht]

end Cert.AdalnIdeal.Value2
-- ==== Proof.PreAdaln.lean ====
/- What `adaln_finite` says: every element of the conditioning's rows and of its weights is a real number. -/
module

public import proofs.«01_k».proof.Pre_adaln_finite
public import proofs.«01_k».proof.Proof.Pre
public import Idealize.ShloMosaic.Lib.ReduceAll
public import Idealize.ShloMosaic.Lib.Affine

@[expose] public section

set_option maxRecDepth 16384

noncomputable section

namespace Cert.Pre

open Idealize.ShloMosaic

/-- The facts the precondition's function takes, proved. -/
instance adaln_facts : Cert.Pre_adaln_finite.Facts where
  bcast_S_S8x4096 := by decide
  reducesTo_S8x4096_S_d0_1 := by decide
  h_S_ := by decide
  bcast_S_S1x4096x12288 := by decide
  reducesTo_S1x4096x12288_S_d0_1_2 := by decide

/-- Where `adaln_finite` holds, the rows' and the weights' elements are real numbers. -/
theorem adaln_real [Cert.Pre_adaln_finite.Facts] (x : FVec Ideal Cert.Pre_adaln_finite.S8x4096 .f32)
    (w : FVec Ideal Cert.Pre_adaln_finite.S1x4096x12288 .f32) (b : FVec Ideal Cert.Pre_adaln_finite.S1x12288 .f32)
    (h : Cert.Pre_adaln_finite.fn (F := Ideal) x w b = fun _ => 1#1) :
    (∀ i, ∃ r : ℝ, x i = (r : EReal)) ∧ ∀ i, ∃ r : ℝ, w i = (r : EReal) := by
  haveI : Subsingleton Cert.Pre_adaln_finite.S_.Idx := ⟨fun a b => funext fun k => k.elim0⟩
  have h0 := congrFun h ValueIdx.ix0
  unfold Cert.Pre_adaln_finite.fn at h0
  dsimp only at h0
  obtain ⟨hx, hw⟩ := IntOp.andi_eq_one.1 h0
  exact ⟨fun i => real_of_all _ _ (fun _ => RealFns.ofBits_inf) _ _ _ _ hx i,
    fun i => real_of_all _ _ (fun _ => RealFns.ofBits_inf) _ _ _ _ hw i⟩

end Cert.Pre
-- ==== Proof.ModulateValue.lean ====
/- The value of the modulation's kernel at the extended reals: each grid point makes 512 rows of one sequence, scaled and
   shifted by that sequence's scale and shift, as the reference does with the whole array. -/
module

public import proofs.«01_k».proof.Proof.Gen.ModulateIdeal.Value
public import proofs.«01_k».proof.Proof.Gen.ModulateRefIdeal
public import proofs.«01_k».proof.Proof.RealFns
public import Idealize.ShloMosaic.Lib.Pipeline.ValueKit
public import Idealize.ShloMosaic.Lib.KernelVsHost

@[expose] public section

set_option maxRecDepth 16384

noncomputable section

open Idealize.ShloMosaic Idealize.ShloMosaic.TcCoe Idealize.SL.Sem
open Idealize.ShloMosaic.Pipeline (Dat)

namespace Cert.ModulateIdeal.Value2

open Cert.ModulateIdeal Cert.ModulateIdeal.Gen

variable (m : (ℓ : Loc nD τ sig) → Buf (Elt Ideal) ℓ)

/-- The reference's result as one term of the two arguments. -/
abbrev REF (a0 : FVec Ideal S4x4096x4096 .f32) (a1 : FVec Ideal S4x3x1x4096 .f32) : FVec Ideal S4x4096x4096 .bf16 :=
  truncf .bf16 (addf (mulf a0 (broadcastInDim Cert.ModulateRefIdeal.S4x4096x4096 ![0, 1, 2] Cert.ModulateRefIdeal.Gen.bcast_S4x1x4096_S4x4096x4096_0_1_2 (addf (broadcastInDim Cert.ModulateRefIdeal.S4x1x4096 ![] Cert.ModulateRefIdeal.Gen.bcast_S_S4x1x4096 (constant Cert.ModulateRefIdeal.S_ .f32 0x3F800000#32)) (shapeCast _ (extractStridedSlice Cert.ModulateRefIdeal.S4x1x1x4096 ![0, 1, 0, 0] a1 Cert.ModulateRefIdeal.Gen.slices_S4x3x1x4096_S4x1x1x4096_0_1_0_0) Cert.ModulateRefIdeal.Gen.shapeCasts_S4x1x1x4096_S4x1x4096)))) (broadcastInDim Cert.ModulateRefIdeal.S4x4096x4096 ![0, 1, 2] Cert.ModulateRefIdeal.Gen.bcast_S4x1x4096_S4x4096x4096_0_1_2 (shapeCast _ (extractStridedSlice Cert.ModulateRefIdeal.S4x1x1x4096 ![0, 0, 0, 0] a1 Cert.ModulateRefIdeal.Gen.slices_S4x3x1x4096_S4x1x1x4096_0_0_0_0) Cert.ModulateRefIdeal.Gen.shapeCasts_S4x1x1x4096_S4x1x4096))) Cert.ModulateRefIdeal.Gen.bitsLt_bf16_f32

/-- Where each window's block stands at grid point `t`. -/
theorem idx : ∀ t : Fin cfg0.N, win0_0.index t = ![t.val / 8, t.val % 8, 0] ∧ win0_1.index t = ![t.val / 8, 0, 0, 0]
    ∧ win0_2.index t = ![t.val / 8, 1, 0, 0] ∧ win0_3.index t = ![t.val / 8, t.val % 8, 0] :=
  (by decide +kernel : ∀ t : Fin grid0.N, _)

/-- What point `t` stores at block index `y` is the reference's term at the array index of `y`. -/
theorem point (c : Dev nD) (t : Fin cfg0.N) (y) :
    k0_pay1 (iblk m c 0 t) (iblk m c 2 t) (iblk m c 1 t) y
      = REF (m ((c : Thread nD τ).loc main_arg0)) (m ((c : Thread nD τ).loc main_arg1))
          (((cfg0.win 3).blk t).view.emb y) := by
  have ht : t.val < 32 := t.isLt
  pointwise [k0_pay1, REF]
  blk_point [iblk, V, idx t]

/-- The kernel's result array after the run is the reference's term of the arguments. -/
theorem final (c : Dev nD) :
    (dats m 0 c).arrAt 3 (cfgs 0).N
      = REF (m ((c : Thread nD τ).loc main_arg0)) (m ((c : Thread nD τ).loc main_arg1)) := by
  refine (dats m 0 c).arrAt_eq_of_covers 3 _ (by decide +kernel) fun t _ y => ?_
  blk_simp
  rw [after0_3]; frame_out
  exact point m c t y

end Cert.ModulateIdeal.Value2
-- ==== Proof.WcastValue.lean ====
/- The value of the weight cast's kernel at the extended reals: the weights' columns turned to rows, without the sixteen
   columns of the gate's bottleneck. A grid point makes 256 rows: the first sixteen points copy a block, the later ones
   the block's last 240 rows and the sixteen rows that follow it. -/
module

public import proofs.«01_k».proof.Proof.Gen.WcastIdeal.Value
public import proofs.«01_k».proof.Proof.Gen.WcastRefIdeal
public import Idealize.ShloMosaic.Lib.Pipeline.ValueKit
public import Idealize.ShloMosaic.Lib.KernelVsHost

@[expose] public section

set_option maxRecDepth 16384

noncomputable section

open Idealize.ShloMosaic Idealize.ShloMosaic.TcCoe Idealize.SL.Sem
open Idealize.ShloMosaic.Pipeline (Dat)

namespace Cert.WcastIdeal.Value2

open Cert.WcastIdeal Cert.WcastIdeal.Gen

variable (m : (ℓ : Loc nD τ sig) → Buf (Elt Ideal) ℓ)

/-- The reference's result as one term of the argument. -/
def REF (a0 : FVec Ideal S1x4096x10256 .f32) : FVec Ideal S10240x4096 .bf16 :=
  truncf .bf16 (transpose Cert.WcastRefIdeal.S10240x4096 [1, 0] (concatenate Cert.WcastRefIdeal.S4096x10240 1 [⟨Cert.WcastRefIdeal.S4096x4096, (extractStridedSlice Cert.WcastRefIdeal.S4096x4096 ![0, 0] (shapeCast _ a0 Cert.WcastRefIdeal.Gen.shapeCasts_S1x4096x10256_S4096x10256) Cert.WcastRefIdeal.Gen.slices_S4096x10256_S4096x4096_0_0)⟩, ⟨Cert.WcastRefIdeal.S4096x6144, (extractStridedSlice Cert.WcastRefIdeal.S4096x6144 ![0, 4112] (shapeCast _ a0 Cert.WcastRefIdeal.Gen.shapeCasts_S1x4096x10256_S4096x10256) Cert.WcastRefIdeal.Gen.slices_S4096x10256_S4096x6144_0_4112)⟩] Cert.WcastRefIdeal.Gen.concatenates_S4096x4096_S4096x6144_S4096x10240_d1) Cert.WcastRefIdeal.Gen.transposes_S4096x10240_S10240x4096_1_0) Cert.WcastRefIdeal.Gen.bitsLt_bf16_f32

/-- A row of the reference below 4096 is that column of the weights. -/
theorem REF_lo (a0 : FVec Ideal S1x4096x10256 .f32) (r : Fin 10240) (k : Fin 4096) (h : r.val < 4096) :
    REF a0 (ix2 r k) = a0 (ix3 0 k ⟨r.val, by omega⟩) := by
  obtain ⟨r, hr⟩ := r
  dsimp only at h
  unfold REF
  pointwise [h]

/-- A later row is the column sixteen further on. -/
theorem REF_hi (a0 : FVec Ideal S1x4096x10256 .f32) (r : Fin 10240) (k : Fin 4096) (h : 4096 ≤ r.val) :
    REF a0 (ix2 r k) = a0 (ix3 0 k ⟨r.val + 16, by omega⟩) := by
  obtain ⟨r, hr⟩ := r
  dsimp only at h
  have h' : ¬ r < 4096 := by omega
  unfold REF
  pointwise [h']
  exact congrArg (fun i => a0 (ix3 0 k i)) (Fin.ext (by dsimp only; omega))

/-- Where each window's block stands at grid point `t`. -/
theorem idx : ∀ t : Fin cfg0.N, win0_0.index t = ![t.val, 0] ∧ win0_1.index t = ![(t.val + 1) * 16, 0]
    ∧ win0_2.index t = ![t.val, 0] :=
  (by decide +kernel : ∀ t : Fin grid0.N, _)

theorem w0 (c : Dev nD) (t : Fin cfg0.N) (u : Fin 256) (k : Fin 4096) (ht : t.val < 40) :
    (X0_0 m c t : FVec Ideal S256x4096 .f32) (ix2 u k)
      = (m ((c : Thread nD τ).loc main_arg0) : FVec Ideal S1x4096x10256 .f32) (ix3 0 k ⟨t.val * 256 + u.val, by omega⟩) := by
  refine (dif_pos (moved0_0 t _)).trans ?_
  blk_point [iblk, V, idx t]

theorem w1 (c : Dev nD) (t : Fin cfg0.N) (u : Fin 16) (k : Fin 4096) (ht : t.val < 40) :
    (iblk m c 1 t : FVec Ideal S16x4096 .f32) (ix2 u k)
      = (m ((c : Thread nD τ).loc main_arg0) : FVec Ideal S1x4096x10256 .f32) (ix3 0 k ⟨(t.val + 1) * 16 * 16 + u.val, by omega⟩) := by
  blk_point [iblk, V, idx t]

theorem w2 (t : Fin cfg0.N) (u : Fin 256) (k : Fin 4096) (ht : t.val < 40) :
    ((View.whole main_v2).slice (win0_2.rect t)).emb (ix2 u k) = (ix2 ⟨t.val * 256 + u.val, by omega⟩ k : S10240x4096.Idx) := by
  blk_point [idx t]

/-- The reference's term of the kernel's argument. -/
abbrev refOf (c : Dev nD) : FVec Ideal S10240x4096 .bf16 := REF (m ((c : Thread nD τ).loc main_arg0))

/-- Where a row of a band of `b` rows starting at row `o` stands in the block. -/
theorem emb_band {b o : Nat} (inb) (q : Fin b) (j : Fin 4096) (h : o + q.val < 256) :
    (Rect.unit (s := S256x4096) ![o, 0] ![b, 4096] inb).emb (ix2 q j) = ix2 ⟨o + q.val, h⟩ j :=
  funext fun a => Fin.ext (by
    match a with
    | ⟨0, _⟩ => exact congrArg (o + ·) (Nat.one_mul _)
    | ⟨1, _⟩ => exact (Nat.zero_add _).trans (Nat.one_mul _))

/-- What the two stores leave in a block: its first 240 rows and its last sixteen. -/
theorem canon_two (i0 i1) (P : S16x4096.Idx → Elt Ideal .bf16) (Q : S240x4096.Idx → Elt Ideal .bf16)
    (G : S256x4096.Idx → Elt Ideal .bf16) (hlo : ∀ (q : Fin 240) (j : Fin 4096), Q (ix2 q j) = G (ix2 ⟨q.val, by omega⟩ j))
    (hhi : ∀ (q : Fin 16) (j : Fin 4096), P (ix2 q j) = G (ix2 ⟨240 + q.val, by omega⟩ j)) (u : Fin 256) (j : Fin 4096) :
    View.canon (Val := Elt Ideal) (e := .bf16) (s := S256x4096)
        [⟨Rect.unit ![240, 0] ![16, 4096] i1, P⟩, ⟨Rect.unit ![0, 0] ![240, 4096] i0, Q⟩] (ix2 u j)
      = G (ix2 u j) := by
  by_cases h : u.val < 240
  · have hn : (ix2 u j : S256x4096.Idx) ∉ (Rect.unit (s := S256x4096) ![240, 0] ![16, 4096] i1).set := by
      rw [Rect.mem_set_unit]
      intro hall
      have h0 := (hall 0).1
      change 240 ≤ u.val at h0
      omega
    refine Eq.trans (View.canon_cons_of_not_mem _ _ ?_) ?_
    · exact hn
    have e := emb_band i0 ⟨u.val, h⟩ j (by dsimp only; omega)
    have e' : (⟨0 + u.val, by omega⟩ : Fin 256) = u := Fin.ext (Nat.zero_add _)
    rw [e'] at e
    exact (congrArg _ e.symm).trans ((View.canon_cons_emb _ _ _ _).trans (hlo ⟨u.val, h⟩ j))
  · have e := emb_band i1 ⟨u.val - 240, by omega⟩ j (by dsimp only; omega)
    have e' : (⟨240 + (u.val - 240), by omega⟩ : Fin 256) = u := Fin.ext (by dsimp only; omega)
    refine (congrArg _ (e.trans (congrArg (ix2 · j) e')).symm).trans ((View.canon_cons_emb _ _ _ _).trans ((hhi ⟨u.val - 240, by omega⟩ j).trans ?_))
    exact congrArg (fun v => G (ix2 v j)) e'

/-- The rows of a block from the seventeenth on, read at a row. -/
theorem ld_rest (X : S256x4096.Idx → Elt Ideal .f32) (inb) (q : Fin 240) (j : Fin 4096) :
    View.ld X (Rect.unit ![16, 0] ![240, 4096] inb) (ix2 q j) = X (ix2 ⟨16 + q.val, by omega⟩ j) :=
  congrArg X (emb_band inb q j (by omega))

theorem pay1_at (x : Vec Ideal S256x4096 .f32) (u : Fin 256) (j : Fin 4096) : k0_pay1 x (ix2 u j) = x (ix2 u j) := by
  pointwise [k0_pay1]

theorem pay2_at (x : Vec Ideal S240x4096 .f32) (u : Fin 240) (j : Fin 4096) : k0_pay2 x (ix2 u j) = x (ix2 u j) := by
  pointwise [k0_pay2]

theorem pay3_at (x : Vec Ideal S16x4096 .f32) (u : Fin 16) (j : Fin 4096) : k0_pay3 x (ix2 u j) = x (ix2 u j) := by
  pointwise [k0_pay3]

/-- The kernel's result array after the run is the reference's term of the argument. -/
theorem final (c : Dev nD) : (dats m 0 c).arrAt 2 (cfgs 0).N = refOf m c := by
  refine (dats m 0 c).arrAt_eq_of_covers 2 _ (by decide +kernel) fun t _ y => ?_
  have ht : t.val < 40 := t.isLt
  blk_simp
  rw [after0_2]
  idx_vars y
  by_cases h0 : t.val < 16
  · rw [outsAt0_A m c t h0 (by omega)]
    frame_out
    refine (pay1_at _ y0 y1).trans ((w0 m c t y0 y1 ht).trans ?_)
    refine Eq.trans ?_ (congrArg (refOf m c) (w2 t y0 y1 ht).symm)
    have hr : t.val * 256 + y0.val < 4096 := by omega
    exact (REF_lo _ ⟨t.val * 256 + y0.val, by omega⟩ y1 hr).symm
  · rw [outsAt0_B m c t h0 (by omega)]
    frame_out
    refine (canon_two _ _ _ _ (fun y => refOf m c (((View.whole main_v2).slice (win0_2.rect t)).emb y))
      (fun q j => ?_) (fun q j => ?_) y0 y1)
    · refine (pay2_at _ q j).trans ((ld_rest _ _ q j).trans ((w0 m c t _ j ht).trans ?_))
      refine Eq.trans ?_ (congrArg (refOf m c) (w2 t _ j ht).symm)
      refine Eq.trans ?_ (REF_hi _ _ _ ?_).symm
      · exact congrArg (fun i => (m ((c : Thread nD τ).loc main_arg0) : FVec Ideal S1x4096x10256 .f32) (ix3 0 j i))
          (Fin.ext (by dsimp only; omega))
      · dsimp only; omega
    · refine (pay3_at _ q j).trans ((w1 m c t q j ht).trans ?_)
      refine Eq.trans ?_ (congrArg (refOf m c) (w2 t _ j ht).symm)
      refine Eq.trans ?_ (REF_hi _ _ _ ?_).symm
      · exact congrArg (fun i => (m ((c : Thread nD τ).loc main_arg0) : FVec Ideal S1x4096x10256 .f32) (ix3 0 j i))
          (Fin.ext (by dsimp only; omega))
      · dsimp only; omega

end Cert.WcastIdeal.Value2
-- ==== Proof.lean ====
module

public import proofs.«01_k».proof.Defs
public import proofs.«01_k».proof.Proof.Gen.Kernel.Frame
public import proofs.«01_k».proof.Proof.Gen.KernelIdeal.Frame
public import proofs.«01_k».proof.Proof.Gen.ReferenceIdeal.Run
public import proofs.«01_k».proof.Proof.Gen.KernelIdeal.Value
public import proofs.«01_k».proof.Proof.GlaRef
public import proofs.«01_k».proof.Proof.InprojRun
public import proofs.«01_k».proof.Proof.InprojValue
public import proofs.«01_k».proof.Proof.Gen.Glu.Frame
public import proofs.«01_k».proof.Proof.Gen.Outproj.Frame
public import proofs.«01_k».proof.Proof.Gen.OutprojRefIdeal.Run
public import proofs.«01_k».proof.Proof.Gen.GluRefIdeal.Run
public import proofs.«01_k».proof.Proof.GluValue
public import proofs.«01_k».proof.Proof.OutValue
public import proofs.«01_k».proof.Proof.PreGlu
public import proofs.«01_k».proof.Proof.PreFinite
public import proofs.«01_k».proof.Proof.Gen.Adaln.Frame
public import proofs.«01_k».proof.Proof.Gen.AdalnIdeal.Value
public import proofs.«01_k».proof.Proof.Gen.AdalnRefIdeal.Run
public import proofs.«01_k».proof.Proof.Gen.Modulate.Frame
public import proofs.«01_k».proof.Proof.Gen.ModulateIdeal.Value
public import proofs.«01_k».proof.Proof.Gen.ModulateRefIdeal.Run
public import proofs.«01_k».proof.Proof.Gen.Wcast.Frame
public import proofs.«01_k».proof.Proof.Gen.WcastIdeal.Value
public import proofs.«01_k».proof.Proof.Gen.WcastRefIdeal.Run
public import proofs.«01_k».proof.Proof.AdalnValue
public import proofs.«01_k».proof.Proof.PreAdaln
public import proofs.«01_k».proof.Proof.ModulateValue
public import proofs.«01_k».proof.Proof.WcastValue
public import proofs.«01_k».proof.Proof.Gen.S5prep.Frame
public import proofs.«01_k».proof.Proof.Gen.S5prepIdeal.Frame
public import Idealize.ShloMosaic.Adequacy
public import Idealize.ShloMosaic.Init

@[expose] public section

noncomputable section

namespace Cert.Proof

open Idealize.ShloMosaic Idealize.SL.Sem

/-- The gated linear attention: the kernel and the reference end with the same result. -/
theorem gla_algebraic : Cert.algebraic_KernelIdeal_ReferenceIdeal_pre_finite :=
  fun m ρ m' ρ' hpre hag =>
    ⟨fun c => Cert.KernelIdeal.Gla.refOf m c,
      (θ_run Cert.KernelIdeal.defs _ _).mono
        (fun r h c => by
          obtain ⟨hp, hg, hw, hb⟩ := Cert.Pre.finite_real _ _ _ _ _ (hpre c)
          exact ⟨(h c).1.trans (Cert.KernelIdeal.Gla.final m c hp hg hw hb), (h c).2⟩)
        (Cert.KernelIdeal.Value.run_blocks m ρ),
      (θ_run Cert.ReferenceIdeal.defs _ _).mono
        (fun r h c => by
          obtain ⟨h0, h1, h2, h3, h4⟩ := hag c
          refine ⟨(h c).1.trans ?_, (h c).2⟩
          rw [h0, h4]
          rfl)
        (Cert.ReferenceIdeal.Trips.run_iter (F := Ideal) m' ρ' (fun c => Cert.KernelIdeal.Gla.it m c)
          (fun c => by
            obtain ⟨h0, h1, h2, h3, h4⟩ := hag c
            unfold Cert.ReferenceIdeal.Trips.initState
            rw [h0, h1, h2, h3]
            rfl)
          (fun c n => rfl))⟩

/-- The gated linear unit: the kernel and the reference end with the same result. -/
theorem glu_algebraic : Cert.algebraic_GluIdeal_GluRefIdeal_pre_glu_finite :=
  fun m ρ m' ρ' hpre hag =>
    ⟨fun c => Cert.GluIdeal.Value2.REF (m ((c.tc : Thread Cert.GluIdeal.nD Cert.GluIdeal.τ).loc Cert.GluIdeal.main_arg0))
        (m ((c.tc : Thread Cert.GluIdeal.nD Cert.GluIdeal.τ).loc Cert.GluIdeal.main_arg1))
        (m ((c.tc : Thread Cert.GluIdeal.nD Cert.GluIdeal.τ).loc Cert.GluIdeal.main_arg2))
        (m ((c.tc : Thread Cert.GluIdeal.nD Cert.GluIdeal.τ).loc Cert.GluIdeal.main_arg3)),
      (θ_run Cert.GluIdeal.defs _ _).mono
        (fun r h c => ⟨(h c).1.trans (Cert.GluIdeal.Value2.final m c (Cert.Pre.glu_real _ _ _ _ (hpre c))), (h c).2⟩)
        (Cert.GluIdeal.Value.run_blocks m ρ),
      (θ_run Cert.GluRefIdeal.defs _ _).mono
        (fun r h c => by
          obtain ⟨h0, h1, h2, h3⟩ := hag c
          refine ⟨(h c).1.trans ?_, (h c).2⟩
          rw [h0, h1, h2, h3])
        (Cert.GluRefIdeal.Value.run (F := Ideal) m' ρ')⟩

/-- The output projection: the kernel and the reference end with the same result. -/
theorem outproj_algebraic : Cert.algebraic_OutprojIdeal_OutprojRefIdeal :=
  fun m ρ m' ρ' hpre hag =>
    ⟨fun c => Cert.OutprojIdeal.Value2.refOf m c,
      (θ_run Cert.OutprojIdeal.defs _ _).mono
        (fun r h c => ⟨(h c).1.trans (Cert.OutprojIdeal.Value2.final m c), (h c).2⟩)
        (Cert.OutprojIdeal.Value.run_blocks m ρ),
      (θ_run Cert.OutprojRefIdeal.defs _ _).mono
        (fun r h c => by
          obtain ⟨h0, h1, h2, h3, h4, h5, h6⟩ := hag c
          refine ⟨(h c).1.trans ((Cert.OutprojIdeal.Value2.res_eq m' c).trans ?_), (h c).2⟩
          rw [h0, h1, h2, h3, h4, h5, h6])
        (Cert.OutprojRefIdeal.Value.run (F := Ideal) m' ρ')⟩

/-- The input projection: the kernel and the reference end with the same two results. -/
theorem inproj_algebraic : Cert.algebraic_InprojIdeal_InprojRefIdeal :=
  fun m ρ m' ρ' hpre hag =>
    ⟨fun c => Cert.InprojIdeal.Value2.REFp (m ((c.tc : Thread Cert.InprojIdeal.nD Cert.InprojIdeal.τ).loc Cert.InprojIdeal.main_arg0))
        (m ((c.tc : Thread Cert.InprojIdeal.nD Cert.InprojIdeal.τ).loc Cert.InprojIdeal.main_arg1)),
      fun c => Cert.InprojIdeal.Value2.REFg (m ((c.tc : Thread Cert.InprojIdeal.nD Cert.InprojIdeal.τ).loc Cert.InprojIdeal.main_arg0))
        (m ((c.tc : Thread Cert.InprojIdeal.nD Cert.InprojIdeal.τ).loc Cert.InprojIdeal.main_arg2)),
      (θ_run Cert.InprojIdeal.defs _ _).mono
        (fun r h c => ⟨(h c).1.trans (Cert.InprojIdeal.Value2.final_p m c),
          (h c).2.1.trans (Cert.InprojIdeal.Value2.final_g m c), (h c).2.2⟩)
        (Cert.InprojIdeal.Run2.run_blocks m ρ),
      (θ_run Cert.InprojRefIdeal.defs _ _).mono
        (fun r h c => by
          obtain ⟨h0, h1, h2⟩ := hag c
          refine ⟨(h c).1.trans ?_, (h c).2.1.trans ?_, (h c).2.2⟩
          · rw [h0, h1]
          · rw [h0, h2])
        (Cert.InprojRefIdeal.Value.run (F := Ideal) m' ρ')⟩

/-- The modulation's parameters: the kernel and the reference end with the same result. -/
theorem adaln_algebraic : Cert.algebraic_AdalnIdeal_AdalnRefIdeal_pre_adaln_finite :=
  fun m ρ m' ρ' hpre hag =>
    ⟨fun c => Cert.AdalnIdeal.Value2.refOf m c,
      (θ_run Cert.AdalnIdeal.defs _ _).mono
        (fun r h c => by
          obtain ⟨hx, hw⟩ := Cert.Pre.adaln_real _ _ _ (hpre c)
          exact ⟨(h c).1.trans (Cert.AdalnIdeal.Value2.final m c hx hw), (h c).2⟩)
        (Cert.AdalnIdeal.Value.run_blocks m ρ),
      (θ_run Cert.AdalnRefIdeal.defs _ _).mono
        (fun r h c => by
          obtain ⟨h0, h1, h2⟩ := hag c
          refine ⟨(h c).1.trans ?_, (h c).2⟩
          rw [h0, h1, h2])
        (Cert.AdalnRefIdeal.Value.run (F := Ideal) m' ρ')⟩

/-- The modulation: the kernel and the reference end with the same result. -/
theorem modulate_algebraic : Cert.algebraic_ModulateIdeal_ModulateRefIdeal :=
  fun m ρ m' ρ' hpre hag =>
    ⟨fun c => Cert.ModulateIdeal.Value2.REF (m ((c.tc : Thread Cert.ModulateIdeal.nD Cert.ModulateIdeal.τ).loc Cert.ModulateIdeal.main_arg0))
        (m ((c.tc : Thread Cert.ModulateIdeal.nD Cert.ModulateIdeal.τ).loc Cert.ModulateIdeal.main_arg1)),
      (θ_run Cert.ModulateIdeal.defs _ _).mono
        (fun r h c => ⟨(h c).1.trans (Cert.ModulateIdeal.Value2.final m c), (h c).2⟩)
        (Cert.ModulateIdeal.Value.run_blocks m ρ),
      (θ_run Cert.ModulateRefIdeal.defs _ _).mono
        (fun r h c => by
          obtain ⟨h0, h1⟩ := hag c
          refine ⟨(h c).1.trans ?_, (h c).2⟩
          rw [h0, h1])
        (Cert.ModulateRefIdeal.Value.run (F := Ideal) m' ρ')⟩

/-- The weight cast: the kernel and the reference end with the same result. -/
theorem wcast_algebraic : Cert.algebraic_WcastIdeal_WcastRefIdeal :=
  fun m ρ m' ρ' hpre hag =>
    ⟨fun c => Cert.WcastIdeal.Value2.refOf m c,
      (θ_run Cert.WcastIdeal.defs _ _).mono
        (fun r h c => ⟨(h c).1.trans (Cert.WcastIdeal.Value2.final m c), (h c).2⟩)
        (Cert.WcastIdeal.Value.run_blocks m ρ),
      (θ_run Cert.WcastRefIdeal.defs _ _).mono
        (fun r h c => by
          refine ⟨(h c).1.trans ?_, (h c).2⟩
          rw [hag c]
          rfl)
        (Cert.WcastRefIdeal.Value.run (F := Ideal) m' ρ')⟩

theorem inproj_ref_frame : Cert.quiescent_InprojRefIdeal :=
  fun m ρ _ => (θ_run Cert.InprojRefIdeal.defs _ _).mono
    (fun r h => ⟨fun c => (h c).2.2, Idealize.ShloMosaic.sem_eq_zero_of_no_sems (by decide) r.2⟩)
    (Cert.InprojRefIdeal.Value.run (F := Ideal) m ρ)

theorem gla_ref_frame : Cert.quiescent_ReferenceIdeal :=
  fun m ρ _ => (θ_run Cert.ReferenceIdeal.defs _ _).mono
    (fun r h => ⟨fun c => (h c).2, Idealize.ShloMosaic.sem_eq_zero_of_no_sems (by decide) r.2⟩)
    (Cert.ReferenceIdeal.Value.run (F := Ideal) m ρ)

theorem glu_ref_frame : Cert.quiescent_GluRefIdeal :=
  fun m ρ _ => (θ_run Cert.GluRefIdeal.defs _ _).mono
    (fun r h => ⟨fun c => (h c).2, Idealize.ShloMosaic.sem_eq_zero_of_no_sems (by decide) r.2⟩)
    (Cert.GluRefIdeal.Value.run (F := Ideal) m ρ)

theorem outproj_ref_frame : Cert.quiescent_OutprojRefIdeal :=
  fun m ρ _ => (θ_run Cert.OutprojRefIdeal.defs _ _).mono
    (fun r h => ⟨fun c => (h c).2, Idealize.ShloMosaic.sem_eq_zero_of_no_sems (by decide) r.2⟩)
    (Cert.OutprojRefIdeal.Value.run (F := Ideal) m ρ)

theorem adaln_ref_frame : Cert.quiescent_AdalnRefIdeal :=
  fun m ρ _ => (θ_run Cert.AdalnRefIdeal.defs _ _).mono
    (fun r h => ⟨fun c => (h c).2, Idealize.ShloMosaic.sem_eq_zero_of_no_sems (by decide) r.2⟩)
    (Cert.AdalnRefIdeal.Value.run (F := Ideal) m ρ)

theorem modulate_ref_frame : Cert.quiescent_ModulateRefIdeal :=
  fun m ρ _ => (θ_run Cert.ModulateRefIdeal.defs _ _).mono
    (fun r h => ⟨fun c => (h c).2, Idealize.ShloMosaic.sem_eq_zero_of_no_sems (by decide) r.2⟩)
    (Cert.ModulateRefIdeal.Value.run (F := Ideal) m ρ)

theorem wcast_ref_frame : Cert.quiescent_WcastRefIdeal :=
  fun m ρ _ => (θ_run Cert.WcastRefIdeal.defs _ _).mono
    (fun r h => ⟨fun c => (h c).2, Idealize.ShloMosaic.sem_eq_zero_of_no_sems (by decide) r.2⟩)
    (Cert.WcastRefIdeal.Value.run (F := Ideal) m ρ)

theorem claim : Cert.Claim :=
  ⟨Cert.Kernel.Gen.facts, Cert.KernelIdeal.Gen.facts, Cert.ReferenceIdeal.Gen.facts,
    Cert.Inproj.Gen.facts, Cert.InprojIdeal.Gen.facts, Cert.InprojRefIdeal.Gen.facts, Cert.Glu.Gen.facts,
    Cert.GluIdeal.Gen.facts, Cert.GluRefIdeal.Gen.facts, Cert.Outproj.Gen.facts, Cert.OutprojIdeal.Gen.facts,
    Cert.OutprojRefIdeal.Gen.facts, Cert.Adaln.Gen.facts, Cert.AdalnIdeal.Gen.facts, Cert.AdalnRefIdeal.Gen.facts,
    Cert.Modulate.Gen.facts, Cert.ModulateIdeal.Gen.facts, Cert.ModulateRefIdeal.Gen.facts, Cert.Wcast.Gen.facts,
    Cert.WcastIdeal.Gen.facts, Cert.WcastRefIdeal.Gen.facts, Cert.S5prep.Gen.facts, Cert.S5prepIdeal.Gen.facts,
    Cert.Pre.finite_facts, Cert.Pre.glu_facts,
    Cert.Pre.adaln_facts,
    fun m ρ _ => Cert.Kernel.Gen.frame m ρ, fun m ρ _ => Cert.KernelIdeal.Gen.frame m ρ,
    fun m ρ _ => Cert.KernelIdeal.Gen.frame m ρ, gla_ref_frame, fun m ρ _ => gla_ref_frame m ρ trivial,
    fun m ρ _ => Cert.Inproj.Run2.frame m ρ, fun m ρ _ => Cert.InprojIdeal.Run2.frame m ρ, inproj_ref_frame,
    fun m ρ _ => Cert.Glu.Gen.frame m ρ, fun m ρ _ => Cert.GluIdeal.Gen.frame m ρ,
    fun m ρ _ => Cert.GluIdeal.Gen.frame m ρ, glu_ref_frame, fun m ρ _ => glu_ref_frame m ρ trivial,
    fun m ρ _ => Cert.Outproj.Gen.frame m ρ, fun m ρ _ => Cert.OutprojIdeal.Gen.frame m ρ, outproj_ref_frame,
    fun m ρ _ => Cert.Adaln.Gen.frame m ρ, fun m ρ _ => Cert.AdalnIdeal.Gen.frame m ρ,
    fun m ρ _ => Cert.AdalnIdeal.Gen.frame m ρ, adaln_ref_frame, fun m ρ _ => adaln_ref_frame m ρ trivial,
    fun m ρ _ => Cert.Modulate.Gen.frame m ρ, fun m ρ _ => Cert.ModulateIdeal.Gen.frame m ρ, modulate_ref_frame,
    fun m ρ _ => Cert.Wcast.Gen.frame m ρ, fun m ρ _ => Cert.WcastIdeal.Gen.frame m ρ, wcast_ref_frame,
    fun m ρ _ => Cert.S5prep.Gen.frame m ρ, fun m ρ _ => Cert.S5prepIdeal.Gen.frame m ρ,
    trivial, gla_algebraic, trivial, inproj_algebraic, trivial, glu_algebraic, trivial, outproj_algebraic,
    trivial, adaln_algebraic, trivial, modulate_algebraic, trivial, wcast_algebraic, trivial⟩

end Cert.Proof

end
